-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_placed : Cert.Pre_placed.Facts] (m : (ℓ : Loc Cert.Kernel2.nD Cert.Kernel2.τ Cert.Kernel2.sig) → Buf (Elt Bits) ℓ) : Prop :=
  ∀ c : Dev Cert.Kernel2.nD,
    (Cert.Pre_placed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_placed : Cert.Pre_placed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_placed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_placed [hPre_placed : Cert.Pre_placed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_placed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_placed : Cert.Pre_placed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_placed : Cert.Pre_placed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_placed [hReference2Ideal : Cert.Reference2Ideal.Facts] [hPre_placed : Cert.Pre_placed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_placed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_placed : Cert.Pre_placed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)) (v3 : (c : Dev Cert.Kernel4Ideal.nD) → Buf (Elt Ideal) ((c.tc : Thread Cert.Kernel4Ideal.nD Cert.Kernel4Ideal.τ).loc Cert.Kernel4Ideal.main_v53_3)) (v4 : (c : Dev Cert.Kernel4Ideal.nD) → Buf (Elt Ideal) ((c.tc : Thread Cert.Kernel4Ideal.nD Cert.Kernel4Ideal.τ).loc Cert.Kernel4Ideal.main_v53_4)) (v5 : (c : Dev Cert.Kernel4Ideal.nD) → Buf (Elt Ideal) ((c.tc : Thread Cert.Kernel4Ideal.nD Cert.Kernel4Ideal.τ).loc Cert.Kernel4Ideal.main_v53_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_v53_3) = v3 c
          ∧ r.2.mem ((c.tc : Thread Cert.Kernel4Ideal.nD Cert.Kernel4Ideal.τ).loc Cert.Kernel4Ideal.main_v53_4) = v4 c
          ∧ r.2.mem ((c.tc : Thread Cert.Kernel4Ideal.nD Cert.Kernel4Ideal.τ).loc Cert.Kernel4Ideal.main_v53_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v147) = v0 c
          ∧ r.2.mem ((c.tc : Thread Cert.Reference4Ideal.nD Cert.Reference4Ideal.τ).loc Cert.Reference4Ideal.main_v149) = v1 c
          ∧ r.2.mem ((c.tc : Thread Cert.Reference4Ideal.nD Cert.Reference4Ideal.τ).loc Cert.Reference4Ideal.main_v151) = v2 c
          ∧ r.2.mem ((c.tc : Thread Cert.Reference4Ideal.nD Cert.Reference4Ideal.τ).loc Cert.Reference4Ideal.main_v153) = v3 c
          ∧ r.2.mem ((c.tc : Thread Cert.Reference4Ideal.nD Cert.Reference4Ideal.τ).loc Cert.Reference4Ideal.main_v155) = v4 c
          ∧ r.2.mem ((c.tc : Thread Cert.Reference4Ideal.nD Cert.Reference4Ideal.τ).loc Cert.Reference4Ideal.main_v157) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts) (hPre_placed : Cert.Pre_placed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2) (hPre_placed := hPre_placed)
    ∧ quiescent_Kernel2Ideal (hKernel2Ideal := hKernel2Ideal) (hPre_placed := hPre_placed)
    ∧ quiescent_Reference2Ideal (hReference2Ideal := hReference2Ideal)
    ∧ quiescent_Reference2Ideal_pre_placed (hReference2Ideal := hReference2Ideal) (hPre_placed := hPre_placed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal) (hPre_placed := hPre_placed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_placed.lean ====
abbrev S16384 : Shape := ⟨1, ![16384]⟩
abbrev S24576x2048 : Shape := ⟨2, ![24576, 2048]⟩
abbrev S8192x2048 : Shape := ⟨2, ![8192, 2048]⟩
abbrev S8x8192 : Shape := ⟨2, ![8, 8192]⟩
abbrev S48x1x2048 : Shape := ⟨3, ![48, 1, 2048]⟩
abbrev S2048 : Shape := ⟨1, ![2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S24576x2048 .f32) (main_arg2 : FVec F S8192x2048 .f32) (main_arg3 : FVec F S8x8192 .f32) (main_arg4 : FVec F S48x1x2048 .f32) (main_arg5 : FVec F S2048 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 24576#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_routed.lean ====
abbrev S104 : Shape := ⟨1, ![104]⟩
abbrev S1 : Shape := ⟨1, ![1]⟩
abbrev S26624 : Shape := ⟨1, ![26624]⟩
abbrev S9216x2048 : Shape := ⟨2, ![9216, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S104 : S_.BroadcastsInDim S104 (![] : Fin 0 → Fin S104.rank)
  bcast_S_S26624 : S_.BroadcastsInDim S26624 (![] : Fin 0 → Fin S26624.rank)
  reducesTo_S104_S_d0 : S104.ReducesTo [0] S_
  h_S_ : 0 < S_.numel
  reducesTo_S26624_S_d0 : S26624.ReducesTo [0] S_

variable [Facts]

def fn {F : FTy → Type} [FloatOps F] (main_arg0 : IVec S104 32) (main_arg1 : IVec S1 32) (main_arg2 : IVec S26624 32) (main_arg3 : FVec F S9216x2048 .f32) (main_arg4 : FVec F S32x2048x512 .f32) (main_arg5 : FVec F S32x2048x512 .f32) (main_arg6 : FVec F S32x512x2048 .f32) : IVec S_ 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 32#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 32 := constantI S_ 32 0#32
  let main_v5 : IVec S26624 32 := broadcastInDim S26624 ![] bcast_S_S26624 main_c_1
  let main_v6 : IVec S26624 1 := cmpi .sge main_arg2 main_v5
  let main_c_2 : IVec S_ 32 := constantI S_ 32 9216#32
  let main_v7 : IVec S26624 32 := broadcastInDim S26624 ![] bcast_S_S26624 main_c_2
  let main_v8 : IVec S26624 1 := cmpi .slt main_arg2 main_v7
  let main_v9 : IVec S26624 1 := andi main_v6 main_v8
  let main_c_3 : IVec S_ 1 := constantI S_ 1 1#1
  let main_v10 : IVec S_ 1 := (fun x v => Host.reduce IntOp.andi x v reducesTo_S104_S_d0 h_S_) main_v4 main_c_3
  let main_c_4 : IVec S_ 1 := constantI S_ 1 1#1
  let main_v11 : IVec S_ 1 := (fun x v => Host.reduce IntOp.andi x v reducesTo_S26624_S_d0 h_S_) main_v9 main_c_4
  let main_v12 : IVec S_ 1 := andi main_v10 main_v11
  main_v12
-- ==== Kernel.lean ====
abbrev S104 : Shape := ⟨1, ![104]⟩
abbrev S1 : Shape := ⟨1, ![1]⟩
abbrev S26624 : Shape := ⟨1, ![26624]⟩
abbrev S9216x2048 : Shape := ⟨2, ![9216, 2048]⟩
abbrev S32x2048x512 : Shape := ⟨3, ![32, 2048, 512]⟩
abbrev S32x512x2048 : Shape := ⟨3, ![32, 512, 2048]⟩
abbrev S26624x2048 : Shape := ⟨2, ![26624, 2048]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S512x2048 : Shape := ⟨2, ![512, 2048]⟩
abbrev S_ : Shape := ⟨0, ![]⟩
abbrev S1x2048 : Shape := ⟨2, ![1, 2048]⟩
abbrev S256x512 : Shape := ⟨2, ![256, 512]⟩

abbrev nBuf : Space → Nat
  | .hbm => 5
  | .vmem => 12
  | .smem => 3
  | _ => 0

abbrev bufTy : (tb : Table) → Fin (tcTables nBuf tb) → BufTy
  | .hbm, ⟨0, _⟩ => ⟨S9216x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S26624x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .smem, ⟨0, _⟩ => ⟨S104, .i32⟩
  | .local _ .smem, ⟨1, _⟩ => ⟨S1, .i32⟩
  | .local _ .smem, ⟨2, _⟩ => ⟨S26624, .i32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![104], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_4 : BitVec 32 := 0#32
  let c256_i32 : BitVec 32 := 256#32
  let v17 : BitVec 32 := Scalar.addi c0_i32_4 c256_i32
  let c1_i32_5 : BitVec 32 := 1#32
  ⟨c0_i32_4, v17, c1_i32_5⟩
def k0_off3 (i : grid0.Coords) (k0_t1 : Fin k0_t1_loop.trips) : Fin 1 → Nat :=
  let arg0 : BitVec 32 := BitVec.ofNat 32 (i 0).val
  let c256_i32_24 : BitVec 32 := 256#32
  let v34 : BitVec 32 := Scalar.muli arg0 c256_i32_24
  let c0_i32_4 : BitVec 32 := 0#32
  let c1_i32_5 : BitVec 32 := 1#32
  let arg14 : BitVec 32 := Scf.iv c0_i32_4 c1_i32_5 k0_t1
  let v35 : BitVec 32 := Scalar.addi v34 arg14
  let v36 : Index := Scalar.indexCast v35
  ![v36.toNat]
def k0_off4 (k0_t1 : Fin k0_t1_loop.trips) : Fin 2 → Nat :=
  let c0_i32_4 : BitVec 32 := 0#32
  let c1_i32_5 : BitVec 32 := 1#32
  let arg14 : BitVec 32 := Scf.iv c0_i32_4 c1_i32_5 k0_t1
  let c0_i32_25 : BitVec 32 := 0#32
  ![arg14.toNat, 0]
def k0_off5 (v37 : BitVec 32) : Fin 2 → Nat :=
  let c0_i32_26 : BitVec 32 := 0#32
  ![v37.toNat, 0]
def k0_cond1 (i : grid0.Coords) (v9 : BitVec 32) : BitVec 1 :=
  let arg0 : BitVec 32 := BitVec.ofNat 32 (i 0).val
  let v10 : BitVec 1 := Scalar.cmpi .slt arg0 v9
  let v11 : BitVec 32 := Scalar.extui v10
  let c0_i32_1 : BitVec 32 := 0#32
  let v12 : BitVec 1 := Scalar.cmpi .ne v11 c0_i32_1
  v12

def k0_chk1 (i : grid0.Coords) (v9 : BitVec 32) (v37 : BitVec 32) : Prop :=
  (∀ (k0_h1 : k0_cond1 i v9 = 1#1), ∀ a, (k0_off5 v37) a + S1x2048.size a ≤ S9216x2048.size a)
theorem k0_off5_inb : ∀ (i : grid0.Coords) (v9 : BitVec 32) (v37 : BitVec 32) (k0_hw1 : k0_chk1 i v9 v37), ∀ (k0_h1 : k0_cond1 i v9 = 1#1), ∀ a, (k0_off5 v37) a + S1x2048.size a ≤ S9216x2048.size a := fun i v9 v37 k0_hw1 k0_h1 => k0_hw1 k0_h1

@[reducible] def k0_t2_loop : Scf.Loop 32 :=
  let c0_i32_8 : BitVec 32 := 0#32
  let c256_i32_9 : BitVec 32 := 256#32
  let v20 : BitVec 32 := Scalar.addi c0_i32_8 c256_i32_9
  let c1_i32_10 : BitVec 32 := 1#32
  ⟨c0_i32_8, v20, c1_i32_10⟩
def k0_off6 (k0_t2 : Fin k0_t2_loop.trips) : Fin 2 → Nat :=
  let c0_i32_8 : BitVec 32 := 0#32
  let c1_i32_10 : BitVec 32 := 1#32
  let arg14 : BitVec 32 := Scf.iv c0_i32_8 c1_i32_10 k0_t2
  let c0_i32_24 : BitVec 32 := 0#32
  ![arg14.toNat, 0]
def k0_cond3 (i : grid0.Coords) (v13 : BitVec 32) : BitVec 1 :=
  let arg0 : BitVec 32 := BitVec.ofNat 32 (i 0).val
  let v14 : BitVec 1 := Scalar.cmpi .sge arg0 v13
  let v15 : BitVec 32 := Scalar.extui v14
  let c0_i32_3 : BitVec 32 := 0#32
  let v16 : BitVec 1 := Scalar.cmpi .ne v15 c0_i32_3
  v16

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S104 : Shape := ⟨1, ![104]⟩
abbrev S1 : Shape := ⟨1, ![1]⟩
abbrev S26624 : Shape := ⟨1, ![26624]⟩
abbrev S9216x2048 : Shape := ⟨2, ![9216, 2048]⟩
abbrev S32x2048x512 : Shape := ⟨3, ![32, 2048, 512]⟩
abbrev S32x512x2048 : Shape := ⟨3, ![32, 512, 2048]⟩
abbrev S_ : Shape := ⟨0, ![]⟩
abbrev S26624x1 : Shape := ⟨2, ![26624, 1]⟩
abbrev S26624x2048 : Shape := ⟨2, ![26624, 2048]⟩
abbrev S104x256x2048 : Shape := ⟨3, ![104, 256, 2048]⟩
abbrev S104x1 : Shape := ⟨2, ![104, 1]⟩
abbrev S104x2048x512 : Shape := ⟨3, ![104, 2048, 512]⟩
abbrev S104x256x512 : Shape := ⟨3, ![104, 256, 512]⟩
abbrev S104x512x2048 : Shape := ⟨3, ![104, 512, 2048]⟩
abbrev S104x1x1 : Shape := ⟨3, ![104, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S104, .i32⟩
  | .hbm, ⟨1, _⟩ => ⟨S1, .i32⟩
  | .hbm, ⟨2, _⟩ => ⟨S26624, .i32⟩
  | .hbm, ⟨3, _⟩ => ⟨S9216x2048, .f32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S_, .i32⟩
  | .hbm, ⟨8, _⟩ => ⟨S26624, .i32⟩
  | .hbm, ⟨9, _⟩ => ⟨S26624, .i1⟩
  | .hbm, ⟨10, _⟩ => ⟨S_, .i32⟩
  | .hbm, ⟨11, _⟩ => ⟨S26624, .i32⟩
  | .hbm, ⟨12, _⟩ => ⟨S26624, .i32⟩
  | .hbm, ⟨13, _⟩ => ⟨S26624, .i32⟩
  | .hbm, ⟨14, _⟩ => ⟨S26624x1, .i32⟩
  | .hbm, ⟨15, _⟩ => ⟨S26624x2048, .f32⟩
  | .hbm, ⟨16, _⟩ => ⟨S104x256x2048, .f32⟩
  | .hbm, ⟨17, _⟩ => ⟨S_, .i32⟩
  | .hbm, ⟨18, _⟩ => ⟨S104, .i32⟩
  | .hbm, ⟨19, _⟩ => ⟨S104, .i1⟩
  | .hbm, ⟨20, _⟩ => ⟨S_, .i32⟩
  | .hbm, ⟨21, _⟩ => ⟨S104, .i32⟩
  | .hbm, ⟨22, _⟩ => ⟨S104, .i32⟩
  | .hbm, ⟨23, _⟩ => ⟨S104, .i32⟩
  | .hbm, ⟨24, _⟩ => ⟨S104x1, .i32⟩
  | .hbm, ⟨25, _⟩ => ⟨S104x2048x512, .f32⟩
  | .hbm, ⟨26, _⟩ => ⟨S104x256x512, .f32⟩
  | .hbm, ⟨27, _⟩ => ⟨S_, .i32⟩
  | .hbm, ⟨28, _⟩ => ⟨S104, .i32⟩
  | .hbm, ⟨29, _⟩ => ⟨S104, .i1⟩
  | .hbm, ⟨30, _⟩ => ⟨S_, .i32⟩
  | .hbm, ⟨31, _⟩ => ⟨S104, .i32⟩
  | .hbm, ⟨32, _⟩ => ⟨S104, .i32⟩
  | .hbm, ⟨33, _⟩ => ⟨S104, .i32⟩
  | .hbm, ⟨34, _⟩ => ⟨S104x1, .i32⟩
  | .hbm, ⟨35, _⟩ => ⟨S104x2048x512, .f32⟩
  | .hbm, ⟨36, _⟩ => ⟨S104x256x512, .f32⟩
  | .hbm, ⟨37, _⟩ => ⟨S104x256x512, .f32⟩
  | .hbm, ⟨38, _⟩ => ⟨S104x256x512, .f32⟩
  | .hbm, ⟨39, _⟩ => ⟨S_, .f32⟩
  | .hbm, ⟨40, _⟩ => ⟨S104x256x512, .f32⟩
  | .hbm, ⟨41, _⟩ => ⟨S104x256x512, .f32⟩
  | .hbm, ⟨42, _⟩ => ⟨S_, .f32⟩
  | .hbm, ⟨43, _⟩ => ⟨S104x256x512, .f32⟩
  | .hbm, ⟨44, _⟩ => ⟨S104x256x512, .f32⟩
  | .hbm, ⟨45, _⟩ => ⟨S104x256x512, .f32⟩
  | .hbm, ⟨46, _⟩ => ⟨S104x256x512, .f32⟩
  | .hbm, ⟨47, _⟩ => ⟨S_, .i32⟩
  | .hbm, ⟨48, _⟩ => ⟨S104, .i32⟩
  | .hbm, ⟨49, _⟩ => ⟨S104, .i1⟩
  | .hbm, ⟨50, _⟩ => ⟨S_, .i32⟩
  | .hbm, ⟨51, _⟩ => ⟨S104, .i32⟩
  | .hbm, ⟨52, _⟩ => ⟨S104, .i32⟩
  | .hbm, ⟨53, _⟩ => ⟨S104, .i32⟩
  | .hbm, ⟨54, _⟩ => ⟨S104x1, .i32⟩
  | .hbm, ⟨55, _⟩ => ⟨S104x512x2048, .f32⟩
  | .hbm, ⟨56, _⟩ => ⟨S104x256x2048, .f32⟩
  | .hbm, ⟨57, _⟩ => ⟨S104, .i32⟩
  | .hbm, ⟨58, _⟩ => ⟨S_, .i32⟩
  | .hbm, ⟨59, _⟩ => ⟨S104, .i32⟩
  | .hbm, ⟨60, _⟩ => ⟨S104, .i1⟩
  | .hbm, ⟨61, _⟩ => ⟨S104x1x1, .i1⟩
  | .hbm, ⟨62, _⟩ => ⟨S_, .f32⟩
  | .hbm, ⟨63, _⟩ => ⟨S_, .f32⟩
  | .hbm, ⟨64, _⟩ => ⟨S104x256x2048, .i1⟩
  | .hbm, ⟨65, _⟩ => ⟨S104x256x2048, .f32⟩
  | .hbm, ⟨66, _⟩ => ⟨S104x256x2048, .f32⟩
  | .hbm, ⟨67, _⟩ => ⟨S26624x2048, .f32⟩
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel2.lean ====
abbrev S16384 : Shape := ⟨1, ![16384]⟩
abbrev S24576x2048 : Shape := ⟨2, ![24576, 2048]⟩
abbrev S8192x2048 : Shape := ⟨2, ![8192, 2048]⟩
abbrev S8x8192 : Shape := ⟨2, ![8, 8192]⟩
abbrev S48x1x2048 : Shape := ⟨3, ![48, 1, 2048]⟩
abbrev S2048 : Shape := ⟨1, ![2048]⟩
abbrev S8192x8 : Shape := ⟨2, ![8192, 8]⟩
abbrev S1x2048 : Shape := ⟨2, ![1, 2048]⟩
abbrev S256x2048 : Shape := ⟨2, ![256, 2048]⟩
abbrev S256x8 : Shape := ⟨2, ![256, 8]⟩
abbrev S1x1x2048 : Shape := ⟨3, ![1, 1, 2048]⟩
abbrev S2x256x2048 : Shape := ⟨3, ![2, 256, 2048]⟩
abbrev S_ : Shape := ⟨0, ![]⟩
abbrev S1 : Shape := ⟨1, ![1]⟩
abbrev S256x1 : Shape := ⟨2, ![256, 1]⟩
abbrev S1x256x2048 : Shape := ⟨3, ![1, 256, 2048]⟩
abbrev S256 : Shape := ⟨1, ![256]⟩

abbrev nBuf : Space → Nat
  | .hbm => 8
  | .vmem => 10
  | .smem => 1
  | _ => 0

abbrev bufTy : (tb : Table) → Fin (tcTables nBuf tb) → BufTy
  | .hbm, ⟨0, _⟩ => ⟨S24576x2048, .f32⟩
  | .hbm, ⟨1, _⟩ => ⟨S8192x2048, .f32⟩
  | .hbm, ⟨2, _⟩ => ⟨S8x8192, .f32⟩
  | .hbm, ⟨3, _⟩ => ⟨S48x1x2048, .f32⟩
  | .hbm, ⟨4, _⟩ => ⟨S2048, .f32⟩
  | .hbm, ⟨5, _⟩ => ⟨S8192x8, .f32⟩
  | .hbm, ⟨6, _⟩ => ⟨S1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x8, .f32⟩
  | .local _ .vmem, ⟨3, _⟩ => ⟨S256x8, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S2x256x2048, .f32⟩
  | .local _ .smem, ⟨0, _⟩ => ⟨S16384, .i32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let c0_i32_23 : BitVec 32 := 0#32
  let arg0 : BitVec 32 := BitVec.ofNat 32 (i 0).val
  let c256_i32_22 : BitVec 32 := 256#32
  let v36 : BitVec 32 := Scalar.muli arg0 c256_i32_22
  let v37 : BitVec 32 := Scalar.addi c0_i32_23 v36
  let c0_i32 : BitVec 32 := 0#32
  let c1_i32 : BitVec 32 := 1#32
  let arg10 : BitVec 32 := Scf.iv c0_i32 c1_i32 k0_t1
  let v38 : BitVec 32 := Scalar.addi v37 arg10
  let v39 : Index := Scalar.indexCast v38
  ![v39.toNat]
def k0_off2 (k0_t1 : Fin k0_t1_loop.trips) : Fin 3 → Nat :=
  let c0_i32_24 : BitVec 32 := 0#32
  let c0_i32 : BitVec 32 := 0#32
  let c1_i32 : BitVec 32 := 1#32
  let arg10 : BitVec 32 := Scf.iv c0_i32 c1_i32 k0_t1
  let c0_i32_25 : BitVec 32 := 0#32
  ![0, arg10.toNat, 0]
def k0_off3 (v40 : BitVec 32) : Fin 2 → Nat :=
  let c0_i32_26 : BitVec 32 := 0#32
  ![v40.toNat, 0]

def k0_chk1 (v40 : BitVec 32) : Prop :=
  (∀ a, (k0_off3 v40) a + S1x2048.size a ≤ S24576x2048.size a)
theorem k0_off3_inb : ∀ (v40 : BitVec 32) (k0_hw1 : k0_chk1 v40), ∀ a, (k0_off3 v40) a + S1x2048.size a ≤ S24576x2048.size a := fun v40 k0_hw1 => k0_hw1

def k0_off4 (i : grid0.Coords) (k0_t1 : Fin k0_t1_loop.trips) : Fin 1 → Nat :=
  let c8192_i32 : BitVec 32 := 8192#32
  let arg0 : BitVec 32 := BitVec.ofNat 32 (i 0).val
  let c256_i32_27 : BitVec 32 := 256#32
  let v44 : BitVec 32 := Scalar.muli arg0 c256_i32_27
  let v45 : BitVec 32 := Scalar.addi c8192_i32 v44
  let c0_i32 : BitVec 32 := 0#32
  let c1_i32 : BitVec 32 := 1#32
  let arg10 : BitVec 32 := Scf.iv c0_i32 c1_i32 k0_t1
  let v46 : BitVec 32 := Scalar.addi v45 arg10
  let v47 : Index := Scalar.indexCast v46
  ![v47.toNat]
def k0_off5 (k0_t1 : Fin k0_t1_loop.trips) : Fin 3 → Nat :=
  let c1_i32_28 : BitVec 32 := 1#32
  let c0_i32 : BitVec 32 := 0#32
  let c1_i32 : BitVec 32 := 1#32
  let arg10 : BitVec 32 := Scf.iv c0_i32 c1_i32 k0_t1
  let c0_i32_29 : BitVec 32 := 0#32
  ![1, arg10.toNat, 0]
def k0_off6 (v48 : BitVec 32) : Fin 2 → Nat :=
  let c0_i32_30 : BitVec 32 := 0#32
  ![v48.toNat, 0]

def k0_chk2 (v48 : BitVec 32) : Prop :=
  (∀ a, (k0_off6 v48) a + S1x2048.size a ≤ S24576x2048.size a)
theorem k0_off6_inb : ∀ (v48 : BitVec 32) (k0_hw2 : k0_chk2 v48), ∀ a, (k0_off6 v48) a + S1x2048.size a ≤ S24576x2048.size a := fun v48 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_i32_22 : BitVec 32 := 0#32
  let c0_i32_1 : BitVec 32 := 0#32
  let c1_i32_3 : BitVec 32 := 1#32
  let arg10 : BitVec 32 := Scf.iv c0_i32_1 c1_i32_3 k0_t2
  let c0_i32_23 : BitVec 32 := 0#32
  ![0, arg10.toNat, 0]
def k0_off8 (k0_t2 : Fin k0_t2_loop.trips) : Fin 3 → Nat :=
  let c1_i32_26 : BitVec 32 := 1#32
  let c0_i32_1 : BitVec 32 := 0#32
  let c1_i32_3 : BitVec 32 := 1#32
  let arg10 : BitVec 32 := Scf.iv c0_i32_1 c1_i32_3 k0_t2
  let c0_i32_27 : BitVec 32 := 0#32
  ![1, arg10.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384 : Shape := ⟨1, ![16384]⟩
abbrev S24576x2048 : Shape := ⟨2, ![24576, 2048]⟩
abbrev S8192x2048 : Shape := ⟨2, ![8192, 2048]⟩
abbrev S8x8192 : Shape := ⟨2, ![8, 8192]⟩
abbrev S48x1x2048 : Shape := ⟨3, ![48, 1, 2048]⟩
abbrev S2048 : Shape := ⟨1, ![2048]⟩
abbrev S2x8192 : Shape := ⟨2, ![2, 8192]⟩
abbrev S_ : Shape := ⟨0, ![]⟩
abbrev S2x8192x1 : Shape := ⟨3, ![2, 8192, 1]⟩
abbrev S2x8192x2048 : Shape := ⟨3, ![2, 8192, 2048]⟩
abbrev S8x6x2048 : Shape := ⟨3, ![8, 6, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384, .i32⟩
  | .hbm, ⟨1, _⟩ => ⟨S24576x2048, .f32⟩
  | .hbm, ⟨2, _⟩ => ⟨S8192x2048, .f32⟩
  | .hbm, ⟨3, _⟩ => ⟨S8x8192, .f32⟩
  | .hbm, ⟨4, _⟩ => ⟨S48x1x2048, .f32⟩
  | .hbm, ⟨5, _⟩ => ⟨S2048, .f32⟩
  | .hbm, ⟨6, _⟩ => ⟨S2x8192, .i32⟩
  | .hbm, ⟨7, _⟩ => ⟨S_, .i32⟩
  | .hbm, ⟨8, _⟩ => ⟨S2x8192, .i32⟩
  | .hbm, ⟨9, _⟩ => ⟨S2x8192, .i1⟩
  | .hbm, ⟨10, _⟩ => ⟨S_, .i32⟩
  | .hbm, ⟨11, _⟩ => ⟨S2x8192, .i32⟩
  | .hbm, ⟨12, _⟩ => ⟨S2x8192, .i32⟩
  | .hbm, ⟨13, _⟩ => ⟨S2x8192, .i32⟩
  | .hbm, ⟨14, _⟩ => ⟨S2x8192x1, .i32⟩
  | .hbm, ⟨15, _⟩ => ⟨S2x8192x2048, .f32⟩
  | .hbm, ⟨16, _⟩ => ⟨S2x8192, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S8192x2048, .f32⟩
  | .hbm, ⟨22, _⟩ => ⟨S8x6x2048, .f32⟩
  | .hbm, ⟨23, _⟩ => ⟨S4x1x2048, .f32⟩
  | .hbm, ⟨24, _⟩ => ⟨S4x2048, .f32⟩
  | .hbm, ⟨25, _⟩ => ⟨S4x2048x2048, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x256x2048 : Shape := ⟨3, ![4, 256, 2048]⟩
abbrev S2048 : Shape := ⟨1, ![2048]⟩
abbrev S48x1x2048 : Shape := ⟨3, ![48, 1, 2048]⟩
abbrev S2048x2880 : Shape := ⟨2, ![2048, 2880]⟩
abbrev S4x2304x2048 : Shape := ⟨3, ![4, 2304, 2048]⟩
abbrev S9216x2048 : Shape := ⟨2, ![9216, 2048]⟩
abbrev S2048x832 : Shape := ⟨2, ![2048, 832]⟩
abbrev S_ : Shape := ⟨0, ![]⟩
abbrev S2048x64 : Shape := ⟨2, ![2048, 64]⟩
abbrev S2048x2048 : Shape := ⟨2, ![2048, 2048]⟩
abbrev S2048x2944 : Shape := ⟨2, ![2048, 2944]⟩
abbrev S1x2048 : Shape := ⟨2, ![1, 2048]⟩
abbrev S9216x896 : Shape := ⟨2, ![9216, 896]⟩
abbrev S9216x1024 : Shape := ⟨2, ![9216, 1024]⟩
abbrev S256x2048 : Shape := ⟨2, ![256, 2048]⟩
abbrev S1x1x2048 : Shape := ⟨3, ![1, 1, 2048]⟩
abbrev S256x896 : Shape := ⟨2, ![256, 896]⟩
abbrev S256x1024 : Shape := ⟨2, ![256, 1024]⟩
abbrev S256 : Shape := ⟨1, ![256]⟩
abbrev S256x1 : Shape := ⟨2, ![256, 1]⟩
abbrev S256x2944 : Shape := ⟨2, ![256, 2944]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x256x2048, .f32⟩
  | .hbm, ⟨2, _⟩ => ⟨S2048, .f32⟩
  | .hbm, ⟨3, _⟩ => ⟨S48x1x2048, .f32⟩
  | .hbm, ⟨4, _⟩ => ⟨S2048x2880, .f32⟩
  | .hbm, ⟨5, _⟩ => ⟨S4x2304x2048, .f32⟩
  | .hbm, ⟨6, _⟩ => ⟨S9216x2048, .f32⟩
  | .hbm, ⟨7, _⟩ => ⟨S2048x832, .f32⟩
  | .hbm, ⟨8, _⟩ => ⟨S_, .f32⟩
  | .hbm, ⟨9, _⟩ => ⟨S2048x64, .f32⟩
  | .hbm, ⟨10, _⟩ => ⟨S2048x2048, .f32⟩
  | .hbm, ⟨11, _⟩ => ⟨S2048x2944, .f32⟩
  | .hbm, ⟨12, _⟩ => ⟨S2048x2944, .bf16⟩
  | .hbm, ⟨13, _⟩ => ⟨S1x2048, .f32⟩
  | .hbm, ⟨14, _⟩ => ⟨S9216x896, .f32⟩
  | .hbm, ⟨15, _⟩ => ⟨S9216x1024, .f32⟩
  | .hbm, ⟨16, _⟩ => ⟨S9216x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2944, .bf16⟩
  | .local _ .vmem, ⟨8, _⟩ => ⟨S256x896, .f32⟩
  | .local _ .vmem, ⟨9, _⟩ => ⟨S256x896, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let v28 : BitVec 32 := Scalar.select v27 c4_i32 v16
  let c6_i32 : BitVec 32 := 6#32
  let v29 : BitVec 32 := Scalar.muli v28 c6_i32
  let c0_i32_11 : BitVec 32 := 0#32
  let v30 : BitVec 32 := Scalar.addi v29 c0_i32_11
  let c0_i32_12 : BitVec 32 := 0#32
  let c0_i32_13 : BitVec 32 := 0#32
  let c0_i32_14 : BitVec 32 := 0#32
  ![v30.toNat, c0_i32_12.toNat, c0_i32_13.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let v28 : BitVec 32 := Scalar.select v27 c4_i32 v16
  let c6_i32 : BitVec 32 := 6#32
  let v29 : BitVec 32 := Scalar.muli v28 c6_i32
  let c1_i32_11 : BitVec 32 := 1#32
  let v30 : BitVec 32 := Scalar.addi v29 c1_i32_11
  let c0_i32_12 : BitVec 32 := 0#32
  let c0_i32_13 : BitVec 32 := 0#32
  let c0_i32_14 : BitVec 32 := 0#32
  ![v30.toNat, c0_i32_12.toNat, c0_i32_13.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x2048x2048 : Shape := ⟨3, ![4, 2048, 2048]⟩
abbrev S4x256x2048 : Shape := ⟨3, ![4, 256, 2048]⟩
abbrev S2048 : Shape := ⟨1, ![2048]⟩
abbrev S48x1x2048 : Shape := ⟨3, ![48, 1, 2048]⟩
abbrev S2048x2880 : Shape := ⟨2, ![2048, 2880]⟩
abbrev S8x6x2048 : Shape := ⟨3, ![8, 6, 2048]⟩
abbrev S2304 : Shape := ⟨1, ![2304]⟩
abbrev S_ : Shape := ⟨0, ![]⟩
abbrev S1x2304x1 : Shape := ⟨3, ![1, 2304, 1]⟩
abbrev S4x1x2048 : Shape := ⟨3, ![4, 1, 2048]⟩
abbrev S4x2048 : Shape := ⟨2, ![4, 2048]⟩
abbrev S1x1x2048 : Shape := ⟨3, ![1, 1, 2048]⟩
abbrev S4x2304x2048 : Shape := ⟨3, ![4, 2304, 2048]⟩
abbrev S4x2304 : Shape := ⟨2, ![4, 2304]⟩
abbrev S4x2304x1 : Shape := ⟨3, ![4, 2304, 1]⟩
abbrev S4x2304x2880 : Shape := ⟨3, ![4, 2304, 2880]⟩
abbrev S9216x2880 : Shape := ⟨2, ![9216, 2880]⟩
abbrev S9216x832 : Shape := ⟨2, ![9216, 832]⟩
abbrev S9216x1024 : Shape := ⟨2, ![9216, 1024]⟩
abbrev S9216x896 : Shape := ⟨2, ![9216, 896]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x2048, .f32⟩
  | .hbm, ⟨2, _⟩ => ⟨S2048, .f32⟩
  | .hbm, ⟨3, _⟩ => ⟨S48x1x2048, .f32⟩
  | .hbm, ⟨4, _⟩ => ⟨S2048x2880, .f32⟩
  | .hbm, ⟨5, _⟩ => ⟨S8x6x2048, .f32⟩
  | .hbm, ⟨6, _⟩ => ⟨S2304, .i32⟩
  | .hbm, ⟨7, _⟩ => ⟨S_, .i32⟩
  | .hbm, ⟨8, _⟩ => ⟨S2304, .i32⟩
  | .hbm, ⟨9, _⟩ => ⟨S2304, .i1⟩
  | .hbm, ⟨10, _⟩ => ⟨S1x2304x1, .i1⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S1x1x2048, .f32⟩
  | .hbm, ⟨15, _⟩ => ⟨S2048, .f32⟩
  | .hbm, ⟨16, _⟩ => ⟨S1x1x2048, .f32⟩
  | .hbm, ⟨17, _⟩ => ⟨S4x2304x2048, .i1⟩
  | .hbm, ⟨18, _⟩ => ⟨S4x2304x2048, .f32⟩
  | .hbm, ⟨19, _⟩ => ⟨S4x2304x2048, .f32⟩
  | .hbm, ⟨20, _⟩ => ⟨S4x2304x2048, .f32⟩
  | .hbm, ⟨21, _⟩ => ⟨S4x1x2048, .f32⟩
  | .hbm, ⟨22, _⟩ => ⟨S4x2048, .f32⟩
  | .hbm, ⟨23, _⟩ => ⟨S4x1x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S4x2304x2048, .i1⟩
  | .hbm, ⟨28, _⟩ => ⟨S4x2304x2048, .f32⟩
  | .hbm, ⟨29, _⟩ => ⟨S4x2304x2048, .f32⟩
  | .hbm, ⟨30, _⟩ => ⟨S4x2304x2048, .f32⟩
  | .hbm, ⟨31, _⟩ => ⟨S4x2304x2048, .f32⟩
  | .hbm, ⟨32, _⟩ => ⟨S4x2304x2048, .f32⟩
  | .hbm, ⟨33, _⟩ => ⟨S_, .f32⟩
  | .hbm, ⟨34, _⟩ => ⟨S4x2304, .f32⟩
  | .hbm, ⟨35, _⟩ => ⟨S4x2304x1, .f32⟩
  | .hbm, ⟨36, _⟩ => ⟨S_, .f32⟩
  | .hbm, ⟨37, _⟩ => ⟨S4x2304x1, .f32⟩
  | .hbm, ⟨38, _⟩ => ⟨S4x2304x1, .f32⟩
  | .hbm, ⟨39, _⟩ => ⟨S_, .f32⟩
  | .hbm, ⟨40, _⟩ => ⟨S4x2304x1, .f32⟩
  | .hbm, ⟨41, _⟩ => ⟨S4x2304x1, .f32⟩
  | .hbm, ⟨42, _⟩ => ⟨S4x2304x1, .f32⟩
  | .hbm, ⟨43, _⟩ => ⟨S4x2304x2048, .f32⟩
  | .hbm, ⟨44, _⟩ => ⟨S4x2304x2048, .f32⟩
  | .hbm, ⟨45, _⟩ => ⟨S1x1x2048, .f32⟩
  | .hbm, ⟨46, _⟩ => ⟨S4x2304x2048, .f32⟩
  | .hbm, ⟨47, _⟩ => ⟨S4x2304x2048, .f32⟩
  | .hbm, ⟨48, _⟩ => ⟨S_, .f32⟩
  | .hbm, ⟨49, _⟩ => ⟨S4x2304x2048, .f32⟩
  | .hbm, ⟨50, _⟩ => ⟨S4x2304x2048, .f32⟩
  | .hbm, ⟨51, _⟩ => ⟨S4x2304x2048, .f32⟩
  | .hbm, ⟨52, _⟩ => ⟨S4x2304x2048, .f32⟩
  | .hbm, ⟨53, _⟩ => ⟨S4x2304x2880, .f32⟩
  | .hbm, ⟨54, _⟩ => ⟨S9216x2880, .f32⟩
  | .hbm, ⟨55, _⟩ => ⟨S9216x832, .f32⟩
  | .hbm, ⟨56, _⟩ => ⟨S9216x1024, .f32⟩
  | .hbm, ⟨57, _⟩ => ⟨S9216x1024, .f32⟩
  | .hbm, ⟨58, _⟩ => ⟨S_, .i32⟩
  | .hbm, ⟨59, _⟩ => ⟨S_, .f32⟩
  | .hbm, ⟨60, _⟩ => ⟨S9216x896, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_3 : Ref sig .tc := ⟨.hbm, 58, rfl⟩
abbrev main_call2_v0 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel4.lean ====
abbrev S9216x2048 : Shape := ⟨2, ![9216, 2048]⟩
abbrev S2048 : Shape := ⟨1, ![2048]⟩
abbrev S48x1x2048 : Shape := ⟨3, ![48, 1, 2048]⟩
abbrev S2048x4608 : Shape := ⟨2, ![2048, 4608]⟩
abbrev S_ : Shape := ⟨0, ![]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x1x32 : Shape := ⟨3, ![2048, 1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S1x2048 : Shape := ⟨2, ![1, 2048]⟩
abbrev S9216x1024 : Shape := ⟨2, ![9216, 1024]⟩
abbrev S9216x256 : Shape := ⟨2, ![9216, 256]⟩
abbrev S256x2048 : Shape := ⟨2, ![256, 2048]⟩
abbrev S1x1x2048 : Shape := ⟨3, ![1, 1, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x4608 : Shape := ⟨2, ![256, 4608]⟩

abbrev nBuf : Space → Nat
  | .hbm => 113
  | .vmem => 24
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S48x1x2048, .f32⟩
  | .hbm, ⟨3, _⟩ => ⟨S2048x4608, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x1, .i32⟩
  | .hbm, ⟨47, _⟩ => ⟨S2048x2, .i32⟩
  | .hbm, ⟨48, _⟩ => ⟨S2048x2, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S2048x2x1, .f32⟩
  | .hbm, ⟨64, _⟩ => ⟨S1x1x32, .f32⟩
  | .hbm, ⟨65, _⟩ => ⟨S2048x2x32, .f32⟩
  | .hbm, ⟨66, _⟩ => ⟨S2048x2x32, .f32⟩
  | .hbm, ⟨67, _⟩ => ⟨S2048x2x32, .f32⟩
  | .hbm, ⟨68, _⟩ => ⟨S2048x2x32, .f32⟩
  | .hbm, ⟨69, _⟩ => ⟨S2048x2x32, .f32⟩
  | .hbm, ⟨70, _⟩ => ⟨S2048x1x32, .f32⟩
  | .hbm, ⟨71, _⟩ => ⟨S2048x32, .f32⟩
  | .hbm, ⟨72, _⟩ => ⟨S2048x1x32, .f32⟩
  | .hbm, ⟨73, _⟩ => ⟨S2048x32, .f32⟩
  | .hbm, ⟨74, _⟩ => ⟨S2048x1x32, .f32⟩
  | .hbm, ⟨75, _⟩ => ⟨S2048x32, .f32⟩
  | .hbm, ⟨76, _⟩ => ⟨S2048x1x32, .f32⟩
  | .hbm, ⟨77, _⟩ => ⟨S2048x32, .f32⟩
  | .hbm, ⟨78, _⟩ => ⟨S2048x128, .f32⟩
  | .hbm, ⟨79, _⟩ => ⟨S2048x1x32, .f32⟩
  | .hbm, ⟨80, _⟩ => ⟨S2048x32, .f32⟩
  | .hbm, ⟨81, _⟩ => ⟨S2048x32, .f32⟩
  | .hbm, ⟨82, _⟩ => ⟨S2048x1x32, .f32⟩
  | .hbm, ⟨83, _⟩ => ⟨S2048x32, .f32⟩
  | .hbm, ⟨84, _⟩ => ⟨S2048x1x32, .f32⟩
  | .hbm, ⟨85, _⟩ => ⟨S2048x32, .f32⟩
  | .hbm, ⟨86, _⟩ => ⟨S2048x32, .f32⟩
  | .hbm, ⟨87, _⟩ => ⟨S2048x1x32, .f32⟩
  | .hbm, ⟨88, _⟩ => ⟨S2048x32, .f32⟩
  | .hbm, ⟨89, _⟩ => ⟨S2048x128, .f32⟩
  | .hbm, ⟨90, _⟩ => ⟨S_, .i32⟩
  | .hbm, ⟨91, _⟩ => ⟨S_, .f32⟩
  | .hbm, ⟨92, _⟩ => ⟨S2048x128, .f32⟩
  | .hbm, ⟨93, _⟩ => ⟨S_, .i32⟩
  | .hbm, ⟨94, _⟩ => ⟨S_, .f32⟩
  | .hbm, ⟨95, _⟩ => ⟨S2048x128, .f32⟩
  | .hbm, ⟨96, _⟩ => ⟨S_, .f32⟩
  | .hbm, ⟨97, _⟩ => ⟨S256x128, .f32⟩
  | .hbm, ⟨98, _⟩ => ⟨S_, .i32⟩
  | .hbm, ⟨99, _⟩ => ⟨S_, .f32⟩
  | .hbm, ⟨100, _⟩ => ⟨S256x128, .f32⟩
  | .hbm, ⟨101, _⟩ => ⟨S2304x128, .f32⟩
  | .hbm, ⟨102, _⟩ => ⟨S_, .f32⟩
  | .hbm, ⟨103, _⟩ => ⟨S256x128, .f32⟩
  | .hbm, ⟨104, _⟩ => ⟨S2304x128, .f32⟩
  | .hbm, ⟨105, _⟩ => ⟨S1x2048, .f32⟩
  | .hbm, ⟨106, _⟩ => ⟨S2048x4608, .bf16⟩
  | .hbm, ⟨107, _⟩ => ⟨S9216x1024, .bf16⟩
  | .hbm, ⟨108, _⟩ => ⟨S9216x256, .bf16⟩
  | .hbm, ⟨109, _⟩ => ⟨S9216x256, .bf16⟩
  | .hbm, ⟨110, _⟩ => ⟨S9216x1024, .bf16⟩
  | .hbm, ⟨111, _⟩ => ⟨S9216x1024, .bf16⟩
  | .hbm, ⟨112, _⟩ => ⟨S9216x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x4608, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_cst_3 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_4 : Ref sig .tc := ⟨.hbm, 90, rfl⟩
abbrev main_call2_v0 : Ref sig .tc := ⟨.hbm, 91, rfl⟩
abbrev main_v44 : Ref sig .tc := ⟨.hbm, 92, rfl⟩
abbrev main_c_5 : Ref sig .tc := ⟨.hbm, 93, rfl⟩
abbrev main_call3_v0 : Ref sig .tc := ⟨.hbm, 94, rfl⟩
abbrev main_v45 : Ref sig .tc := ⟨.hbm, 95, rfl⟩
abbrev main_cst_6 : Ref sig .tc := ⟨.hbm, 96, rfl⟩
abbrev main_v46 : Ref sig .tc := ⟨.hbm, 97, rfl⟩
abbrev main_c_7 : Ref sig .tc := ⟨.hbm, 98, rfl⟩
abbrev main_call4_v0 : Ref sig .tc := ⟨.hbm, 99, rfl⟩
abbrev main_v47 : Ref sig .tc := ⟨.hbm, 100, rfl⟩
abbrev main_v48 : Ref sig .tc := ⟨.hbm, 101, rfl⟩
abbrev main_cst_8 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53_0 : Ref sig .tc := ⟨.hbm, 107, rfl⟩
abbrev main_v53_1 : Ref sig .tc := ⟨.hbm, 108, rfl⟩
abbrev main_v53_2 : Ref sig .tc := ⟨.hbm, 109, rfl⟩
abbrev main_v53_3 : Ref sig .tc := ⟨.hbm, 110, rfl⟩
abbrev main_v53_4 : Ref sig .tc := ⟨.hbm, 111, rfl⟩
abbrev main_v53_5 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let v28 : BitVec 32 := Scalar.select v27 c4_i32 v16
  let c6_i32 : BitVec 32 := 6#32
  let v29 : BitVec 32 := Scalar.muli v28 c6_i32
  let c0_i32_11 : BitVec 32 := 0#32
  let v30 : BitVec 32 := Scalar.addi v29 c0_i32_11
  let c0_i32_12 : BitVec 32 := 0#32
  let c0_i32_13 : BitVec 32 := 0#32
  let c0_i32_14 : BitVec 32 := 0#32
  ![v30.toNat, c0_i32_12.toNat, c0_i32_13.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let v28 : BitVec 32 := Scalar.select v27 c4_i32 v16
  let c6_i32 : BitVec 32 := 6#32
  let v29 : BitVec 32 := Scalar.muli v28 c6_i32
  let c1_i32_11 : BitVec 32 := 1#32
  let v30 : BitVec 32 := Scalar.addi v29 c1_i32_11
  let c0_i32_12 : BitVec 32 := 0#32
  let c0_i32_13 : BitVec 32 := 0#32
  let c0_i32_14 : BitVec 32 := 0#32
  ![v30.toNat, c0_i32_12.toNat, c0_i32_13.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S9216x2048 : Shape := ⟨2, ![9216, 2048]⟩
abbrev S2048 : Shape := ⟨1, ![2048]⟩
abbrev S48x1x2048 : Shape := ⟨3, ![48, 1, 2048]⟩
abbrev S2048x4608 : Shape := ⟨2, ![2048, 4608]⟩
abbrev S8x6x2048 : Shape := ⟨3, ![8, 6, 2048]⟩
abbrev S2304 : Shape := ⟨1, ![2304]⟩
abbrev S_ : Shape := ⟨0, ![]⟩
abbrev S1x2304x1 : Shape := ⟨3, ![1, 2304, 1]⟩
abbrev S4x1x2048 : Shape := ⟨3, ![4, 1, 2048]⟩
abbrev S4x2048 : Shape := ⟨2, ![4, 2048]⟩
abbrev S1x1x2048 : Shape := ⟨3, ![1, 1, 2048]⟩
abbrev S4x2304x2048 : Shape := ⟨3, ![4, 2304, 2048]⟩
abbrev S4x2304 : Shape := ⟨2, ![4, 2304]⟩
abbrev S4x2304x1 : Shape := ⟨3, ![4, 2304, 1]⟩
abbrev S4x2304x4608 : Shape := ⟨3, ![4, 2304, 4608]⟩
abbrev S4x2304x1024 : Shape := ⟨3, ![4, 2304, 1024]⟩
abbrev S4x2304x256 : Shape := ⟨3, ![4, 2304, 256]⟩
abbrev S4x2304x8x128 : Shape := ⟨4, ![4, 2304, 8, 128]⟩
abbrev S4x256x8x128 : Shape := ⟨4, ![4, 256, 8, 128]⟩
abbrev S4x2048x8x128 : Shape := ⟨4, ![4, 2048, 8, 128]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S1x2048x1x2x32 : Shape := ⟨5, ![1, 2048, 1, 2, 32]⟩
abbrev S4x2048x8x2x2x32 : Shape := ⟨6, ![4, 2048, 8, 2, 2, 32]⟩
abbrev S4x2048x8x2x1x32 : Shape := ⟨6, ![4, 2048, 8, 2, 1, 32]⟩
abbrev S4x2048x8x2x32 : Shape := ⟨5, ![4, 2048, 8, 2, 32]⟩
abbrev S4x2304x2x128 : Shape := ⟨4, ![4, 2304, 2, 128]⟩
abbrev S4x256x2x128 : Shape := ⟨4, ![4, 256, 2, 128]⟩
abbrev S4x2048x2x128 : Shape := ⟨4, ![4, 2048, 2, 128]⟩
abbrev S4x2048x2x2x2x32 : Shape := ⟨6, ![4, 2048, 2, 2, 2, 32]⟩
abbrev S4x2048x2x2x1x32 : Shape := ⟨6, ![4, 2048, 2, 2, 1, 32]⟩
abbrev S4x2048x2x2x32 : Shape := ⟨5, ![4, 2048, 2, 2, 32]⟩
abbrev S9216x1024 : Shape := ⟨2, ![9216, 1024]⟩
abbrev S9216x256 : Shape := ⟨2, ![9216, 256]⟩

abbrev nBuf : Space → Nat
  | .hbm => 259
  | .vmem => 0
  | .smem => 0
  | _ => 0

abbrev hbmTy0_0 (i : Nat) : BufTy := match i % 128 with
  | 0 => ⟨S9216x2048, .f32⟩
  | 1 => ⟨S2048, .f32⟩
  | 2 => ⟨S48x1x2048, .f32⟩
  | 3 => ⟨S2048x4608, .f32⟩
  | 4 => ⟨S8x6x2048, .f32⟩
  | 5 => ⟨S2304, .i32⟩
  | 6 => ⟨S_, .i32⟩
  | 7 => ⟨S2304, .i32⟩
  | 8 => ⟨S2304, .i1⟩
  | 9 => ⟨S1x2304x1, .i1⟩
  | 10 => ⟨S4x1x2048, .f32⟩
  | 11 => ⟨S4x2048, .f32⟩
  | 12 => ⟨S4x1x2048, .f32⟩
  | 13 => ⟨S1x1x2048, .f32⟩
  | 14 => ⟨S2048, .f32⟩
  | 15 => ⟨S1x1x2048, .f32⟩
  | 16 => ⟨S4x2304x2048, .i1⟩
  | 17 => ⟨S4x2304x2048, .f32⟩
  | 18 => ⟨S4x2304x2048, .f32⟩
  | 19 => ⟨S4x2304x2048, .f32⟩
  | 20 => ⟨S4x1x2048, .f32⟩
  | 21 => ⟨S4x2048, .f32⟩
  | 22 => ⟨S4x1x2048, .f32⟩
  | 23 => ⟨S1x1x2048, .f32⟩
  | 24 => ⟨S2048, .f32⟩
  | 25 => ⟨S1x1x2048, .f32⟩
  | 26 => ⟨S4x2304x2048, .i1⟩
  | 27 => ⟨S4x2304x2048, .f32⟩
  | 28 => ⟨S4x2304x2048, .f32⟩
  | 29 => ⟨S4x2304x2048, .f32⟩
  | 30 => ⟨S4x2304x2048, .f32⟩
  | 31 => ⟨S4x2304x2048, .f32⟩
  | 32 => ⟨S_, .f32⟩
  | 33 => ⟨S4x2304, .f32⟩
  | 34 => ⟨S4x2304x1, .f32⟩
  | 35 => ⟨S_, .f32⟩
  | 36 => ⟨S4x2304x1, .f32⟩
  | 37 => ⟨S4x2304x1, .f32⟩
  | 38 => ⟨S_, .f32⟩
  | 39 => ⟨S4x2304x1, .f32⟩
  | 40 => ⟨S4x2304x1, .f32⟩
  | 41 => ⟨S4x2304x1, .f32⟩
  | 42 => ⟨S4x2304x2048, .f32⟩
  | 43 => ⟨S4x2304x2048, .f32⟩
  | 44 => ⟨S1x1x2048, .f32⟩
  | 45 => ⟨S4x2304x2048, .f32⟩
  | 46 => ⟨S4x2304x2048, .f32⟩
  | 47 => ⟨S_, .f32⟩
  | 48 => ⟨S4x2304x2048, .f32⟩
  | 49 => ⟨S4x2304x2048, .f32⟩
  | 50 => ⟨S4x2304x2048, .f32⟩
  | 51 => ⟨S4x2304x2048, .f32⟩
  | 52 => ⟨S4x2304x4608, .f32⟩
  | 53 => ⟨S4x2304x1024, .f32⟩
  | 54 => ⟨S4x2304x256, .f32⟩
  | 55 => ⟨S4x2304x256, .f32⟩
  | 56 => ⟨S4x2304x1024, .f32⟩
  | 57 => ⟨S4x2304x1024, .f32⟩
  | 58 => ⟨S4x2304x1024, .f32⟩
  | 59 => ⟨S_, .f32⟩
  | 60 => ⟨S4x2304x1024, .f32⟩
  | 61 => ⟨S4x2304x1024, .f32⟩
  | 62 => ⟨S4x2304x8x128, .f32⟩
  | 63 => ⟨S4x256x8x128, .f32⟩
  | 64 => ⟨S4x2048x8x128, .f32⟩
  | 65 => ⟨S2048, .i32⟩
  | 66 => ⟨S_, .i32⟩
  | 67 => ⟨S_, .i32⟩
  | 68 => ⟨S2048, .i32⟩
  | 69 => ⟨S2048, .i32⟩
  | 70 => ⟨S2048, .i32⟩
  | 71 => ⟨S_, .i32⟩
  | 72 => ⟨S2048, .i32⟩
  | 73 => ⟨S2048, .i1⟩
  | 74 => ⟨S2048, .i32⟩
  | 75 => ⟨S2048, .i32⟩
  | 76 => ⟨S_, .i32⟩
  | 77 => ⟨S2048, .i32⟩
  | 78 => ⟨S2048, .i1⟩
  | 79 => ⟨S2048, .i1⟩
  | 80 => ⟨S_, .i32⟩
  | 81 => ⟨S2048, .i32⟩
  | 82 => ⟨S2048, .i32⟩
  | 83 => ⟨S2048, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i1⟩
  | 98 => ⟨S_, .i32⟩
  | 99 => ⟨S_, .i1⟩
  | 100 => ⟨S2048, .i1⟩
  | 101 => ⟨S2048, .i1⟩
  | 102 => ⟨S2048, .i1⟩
  | 103 => ⟨S2048, .i32⟩
  | 104 => ⟨S2048, .i32⟩
  | 105 => ⟨S2048, .i32⟩
  | 106 => ⟨S2048x1, .i32⟩
  | 107 => ⟨S2048x1, .i32⟩
  | 108 => ⟨S2048x2, .i32⟩
  | 109 => ⟨S2048x2, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S2048x2x1, .f32⟩
  | 125 => ⟨S1x1x32, .f32⟩
  | 126 => ⟨S2048x2x32, .f32⟩
  | 127 => ⟨S2048x2x32, .f32⟩
  | _ => ⟨S9216x2048, .f32⟩

abbrev hbmTy0_1 (i : Nat) : BufTy := match i % 128 with
  | 0 => ⟨S2048x2x32, .f32⟩
  | 1 => ⟨S2048x2x32, .f32⟩
  | 2 => ⟨S1x2048x1x2x32, .f32⟩
  | 3 => ⟨S2048x2x32, .f32⟩
  | 4 => ⟨S1x2048x1x2x32, .f32⟩
  | 5 => ⟨S4x2048x8x2x2x32, .f32⟩
  | 6 => ⟨S4x2048x8x2x1x32, .f32⟩
  | 7 => ⟨S4x2048x8x2x32, .f32⟩
  | 8 => ⟨S4x2048x8x2x1x32, .f32⟩
  | 9 => ⟨S4x2048x8x2x32, .f32⟩
  | 10 => ⟨S4x2048x8x2x32, .f32⟩
  | 11 => ⟨S4x2048x8x2x32, .f32⟩
  | 12 => ⟨S4x2048x8x2x32, .f32⟩
  | 13 => ⟨S4x2048x8x2x32, .f32⟩
  | 14 => ⟨S4x2048x8x2x32, .f32⟩
  | 15 => ⟨S4x2048x8x2x32, .f32⟩
  | 16 => ⟨S4x2048x8x2x32, .f32⟩
  | 17 => ⟨S4x2048x8x2x32, .f32⟩
  | 18 => ⟨S4x2048x8x2x32, .f32⟩
  | 19 => ⟨S4x2048x8x2x32, .f32⟩
  | 20 => ⟨S4x2048x8x2x1x32, .f32⟩
  | 21 => ⟨S4x2048x8x2x1x32, .f32⟩
  | 22 => ⟨S4x2048x8x2x2x32, .f32⟩
  | 23 => ⟨S4x2048x8x128, .f32⟩
  | 24 => ⟨S4x2304x8x128, .f32⟩
  | 25 => ⟨S4x2304x2x128, .f32⟩
  | 26 => ⟨S4x256x2x128, .f32⟩
  | 27 => ⟨S4x2048x2x128, .f32⟩
  | 28 => ⟨S2048, .i32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i1⟩
  | 61 => ⟨S_, .i32⟩
  | 62 => ⟨S_, .i1⟩
  | 63 => ⟨S2048, .i1⟩
  | 64 => ⟨S2048, .i1⟩
  | 65 => ⟨S2048, .i1⟩
  | 66 => ⟨S2048, .i32⟩
  | 67 => ⟨S2048, .i32⟩
  | 68 => ⟨S2048, .i32⟩
  | 69 => ⟨S2048x1, .i32⟩
  | 70 => ⟨S2048x1, .i32⟩
  | 71 => ⟨S2048x2, .i32⟩
  | 72 => ⟨S2048x2, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S2048x2x1, .f32⟩
  | 88 => ⟨S1x1x32, .f32⟩
  | 89 => ⟨S2048x2x32, .f32⟩
  | 90 => ⟨S2048x2x32, .f32⟩
  | 91 => ⟨S2048x2x32, .f32⟩
  | 92 => ⟨S2048x2x32, .f32⟩
  | 93 => ⟨S1x2048x1x2x32, .f32⟩
  | 94 => ⟨S2048x2x32, .f32⟩
  | 95 => ⟨S1x2048x1x2x32, .f32⟩
  | 96 => ⟨S4x2048x2x2x2x32, .f32⟩
  | 97 => ⟨S4x2048x2x2x1x32, .f32⟩
  | 98 => ⟨S4x2048x2x2x32, .f32⟩
  | 99 => ⟨S4x2048x2x2x1x32, .f32⟩
  | 100 => ⟨S4x2048x2x2x32, .f32⟩
  | 101 => ⟨S4x2048x2x2x32, .f32⟩
  | 102 => ⟨S4x2048x2x2x32, .f32⟩
  | 103 => ⟨S4x2048x2x2x32, .f32⟩
  | 104 => ⟨S4x2048x2x2x32, .f32⟩
  | 105 => ⟨S4x2048x2x2x32, .f32⟩
  | 106 => ⟨S4x2048x2x2x32, .f32⟩
  | 107 => ⟨S4x2048x2x2x32, .f32⟩
  | 108 => ⟨S4x2048x2x2x32, .f32⟩
  | 109 => ⟨S4x2048x2x2x32, .f32⟩
  | 110 => ⟨S4x2048x2x2x32, .f32⟩
  | 111 => ⟨S4x2048x2x2x1x32, .f32⟩
  | 112 => ⟨S4x2048x2x2x1x32, .f32⟩
  | 113 => ⟨S4x2048x2x2x2x32, .f32⟩
  | 114 => ⟨S4x2048x2x128, .f32⟩
  | 115 => ⟨S4x2304x2x128, .f32⟩
  | 116 => ⟨S_, .f32⟩
  | 117 => ⟨S4x2304x1024, .f32⟩
  | 118 => ⟨S4x2304x1024, .f32⟩
  | 119 => ⟨S9216x1024, .f32⟩
  | 120 => ⟨S9216x1024, .bf16⟩
  | 121 => ⟨S9216x256, .f32⟩
  | 122 => ⟨S9216x256, .bf16⟩
  | 123 => ⟨S9216x256, .f32⟩
  | 124 => ⟨S9216x256, .bf16⟩
  | 125 => ⟨S9216x1024, .f32⟩
  | 126 => ⟨S9216x1024, .bf16⟩
  | 127 => ⟨S9216x1024, .f32⟩
  | _ => ⟨S9216x2048, .f32⟩

abbrev hbmTy0_2 (i : Nat) : BufTy := match i % 128 with
  | 0 => ⟨S9216x1024, .bf16⟩
  | 1 => ⟨S9216x1024, .f32⟩
  | 2 => ⟨S9216x1024, .bf16⟩
  | _ => ⟨S9216x2048, .f32⟩

abbrev hbmTy (i : Nat) : BufTy := match i / 128 with
  | 0 => hbmTy0_0 i
  | 1 => hbmTy0_1 i
  | 2 => hbmTy0_2 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v50 : Ref sig .tc := ⟨.hbm, 83, rfl⟩
abbrev main_c_5 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_6 : Ref sig .tc := ⟨.hbm, 111, rfl⟩
abbrev main_v57 : Ref sig .tc := ⟨.hbm, 112, rfl⟩
abbrev main_v58 : Ref sig .tc := ⟨.hbm, 113, rfl⟩
abbrev main_cst_7 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_8 : Ref sig .tc := ⟨.hbm, 118, rfl⟩
abbrev main_v62 : Ref sig .tc := ⟨.hbm, 119, rfl⟩
abbrev main_v63 : Ref sig .tc := ⟨.hbm, 120, rfl⟩
abbrev main_cst_9 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_10 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_c : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_c_0 : Ref sig .tc := ⟨.hbm, 171, rfl⟩
abbrev main_call4_v12 : Ref sig .tc := ⟨.hbm, 172, rfl⟩
abbrev main_call4_v13 : Ref sig .tc := ⟨.hbm, 173, rfl⟩
abbrev main_v99 : Ref sig .tc := ⟨.hbm, 174, rfl⟩
abbrev main_c_11 : Ref sig .tc := ⟨.hbm, 175, rfl⟩
abbrev main_call5_v0 : Ref sig .tc := ⟨.hbm, 176, rfl⟩
abbrev main_call5_c : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_c_1 : Ref sig .tc := ⟨.hbm, 183, rfl⟩
abbrev main_call5_v5 : Ref sig .tc := ⟨.hbm, 184, rfl⟩
abbrev main_call5_v6 : Ref sig .tc := ⟨.hbm, 185, rfl⟩
abbrev main_call5_c_2 : Ref sig .tc := ⟨.hbm, 186, rfl⟩
abbrev main_call5_v7 : Ref sig .tc := ⟨.hbm, 187, rfl⟩
abbrev main_call5_v8 : Ref sig .tc := ⟨.hbm, 188, rfl⟩
abbrev main_call5_c_3 : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_cst_12 : Ref sig .tc := ⟨.hbm, 202, rfl⟩
abbrev main_v106 : Ref sig .tc := ⟨.hbm, 203, rfl⟩
abbrev main_v107 : Ref sig .tc := ⟨.hbm, 204, rfl⟩
abbrev main_cst_13 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_cst_14 : Ref sig .tc := ⟨.hbm, 209, rfl⟩
abbrev main_v111 : Ref sig .tc := ⟨.hbm, 210, rfl⟩
abbrev main_v112 : Ref sig .tc := ⟨.hbm, 211, rfl⟩
abbrev main_cst_15 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_cst_16 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩

abbrev nD : Nat := 1
abbrev τ : Topo := Topo.v7x

variable {F : FTy → Type} [FloatOps F]
-- ==== Proof.ExpertsRows.lean ====
/- The gather of the experts' kernel: the 256 row transfers of a tile, issued by one loop and awaited by another.
   Each transfer copies one row of the hidden states into one row of the tile's buffer; all share one semaphore. -/
module

public import proofs.«01_k».proof.Defs
public import proofs.«01_k».proof.Proof.Gen.Kernel
public import proofs.«01_k».proof.Proof.Gen.Kernel.Skeleton
public import proofs.«01_k».proof.Proof.Gen.Kernel.Loops
public import Idealize.ShloMosaic.Lib.Batch
public import Idealize.ShloMosaic.Lib.Ring
public import Idealize.ShloMosaic.Lib.Pipeline.Frame
public import Idealize.ShloMosaic.Lib.Pipeline.Value

@[expose] public section

set_option maxRecDepth 16384
set_option Elab.async false
set_option backward.isDefEq.respectTransparency.types false

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `t` of the tile's buffer lies in it. -/
theorem row_inb (t : Fin 256) : ∀ a, (![t.val, 0] : Fin 2 → Nat) a + S1x2048.size a ≤ S256x2048.size a := by
  have := t.isLt; intro a; fin_cases a
  · show t.val + 1 ≤ 256; omega
  · show 0 + 2048 ≤ 2048; omega

/-- Row `r` of the hidden states lies in them. -/
theorem src_inb (r : Fin 9216) : ∀ a, (![r.val, 0] : Fin 2 → Nat) a + S1x2048.size a ≤ S9216x2048.size a := by
  have := r.isLt; intro a; fin_cases a
  · show r.val + 1 ≤ 9216; omega
  · show 0 + 2048 ≤ 2048; omega

/-- Row `t` of the tile's buffer, as a transfer's destination. -/
def xRow (t : Fin 256) : Memref sig .tc .vmem S1x2048 .f32 :=
  (Memref.whole cc0_scratch0).slice (Rect.unit (s := S256x2048) ![t.val, 0] S1x2048.size (row_inb t)) (fun _ => rfl)

/-- Row `r` of the hidden states, as a transfer's source. -/
def hRow (r : Fin 9216) : Memref sig .tc .hbm S1x2048 .f32 :=
  (Memref.whole main_arg3).slice (Rect.unit (s := S9216x2048) ![r.val, 0] S1x2048.size (src_inb r)) (fun _ => rfl)

/-- The buffer's elements in row `t`. -/
abbrev bset (t : Fin 256) : Finset S256x2048.Idx := (Rect.unit (s := S256x2048) ![t.val, 0] S1x2048.size (row_inb t)).set

theorem xset_eq (t : Fin 256) : (xRow t).view.set = bset t := by unfold xRow; exact View.set_slice_whole _ _

theorem mem_bset (t : Fin 256) (y : S256x2048.Idx) : y ∈ bset t ↔ (y 0).val = t.val := by
  rw [Rect.mem_set_unit]
  have h1 : (y 1).val < 2048 := (y 1).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 2048; omega

theorem bset_disjoint : ∀ t t' : Fin 256, t ≠ t' → Disjoint (bset t) (bset t') := fun t t' hne => by
  rw [Finset.disjoint_left]; intro y hy hy'; rw [mem_bset] at hy hy'; exact hne (Fin.ext (by omega))

theorem bset_cover : Finset.univ.biUnion bset = Finset.univ := by
  ext y; simp only [Finset.mem_biUnion, Finset.mem_univ, true_and, iff_true]; exact ⟨y 0, (mem_bset _ _).mpr rfl⟩

/-- An element of the hidden states by its row and column. -/
def ix2 (r : Fin 9216) (j : Fin 2048) : S9216x2048.Idx := fun a => match a with | ⟨0, _⟩ => r | ⟨1, _⟩ => j

/-- The tile's rows: row `t` is row `ρ t` of the hidden states. -/
def gathered (h : S9216x2048.Idx → Elt F .f32) (ρ : Fin 256 → Fin 9216) : S256x2048.Idx → Elt F .f32 :=
  fun y => h (ix2 (ρ (y 0)) (y 1))

/-- The buffer's element under element `x` of row `t`. -/
abbrev xAt (t : Fin 256) (x : S1x2048.Idx) : S256x2048.Idx := (xRow t).view.emb x

/-- What a row's transfer leaves is that row of the gathered tile. -/
theorem row_written (h : S9216x2048.Idx → Elt F .f32) (ρ : Fin 256 → Fin 9216) (f : S256x2048.Idx → Elt F .f32) (t : Fin 256) :
    ∀ y ∈ (xRow t).view.set, (xRow t).view.write (Elt F) f ((hRow (ρ t)).view.read (Elt F) h) Finset.univ y = gathered h ρ y := by
  intro y hy
  obtain ⟨x, rfl⟩ := View.exists_emb_of_mem_set (xRow t).view hy
  refine (View.write_emb_of_mem (v := (xRow t).view) _ _ (Finset.mem_univ x)).trans ?_
  have h0 : (x 0).val < 1 := (x 0).isLt
  have e0 : (xAt t x 0).val = t.val := by show t.val + 1 * (x 0).val = t.val; omega
  have e1 : (xAt t x 1).val = (x 1).val := by show 0 + 1 * (x 1).val = (x 1).val; omega
  show h ((hRow (ρ t)).view.emb x) = h (ix2 (ρ (xAt t x 0)) (xAt t x 1))
  refine congrArg h (funext fun a => Fin.ext ?_)
  match a with
  | ⟨0, _⟩ =>
    show (ρ t).val + 1 * (x 0).val = (ρ (xAt t x 0)).val
    rw [show xAt t x 0 = t from Fin.ext e0]; omega
  | ⟨1, _⟩ =>
    show 0 + 1 * (x 1).val = (xAt t x 1).val
    rw [e1]; omega

section Issue

variable (c : Dev nD) (h : S9216x2048.Idx → Elt F .f32) (ρ : Fin 256 → Fin 9216)

/-- A row's credit on the semaphore. -/
abbrev NN : ℕ := (xRow 0).view.amount (.dma cc0_scratch4.sem)

theorem credit (t : Fin 256) : (xRow t).view.amount (.dma cc0_scratch4.sem) = NN := rfl

/-- The hidden states under read token `t`. -/
abbrev hTok (t : ℕ) : sProp 𝕄 :=
  (Memref.whole main_arg3 : Memref sig .tc .hbm S9216x2048 .f32).view.loc (c : Thread nD τ) ↦{Transfers.shareTokN fullShare t} h

/-- Row `t` of the tile's buffer, held at contents `f`. -/
abbrev xPart (t : Fin 256) (f : S256x2048.Idx → Elt F .f32) : sProp 𝕄 :=
  (Memref.whole cc0_scratch0 : Memref sig .tc .vmem S256x2048 .f32).view.loc (c : Thread nD τ) ↦[bset t]{fullShare} f

/-- What transfer `t` delivers: its row of the gathered tile, and its read token back. -/
abbrev del (t : Fin 256) : sProp 𝕄 :=
  iprop(xPart c t (gathered h ρ) ∗ hTok c h t.val)

instance del_storable (t : Fin 256) : BI.Storable (upEmb : UEmb _ 𝕄) (del c h ρ t) := by unfold del; infer_instance

/-- The tile's transfers: `j` issued, `u` units awaited. -/
abbrev batch (j u : ℕ) : sProp 𝕄 :=
  Transfers.Batch (countersEmb (U := Pipeline.UD sig nD τ)) (c : Thread nD τ) (.dma cc0_scratch4.sem) () NN (del c h ρ) j u

/-- What lands, with the rest of the read token, is the delivery. -/
theorem land_row (f : S256x2048.Idx → Elt F .f32) (t : Fin 256) :
    iprop(((hRow (ρ t)).view.loc (c : Thread nD τ) ↦[Finset.univ \ (hRow (ρ t)).view.set]{Transfers.shareTokN fullShare t.val} h)
        ∗ ((xRow t).view.loc (c : Thread nD τ) ↦[(xRow t).view.set]{fullShare}
            (xRow t).view.write (Elt F) f ((hRow (ρ t)).view.read (Elt F) h) Finset.univ)
        ∗ ((hRow (ρ t)).view.loc (c : Thread nD τ) ↦[(hRow (ρ t)).view.set]{Transfers.shareTokN fullShare t.val} h))
      ⊢ (del c h ρ t : sProp 𝕄) := by
  iintro ⟨Hp, Hd, Hs⟩
  isplitl [Hd]
  · ihave Hd' := (Entails.of_eq (pointsTo_congr (row_written h ρ f t))) $$ Hd
    iapply (Entails.of_eq (show ((xRow t).view.loc (c : Thread nD τ) ↦[(xRow t).view.set]{fullShare} gathered h ρ : sProp 𝕄) = xPart c t (gathered h ρ) by
      rw [xset_eq]; rfl)) $$ Hd'
  · iapply (pointsTo_split_subset (Finset.subset_univ (hRow (ρ t)).view.set)).2
    isplitl [Hs]; · iexact Hs
    iexact Hp

/-- Issuing transfer `j`: its destination row and its token go in. -/
theorem issue_row (f : S256x2048.Idx → Elt F .f32) (t : Fin 256) {α : Type} {Q : α → sProp 𝕄}
    (src : Memref sig .tc .hbm S1x2048 .f32) (dst : Memref sig .tc .vmem S1x2048 .f32) (es : src = hRow (ρ t)) (ed : dst = xRow t)
    {hsrc : src.view.WordExact} {hdst : dst.view.WordExact}
    {hsem : DmaTarget.Typed (nD := nD) (τ := τ) (p := Proc.tc) .hbm (.dma cc0_scratch4.sem) (.here dst)}
    (k : PUnit → Prog (TpuEff nD τ sig (Elt F) Λ₀ .tc) α) :
    iprop(hTok c h t.val ∗ xPart c t f ∗ batch c h ρ t.val 0)
      ⊢ iprop((batch c h ρ (t.val + 1) 0 -∗ wp frame (wpE defs₀ Variants.none (c : Thread nD τ) none) Set.univ (k ⟨⟩) Q)
          -∗ wp frame (wpE defs₀ Variants.none (c : Thread nD τ) none) Set.univ
              (.op (.enqueueDma src (.here dst) (.dma cc0_scratch4.sem) hsrc hdst hsem) k) Q) := by
  subst es ed
  have hj := t.isLt
  unfold batch Transfers.Batch
  iintro ⟨Hs, Hd, ⟨%γ, %γ₀, %κ, #Hinv, HI, H0, Hcred⟩⟩ Hk
  ihave HI' := (show bigSep (Transfers.pending (n := 256) t.val) (fun t => count (countersEmb (U := Pipeline.UD sig nD τ)) (γ t) 0) ⊢ iprop(count (countersEmb (U := Pipeline.UD sig nD τ)) (γ ⟨t.val, hj⟩) 0 ∗ bigSep (Transfers.pending (n := 256) (t.val + 1)) (fun t => count (countersEmb (U := Pipeline.UD sig nD τ)) (γ t) 0))
    from Entails.of_eq (by rw [Transfers.pending_succ hj, bigSep_insert (Transfers.not_mem_pending_succ hj)]; rfl)) $$ HI
  icases HI' with ⟨Ht, HI⟩
  ihave Hs' := (pointsTo_split_subset (Finset.subset_univ (hRow (ρ t)).view.set)).1 $$ Hs
  icases Hs' with ⟨Hs, Hput⟩
  iapply (wp_enqueueDmaAs Variants.none (c : Thread nD τ) none Set.univ () NN (credit t)) $$ [Hs Hd] [Ht Hput]
  · isplitl [Hs]; · iexact Hs
    ihave Hd' := (Entails.of_eq (show xPart c t f = ((xRow t).view.loc (c : Thread nD τ) ↦[(xRow t).view.set]{fullShare} f : sProp 𝕄) by
      rw [xset_eq]; rfl)) $$ Hd
    iapply (pointsTo_writeUpdate (c : Thread nD τ) (subset_refl (xRow t).view.set)) $$ Hd'
  · iapply (Transfers.batch_creditUpdate_with (countersEmb (U := Pipeline.UD sig nD τ)) (D := del c h ρ) (γ := γ) t (land_row c h ρ f t))
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (t.val + 1) * NN - 0 = (t.val * NN - 0) + NN by rw [Nat.succ_mul]; omega, ← tallyAt_add]
  icombine Hcred Hcred' as H
  iexact H

/-- A slice is the slice at equal offsets. -/
theorem slice_off {κ : Kind} {sp : Space} {s : Shape} {e : EltTy} (M : Memref sig κ sp s e) {off off' sz : Fin s.rank → ℕ}
    (eq : off = off') (i : ∀ a, off a + sz a ≤ s.size a) (i' : ∀ a, off' a + sz a ≤ s.size a) :
    M.slice (Rect.unit (s := s) off sz i) (fun _ => rfl) = M.slice (Rect.unit (s := s) off' sz i') (fun _ => rfl) := by
  subst eq; rfl

/-- The table of source rows, held by the kernel's read share. -/
abbrev tab (T : S26624.Idx → Elt F .i32) : sProp 𝕄 :=
  (Memref.whole main_arg2 : Memref sig .tc .smem S26624 .i32).view.loc (c : Thread nD τ) ↦{fullShare.right} T

/-- The word that trip `k` of tile `i` reads. -/
abbrev srcWord (T : S26624.Idx → Elt F .i32) (i : grid0.Coords) (k : Fin k0_t1_loop.trips) : BitVec 32 :=
  View.readAt (Elt F) (Memref.whole main_arg2 : Memref sig .tc .smem S26624 .i32).view
    (Rect.unit (s := S26624) (k0_off3 i k) S1.size (k0_off3_inb i k)).toLoadRect T (Shape.Idx.first (numel1_S1.symm ▸ Nat.one_pos))

theorem trips1 : k0_t1_loop.trips = 256 := by decide
theorem trips2 : k0_t2_loop.trips = 256 := by decide

/-- The source's offsets, from the word read. -/
theorem off_src {w : BitVec 32} {r : Fin 9216} (e : w.toNat = r.val) : k0_off5 w = ![r.val, 0] := by
  show ![w.toNat, 0] = _; rw [e]

/-- Before trip `k` of the issue loop: `k` transfers issued; the rows and the tokens from `k` on in hand. -/
def issueAt (f : S256x2048.Idx → Elt F .f32) (T : S26624.Idx → Elt F .i32) (k : ℕ) (_ : Unit) : sProp 𝕄 :=
  iprop(batch c h ρ k 0 ∗ bigSep (Ring.rangeSet 256 k 256) (fun t => xPart c t f)
    ∗ bigSep (Ring.rangeSet 256 k 256) (fun t => hTok c h t.val) ∗ tab c T)

/-- One trip of the issue loop. -/
theorem issue_step (f : S256x2048.Idx → Elt F .f32) (T : S26624.Idx → Elt F .i32) (i : grid0.Coords)
    (hρ : ∀ k : Fin k0_t1_loop.trips, (srcWord T i k).toNat = (ρ ⟨k.val, trips1 ▸ k.isLt⟩).val)
    (arg1 : Memref sig .tc .smem S104 .i32) (harg1 : arg1.IsWhole) (arg2 : Memref sig .tc .smem S1 .i32) (harg2 : arg2.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S256x2048 .f32) (harg8 : arg8.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (v9 : Elt F .i32) (k0_h1 : k0_cond1 i v9 = 1#1) (k : Fin k0_t1_loop.trips) (acc : Unit) :
    issueAt c h ρ f T k acc ⊢ wp frame (wpE defs₀ Variants.none (c : Thread nD τ) none) Set.univ
      (k0_t1_body i arg1 harg1 arg2 harg2 (Memref.whole main_arg2) (Memref.isWhole_whole _) (Memref.whole main_arg3) (Memref.isWhole_whole _) arg5 harg5 arg6 harg6 arg7 harg7 arg8 harg8 (Memref.whole cc0_scratch0) (Memref.isWhole_whole _) arg10 harg10 arg11 harg11 arg12 harg12 cc0_scratch4 v9 k0_h1 k acc)
      (issueAt c h ρ f T (k.val + 1)) := by
  have hk : k.val < 256 := trips1 ▸ k.isLt
  have hw := hρ k
  have chk : k0_chk1 i v9 (srcWord T i k) := fun _ a => by
    have hb := (ρ ⟨k.val, trips1 ▸ k.isLt⟩).isLt
    fin_cases a
    · show (srcWord T i k).toNat + 1 ≤ 9216; omega
    · show 0 + 2048 ≤ 2048; omega
  unfold issueAt
  rw [Ring.bigSep_rangeSet_head (Φ := fun t => xPart c t f) (by omega) hk,
    Ring.bigSep_rangeSet_head (Φ := fun t => hTok c h t.val) (by omega) hk]
  iintro ⟨HB, ⟨HX, HXs⟩, ⟨HH, HHs⟩, HT⟩
  unfold k0_t1_body
  dsimp only
  sl_exec (disch := exact chk)
  iapply (issue_row c h ρ f ⟨k.val, hk⟩ _ _ (slice_off _ (off_src hw) _ _) (slice_off _ (k0_off4_eq k) _ _)) $$ [HB HX HH]
  · isplitl [HH]; · iexact HH
    isplitl [HX] <;> iassumption
  iintro HB
  sl_step
  isplitl [HB]; · iexact HB
  isplitl [HXs]; · iexact HXs
  isplitl [HHs]; · iexact HHs
  iexact HT

/-- Before trip `k` of the wait loop: the waits recorded, and the batch with `k` rows awaited; after the last trip, the
    semaphore at zero and every delivery. -/
def drainAt (k : ℕ) (_ : Unit) : sProp 𝕄 :=
  iprop(⌜k ≤ 256⌝ ∗ (∃ W, owes (c : Thread nD τ) 0 W)
    ∗ (if k < 256 then batch c h ρ 256 (k * NN)
       else iprop(semVal ((c : Thread nD τ), SemLoc.dma cc0_scratch4.sem) 0 ∗ bigSep Finset.univ (del c h ρ))))

/-- One trip of the wait loop. -/
theorem drain_step (i : grid0.Coords)
    (arg1 : Memref sig .tc .smem S104 .i32) (harg1 : arg1.IsWhole) (arg2 : Memref sig .tc .smem S1 .i32) (harg2 : arg2.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S256x2048 .f32) (harg8 : arg8.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (k : Fin k0_t2_loop.trips) (acc : Unit) :
    drainAt c h ρ k acc ⊢ wp frame (wpE defs₀ Variants.none (c : Thread nD τ) none) Set.univ
      (k0_t2_body i arg1 harg1 arg2 harg2 (Memref.whole main_arg2) (Memref.isWhole_whole _) (Memref.whole main_arg3) (Memref.isWhole_whole _) arg5 harg5 arg6 harg6 arg7 harg7 arg8 harg8 (Memref.whole cc0_scratch0) (Memref.isWhole_whole _) arg10 harg10 arg11 harg11 arg12 harg12 cc0_scratch4 k acc)
      (drainAt c h ρ (k.val + 1)) := by
  have hk : k.val < 256 := trips2 ▸ k.isLt
  unfold drainAt
  simp only [if_pos hk]
  rcases Nat.lt_or_ge (k.val + 1) 256 with h1 | h1
  · simp only [if_pos h1]
    iintro ⟨-, ⟨%W, HO⟩, HB⟩
    unfold k0_t2_body
    dsimp only
    sl_exec
    sl_step
    isplitr; · ipureintro; omega
    isplitl [HO]; · iexists _; iexact HO
    rw [show (k.val + 1) * NN = k.val * NN + NN by rw [Nat.succ_mul]]
    iexact HB
  · simp only [if_neg (Nat.not_lt.mpr h1)]
    iintro ⟨-, ⟨%W, HO⟩, HB⟩
    unfold k0_t2_body
    dsimp only
    sl_exec
    sl_step
    isplitr; · ipureintro; omega
    isplitl [HO]; · iexists _; iexact HO
    isplitl [HB]; · iexact HB
    iexact HB_all

end Issue

end Cert.Kernel.Rows

end
-- ==== Proof.ExpertsRun.lean ====
/- One grid point of the experts' kernel: a live tile gathers its rows, casts its expert's weights when the expert
   changes, and stores the expert's output; a dead tile stores zeros. -/
module

public import proofs.«01_k».proof.Proof.ExpertsRows
public import Idealize.ShloMosaic.Lib.VecWindow
public import Idealize.ShloMosaic.Lib.Writes
public import Idealize.ShloMosaic.Lib.Pipeline.FrameBody
public import Idealize.ShloMosaic.Lib.Pipeline.TableIdle

@[expose] public section

set_option maxRecDepth 16384
set_option Elab.async false
set_option backward.isDefEq.respectTransparency.types false

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (h : S9216x2048.Idx → Elt F .f32) (ρ : Fin 256 → Fin 9216)

/-- A whole scratch or table buffer at contents `f`. -/
abbrev held (b : Ref sig .tc) (q : PosShare TreeShare) (f : b.ty.Contents (Elt F)) : sProp 𝕄 :=
  (Memref.whole b).view.loc (c : Thread nD τ) ↦{q} f

/-- The hidden states once 256 read tokens are dealt out of them. -/
abbrev hRest : sProp 𝕄 := held c main_arg3 (Transfers.shareDrop fullShare 256) h

/-- The tile's buffer whole is its rows. -/
theorem xParts_eq (f : S256x2048.Idx → Elt F .f32) :
    held c cc0_scratch0 fullShare f = (bigSep (Ring.rangeSet 256 0 256) (fun t => xPart c t f) : sProp 𝕄) := by
  rw [Ring.rangeSet_univ]
  exact Ring.pointsTo_blocks (ℓ := (Memref.whole cc0_scratch0 : Memref sig .tc .vmem S256x2048 .f32).view.loc (c : Thread nD τ)) (q := fullShare) bset bset_disjoint bset_cover f

/-- The tokens by number. -/
theorem toks_eq : (bigSep (Finset.range 256) (fun t => hTok c h t) : sProp 𝕄) = bigSep (Ring.rangeSet 256 0 256) (fun t => hTok c h t.val) :=
  (Ring.bigSep_rangeSet_eq_range (NB := 256) (lo := 0) (hi := 256) (Φ := fun t => hTok c h t.val) le_rfl (fun t => hTok c h t)
    (fun k hk => by show hTok c h k = hTok c h (0 + k); rw [Nat.zero_add])).symm

/-- The hidden states are the rest and the tokens. -/
theorem hToks : held c main_arg3 fullShare h ⊣⊢ (iprop(hRest c h ∗ bigSep (Ring.rangeSet 256 0 256) (fun t => hTok c h t.val)) : sProp 𝕄) := by
  rw [← toks_eq]; exact Transfers.pointsTo_toks_range fullShare 256

/-- Every delivery, with the rest of the hidden states, is the gathered tile and the hidden states whole. -/
theorem gather_done : iprop(bigSep Finset.univ (del c h ρ) ∗ hRest c h)
    ⊢ (iprop(held c cc0_scratch0 fullShare (gathered h ρ) ∗ held c main_arg3 fullShare h) : sProp 𝕄) := by
  iintro ⟨HD, HR⟩
  ihave HD' := (Entails.of_eq (show (bigSep Finset.univ (del c h ρ) : sProp 𝕄)
      = iprop(bigSep Finset.univ (fun t => xPart c t (gathered h ρ)) ∗ bigSep Finset.univ (fun t : Fin 256 => hTok c h t.val)) from BI.bigSep_sep _ _ _)) $$ HD
  icases HD' with ⟨HX, HT⟩
  rw [xParts_eq, Ring.rangeSet_univ]
  isplitl [HX]; · iexact HX
  iapply (hToks c h).2
  rw [Ring.rangeSet_univ]
  isplitl [HR] <;> iassumption

/-- The word of the live-tile count. -/
abbrev liveWord (T : S1.Idx → Elt F .i32) : BitVec 32 :=
  View.readAt (Elt F) (Memref.whole main_arg1 : Memref sig .tc .smem S1 .i32).view (Rect.unit (s := S1) ![0] S1.size inb_S1_S1_0).toLoadRect T
    (Shape.Idx.first (numel1_S1.symm ▸ Nat.one_pos))

/-- The tile's expert, -/
abbrev hereWord (T : S104.Idx → Elt F .i32) (i : grid0.Coords) : BitVec 32 :=
  View.readAt (Elt F) (Memref.whole main_arg0 : Memref sig .tc .smem S104 .i32).view (Rect.unit (s := S104) (k0_off1 i) S1.size (k0_off1_inb i)).toLoadRect T
    (Shape.Idx.first (numel1_S1.symm ▸ Nat.one_pos))

/-- and the expert of the tile before it. -/
abbrev prevWord (T : S104.Idx → Elt F .i32) (i : grid0.Coords) : BitVec 32 :=
  View.readAt (Elt F) (Memref.whole main_arg0 : Memref sig .tc .smem S104 .i32).view (Rect.unit (s := S104) (k0_off2 i) S1.size (k0_off2_inb i)).toLoadRect T
    (Shape.Idx.first (numel1_S1.symm ▸ Nat.one_pos))

/-- Whether the tile casts its weights: it is the first, or its expert is a new one. -/
abbrev fresh (T : S104.Idx → Elt F .i32) (i : grid0.Coords) : BitVec 1 :=
  Scalar.cmpi .ne (Scalar.extui (Scalar.ori (Scalar.cmpi .eq (BitVec.ofNat 32 (i 0).val) 0#32) (Scalar.cmpi .ne (hereWord T i) (prevWord T i))) : BitVec 32) 0#32

/-- What a store of the whole shape leaves. -/
theorem read_full {sp : Space} {s : Shape} {e : EltTy} (M : Memref sig .tc sp s e) {off : Fin s.rank → ℕ} (inb : ∀ a, off a + s.size a ≤ s.size a)
    (f : M.view.ty.Contents (Elt F)) (w : s.Idx → Elt F e) :
    M.view.read (Elt F) (M.view.writes (Elt F) f [⟨Rect.unit (s := s) off s.size inb, w⟩]) = w := by
  funext y
  have ey : (Rect.unit (s := s) off s.size inb).emb y = y := funext fun a => Fin.ext (by
    show off a + 1 * (y a).val = (y a).val
    have := inb a; omega)
  calc _ = M.view.read (Elt F) (M.view.writes (Elt F) f [⟨Rect.unit (s := s) off s.size inb, w⟩]) ((Rect.unit (s := s) off s.size inb).emb y) := by rw [ey]
    _ = w y := M.view.read_writes_cons_emb f (Rect.unit (s := s) off s.size inb) w [] y

/-- Of a whole buffer, what a store of all of it leaves. -/
theorem whole_store (b : Ref sig .tc) {off : Fin b.ty.shape.rank → ℕ} (inb : ∀ a, off a + b.ty.shape.size a ≤ b.ty.shape.size a)
    (f : b.ty.Contents (Elt F)) (w : b.ty.shape.Idx → Elt F b.ty.elt) :
    (Memref.whole b).view.writes (Elt F) f [⟨Rect.unit (s := b.ty.shape) off b.ty.shape.size inb, w⟩] = w :=
  read_full (Memref.whole b) inb f w

/-- A buffer held whole at contents `f` is held at `g` where the two are equal. -/
theorem held_of_eq (c : Dev nD) (b : Ref sig .tc) {f g : Buf (Elt F) ((Memref.whole b : Memref sig .tc _ _ _).view.loc c.tc)} (e : f = g) :
    (((Memref.whole b : Memref sig .tc _ _ _).view.loc c.tc ↦{fullShare} f : sProp 𝕄)) ⊢ held c b fullShare g :=
  Entails.of_eq (congrArg (held c b fullShare) e)

/-- After the wait loop. -/
theorem drain_done (acc : Unit) : drainAt c h ρ (Scf.trips k0_t2_loop.lb k0_t2_loop.ub k0_t2_loop.st) acc
    ⊢ (iprop((∃ W, owes (c : Thread nD τ) 0 W) ∗ semVal ((c : Thread nD τ), SemLoc.dma cc0_scratch4.sem) 0 ∗ bigSep Finset.univ (del c h ρ)) : sProp 𝕄) := by
  rw [show Scf.trips k0_t2_loop.lb k0_t2_loop.ub k0_t2_loop.st = 256 from trips2]
  unfold drainAt; rw [if_neg (Nat.lt_irrefl _)]; iintro ⟨-, HO, Hc, Hall⟩
  isplitl [HO]; · iexact HO
  isplitl [Hc] <;> iassumption

variable (i : grid0.Coords) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S256x2048 .f32) (harg8 : arg8.IsWhole)

/-- The kernel's body at its operands. -/
abbrev point : Prog (TpuEff nD τ sig (Elt F) Λ₀ .tc) PUnit :=
  cc0_moe_experts i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

/-- A dead tile stores zeros. -/
theorem run_dead (Tn : S1.Idx → Elt F .i32) (Te : S104.Idx → Elt F .i32)
    (k0_h1 : ¬ k0_cond1 i (liveWord Tn) = 1#1) (k0_h3 : k0_cond3 i (liveWord Tn) = 1#1) (K : PUnit → sProp 𝕄) :
    iprop(held c main_arg0 fullShare.right Te ∗ held c main_arg1 fullShare.right Tn ∗ (∃ d, owns (c : Thread nD τ) arg8 fullShare d)
        ∗ ((held c main_arg0 fullShare.right Te ∗ held c main_arg1 fullShare.right Tn ∗ owns (c : Thread nD τ) arg8 fullShare (k0_pay5 (F := F))) -∗ K ⟨⟩))
      ⊢ wp frame (wpE defs₀ Variants.none (c : Thread nD τ) none) Set.univ (point i arg5 harg5 arg6 harg6 arg7 harg7 arg8 harg8) K := by
  unfold owns point
  rw [cc0_moe_experts_eq_skeleton]
  unfold cc0_moe_experts_skel
  iintro ⟨HE, HN, ⟨%d, %f, -, HO⟩, Hk⟩
  sl_exec! (disch := first | (guard_target = ¬(k0_cond1 _ _ = _); exact k0_h1) | (guard_target = k0_cond3 _ _ = _; exact k0_h3))
  sl_step
  iapply Hk
  isplitl [HE]; · iexact HE
  isplitl [HN]; · iexact HN
  iexists _; isplitr; swap
  · iexact HO
  · ipureintro; exact read_full _ _ _ _

/-- What a live tile stores, from the weights cast for it. -/
abbrev tileOut (w1 : S2048x512.Idx → Elt F .bf16) (w2 : S2048x512.Idx → Elt F .bf16) (w3 : S512x2048.Idx → Elt F .bf16) : S256x2048.Idx → Elt F .f32 :=
  k0_pay4 (gathered h ρ) w1 w2 w3

/-- A live tile stores its expert's output on the rows gathered for it. -/
theorem run_live (Tn : S1.Idx → Elt F .i32) (Te : S104.Idx → Elt F .i32) (Ts : S26624.Idx → Elt F .i32)
    (hρ : ∀ k : Fin k0_t1_loop.trips, (srcWord Ts i k).toNat = (ρ ⟨k.val, trips1 ▸ k.isLt⟩).val)
    (k0_h1 : k0_cond1 i (liveWord Tn) = 1#1) (k0_h3 : ¬ k0_cond3 i (liveWord Tn) = 1#1)
    (x1 x2 : S1x2048x512.Idx → Elt F .f32) (x3 : S1x512x2048.Idx → Elt F .f32) (f : S256x2048.Idx → Elt F .f32)
    (a1 a2 b1 b2 : S2048x512.Idx → Elt F .bf16) (a3 b3 : S512x2048.Idx → Elt F .bf16)
    (hb : (fresh Te i = 1#1 ∧ b1 = k0_pay1 x1 ∧ b2 = k0_pay2 x2 ∧ b3 = k0_pay3 x3) ∨ (¬ fresh Te i = 1#1 ∧ b1 = a1 ∧ b2 = a2 ∧ b3 = a3))
    (W : Waits sig Unit) (K : PUnit → sProp 𝕄) :
    iprop(held c main_arg0 fullShare.right Te ∗ held c main_arg1 fullShare.right Tn ∗ tab c Ts ∗ held c main_arg3 fullShare h
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (∃ d, owns (c : Thread nD τ) arg8 fullShare d)
        ∗ held c cc0_scratch0 fullShare f ∗ held c cc0_scratch1 fullShare a1 ∗ held c cc0_scratch2 fullShare a2 ∗ held c cc0_scratch3 fullShare a3
        ∗ semVal ((c : Thread nD τ), SemLoc.dma cc0_scratch4.sem) 0 ∗ owes (c : Thread nD τ) 0 W
        ∗ ((held c main_arg0 fullShare.right Te ∗ held c main_arg1 fullShare.right Tn ∗ tab c Ts ∗ held c main_arg3 fullShare h
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ owns (c : Thread nD τ) arg8 fullShare (tileOut h ρ b1 b2 b3)
            ∗ held c cc0_scratch0 fullShare (gathered h ρ) ∗ held c cc0_scratch1 fullShare b1 ∗ held c cc0_scratch2 fullShare b2 ∗ held c cc0_scratch3 fullShare b3
            ∗ semVal ((c : Thread nD τ), SemLoc.dma cc0_scratch4.sem) 0 ∗ (∃ W, owes (c : Thread nD τ) 0 W)) -∗ K ⟨⟩))
      ⊢ wp frame (wpE defs₀ Variants.none (c : Thread nD τ) none) Set.univ (point i arg5 harg5 arg6 harg6 arg7 harg7 arg8 harg8) K := by
  have hS0 : (Memref.whole cc0_scratch0).IsWhole := Memref.isWhole_whole _
  have hS1 : (Memref.whole cc0_scratch1).IsWhole := Memref.isWhole_whole _
  have hS2 : (Memref.whole cc0_scratch2).IsWhole := Memref.isWhole_whole _
  have hS3 : (Memref.whole cc0_scratch3).IsWhole := Memref.isWhole_whole _
  unfold owns point
  rw [cc0_moe_experts_eq_skeleton, xParts_eq c f]
  unfold cc0_moe_experts_skel
  iintro ⟨HE, HN, HT, HH, HA, HB, HC, ⟨%d, %g, -, HO⟩, HX, H1, H2, H3, Hsem, Hw, Hk⟩
  ihave HH' := (hToks c h).1 $$ HH
  icases HH' with ⟨HR, HH⟩
  imod (Transfers.batch_alloc' (Lvl := ℕ) (countersEmb (U := Pipeline.UD sig nD τ)) (c : Thread nD τ) () NN (del c h ρ) (sm := .dma cc0_scratch4.sem) (E := Set.univ)) $$ Hsem with Hbatch
  sl_exec! (disch := first | (guard_target = k0_cond1 _ _ = _; exact k0_h1) | (guard_target = ¬(k0_cond3 _ _ = _); exact k0_h3))
  sl_for (issueAt c h ρ f Ts) $$ [Hbatch HX HH HT]
  · intro k acc; exact issue_step c h ρ f Ts i hρ _ _ _ _ _ _ _ _ _ _ _ _ _ _ _ _ _ _ _ k0_h1 k acc
  · unfold issueAt
    isplitl [Hbatch]; · iexact Hbatch
    isplitl [HX]; · iexact HX
    isplitl [HH]; · iexact HH
    iexact HT
  iintro %acc HL
  ihave HL' := (show issueAt c h ρ f Ts (Scf.trips k0_t1_loop.lb k0_t1_loop.ub k0_t1_loop.st) acc ⊢ iprop(batch c h ρ 256 0 ∗ tab c Ts) from by
      rw [show Scf.trips k0_t1_loop.lb k0_t1_loop.ub k0_t1_loop.st = 256 from trips1]
      unfold issueAt; iintro ⟨HB, -, -, HT⟩; isplitl [HB] <;> iassumption) $$ HL
  icases HL' with ⟨Hbatch, HT⟩
  rcases hb with ⟨hf, rfl, rfl, rfl⟩ | ⟨hf, rfl, rfl, rfl⟩
  · sl_exec! (disch := first | exact hf | (guard_target = ¬(k0_cond3 _ _ = _); exact k0_h3))
    sl_for (drainAt c h ρ) $$ [Hbatch Hw]
    · intro k acc; exact drain_step c h ρ i _ _ _ _ _ _ _ _ _ _ _ _ _ _ _ _ _ _ k acc
    · unfold drainAt
      rw [if_pos (by decide)]
      isplitr; · ipureintro; omega
      isplitl [Hw]; · iexists _; iexact Hw
      rw [Nat.zero_mul]; iexact Hbatch
    iintro %acc' HL
    ihave HL' := (drain_done c h ρ acc') $$ HL
    icases HL' with ⟨⟨%W', HW⟩, Hsem, HD⟩
    ihave HG := (gather_done c h ρ) $$ [HD HR]
    · isplitl [HD] <;> iassumption
    icases HG with ⟨HX, HH⟩
    sl_exec! (disch := first | exact hf | (guard_target = ¬(k0_cond3 _ _ = _); exact k0_h3))
    sl_step
    iapply Hk
    isplitl [HE]; · iexact HE
    isplitl [HN]; · iexact HN
    isplitl [HT]; · iexact HT
    isplitl [HH]; · iexact HH
    isplitl [HA]; · iexact HA
    isplitl [HB]; · iexact HB
    isplitl [HC]; · iexact HC
    isplitl [HO]
    · iexists _; isplitr; swap
      · iexact HO
      · ipureintro
        refine (read_full arg8 inb_S256x2048_S256x2048_0_0 _ _).trans ?_
        exact congr (congr (congr (congrArg k0_pay4 (View.readAt_full _ _ _)) ((View.readCov_full _ _ _ _ _).trans (congrArg k0_pay1 (View.readAt_rep_full _ _ _)))) ((View.readCov_full _ _ _ _ _).trans (congrArg k0_pay2 (View.readAt_rep_full _ _ _)))) ((View.readCov_full _ _ _ _ _).trans (congrArg k0_pay3 (View.readAt_rep_full _ _ _)))
    isplitl [HX]; · iexact HX
    isplitl [H1]
    · iapply (held_of_eq c cc0_scratch1 ?_) $$ H1
      exact (whole_store cc0_scratch1 inb_S2048x512_S2048x512_0_0 _ _).trans (congrArg k0_pay1 (View.readAt_rep_full arg5.view x1 inb_S1x2048x512_S1x2048x512_0_0_0))
    isplitl [H2]
    · iapply (held_of_eq c cc0_scratch2 ?_) $$ H2
      exact (whole_store cc0_scratch2 inb_S2048x512_S2048x512_0_0 _ _).trans (congrArg k0_pay2 (View.readAt_rep_full arg6.view x2 inb_S1x2048x512_S1x2048x512_0_0_0))
    isplitl [H3]
    · iapply (held_of_eq c cc0_scratch3 ?_) $$ H3
      exact (whole_store cc0_scratch3 inb_S512x2048_S512x2048_0_0 _ _).trans (congrArg k0_pay3 (View.readAt_rep_full arg7.view x3 inb_S1x512x2048_S1x512x2048_0_0_0))
    isplitl [Hsem]; · iexact Hsem
    iexists _; iexact HW
  · sl_exec! (disch := first | exact hf | (guard_target = ¬(k0_cond3 _ _ = _); exact k0_h3))
    sl_for (drainAt c h ρ) $$ [Hbatch Hw]
    · intro k acc; exact drain_step c h ρ i _ _ _ _ _ _ _ _ _ _ _ _ _ _ _ _ _ _ k acc
    · unfold drainAt
      rw [if_pos (by decide)]
      isplitr; · ipureintro; omega
      isplitl [Hw]; · iexists _; iexact Hw
      rw [Nat.zero_mul]; iexact Hbatch
    iintro %acc' HL
    ihave HL' := (drain_done c h ρ acc') $$ HL
    icases HL' with ⟨⟨%W', HW⟩, Hsem, HD⟩
    ihave HG := (gather_done c h ρ) $$ [HD HR]
    · isplitl [HD] <;> iassumption
    icases HG with ⟨HX, HH⟩
    sl_exec! (disch := first | exact hf | (guard_target = ¬(k0_cond3 _ _ = _); exact k0_h3))
    sl_step
    iapply Hk
    isplitl [HE]; · iexact HE
    isplitl [HN]; · iexact HN
    isplitl [HT]; · iexact HT
    isplitl [HH]; · iexact HH
    isplitl [HA]; · iexact HA
    isplitl [HB]; · iexact HB
    isplitl [HC]; · iexact HC
    isplitl [HO]
    · iexists _; isplitr; swap
      · iexact HO
      · ipureintro
        refine (read_full arg8 inb_S256x2048_S256x2048_0_0 _ _).trans ?_
        exact congr (congr (congr (congrArg k0_pay4 (View.readAt_full _ _ _)) (View.readAt_full _ _ _)) (View.readAt_full _ _ _)) (View.readAt_full _ _ _)
    isplitl [HX]; · iexact HX
    isplitl [H1]; · iexact H1
    isplitl [H2]; · iexact H2
    isplitl [H3]; · iexact H3
    isplitl [Hsem]; · iexact Hsem
    iexists _; iexact HW

end Cert.Kernel.Rows

end
-- ==== Proof.ExpertsLaunch.lean ====
/- The experts' kernel launched: what the weights' blocks are, what is held between two grid points, each point from
   one to the next, and what every final state holds. -/
module

public import proofs.«01_k».proof.Proof.ExpertsRun
public import proofs.«01_k».proof.Proof.Gen.Kernel.Launch
public import Idealize.ShloMosaic.Lib.Pipeline.Kit
public import Idealize.ShloMosaic.Lib.Pipeline.Frame

@[expose] public section

set_option maxRecDepth 16384
set_option Elab.async false
set_option backward.isDefEq.respectTransparency.types false

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-! ## The routing's tables -/

/-- The expert of each tile, -/
abbrev Te : S104.Idx → BitVec 32 := m (((0 : Dev nD) : Thread nD τ).loc main_arg0)
/-- the number of live tiles, -/
abbrev Tn : S1.Idx → BitVec 32 := m (((0 : Dev nD) : Thread nD τ).loc main_arg1)
/-- and the token of each row. -/
abbrev Ts : S26624.Idx → BitVec 32 := m (((0 : Dev nD) : Thread nD τ).loc main_arg2)

/-- Every tile's expert is one of the 32, and every row's token one of the 9216. -/
structure Routed : Prop where
  te : ∀ y, (Te m y).toNat < 32
  src : ∀ y, (Ts m y).toNat < 9216

variable (hr : Routed m)

/-- The tables, as the index maps read them. -/
def tabs : pre0.Contents (Elt F) := fun k => m (((0 : Dev nD) : Thread nD τ).loc (pre0.ref k))

/-- Tile `i`'s expert. -/
def expert (hr : Routed m) (i : grid0.Coords) : Fin 32 := ⟨(hereWord (F := F) (Te m) i).toNat, hr.te _⟩

/-- The index maps at the tables send a tile to its expert's block. -/
theorem ix_1 (i : grid0.Coords) : cc0_transform_1 k0_off1_inb numel1_S1 (tabs m) i = ![(expert m hr i).val, 0, 0] := rfl
theorem ix_2 (i : grid0.Coords) : cc0_transform_2 k0_off1_inb numel1_S1 (tabs m) i = ![(expert m hr i).val, 0, 0] := rfl
theorem ix_3 (i : grid0.Coords) : cc0_transform_3 k0_off1_inb numel1_S1 (tabs m) i = ![(expert m hr i).val, 0, 0] := rfl

/-- Every block lies in its array. -/
theorem ok_tabs (hr : Routed m) : ok0 (tabs m) := by
  refine ⟨fun i => ⟨fun a => ?_, Or.inl rfl⟩, fun i => ⟨fun a => ?_, Or.inl rfl⟩, fun i => ⟨fun a => ?_, Or.inl rfl⟩⟩
  all_goals have he := (expert m hr i).isLt
  · rw [ix_1 m hr]; fin_cases a
    · show ((expert m hr i).val + 1) * 1 ≤ 32; omega
    · show (0 + 1) * 2048 ≤ 2048; omega
    · show (0 + 1) * 512 ≤ 512; omega
  · rw [ix_2 m hr]; fin_cases a
    · show ((expert m hr i).val + 1) * 1 ≤ 32; omega
    · show (0 + 1) * 2048 ≤ 2048; omega
    · show (0 + 1) * 512 ≤ 512; omega
  · rw [ix_3 m hr]; fin_cases a
    · show ((expert m hr i).val + 1) * 1 ≤ 32; omega
    · show (0 + 1) * 512 ≤ 512; omega
    · show (0 + 1) * 2048 ≤ 2048; omega

def adm : (pcfg0 (F := F)).Adm := ⟨tabs m, ok_tabs m hr⟩
abbrev cfgA : Pipeline.Cfg sig Λ₀ := cfg0 (F := F) (adm m hr)
abbrev pcs : Fin 1 → Pipeline.Cfg sig Λ₀ := Pipeline.pin (pcfgs (F := F)) fun _ => adm m hr

/-- Point `t`'s coordinates, and each window's staging buffer there. -/
abbrev crd (t : Fin (cfgA m hr).N) : grid0.Coords := (cfgA m hr).grid.coords t
abbrev ms0_0 (t : Fin (cfgA m hr).N) : Memref sig .tc .vmem S1x2048x512 .f32 := spec0_0.stage ((cfgA m hr).slots t (0 : Fin 4))
abbrev hs0_0 (t : Fin (cfgA m hr).N) : (ms0_0 m hr t).IsWhole := hstage0_0 (((cfgA m hr).slots t (0 : Fin 4)).cast nbuf0_0)
abbrev ms0_1 (t : Fin (cfgA m hr).N) : Memref sig .tc .vmem S1x2048x512 .f32 := spec0_1.stage ((cfgA m hr).slots t (1 : Fin 4))
abbrev hs0_1 (t : Fin (cfgA m hr).N) : (ms0_1 m hr t).IsWhole := hstage0_1 (((cfgA m hr).slots t (1 : Fin 4)).cast nbuf0_1)
abbrev ms0_2 (t : Fin (cfgA m hr).N) : Memref sig .tc .vmem S1x512x2048 .f32 := spec0_2.stage ((cfgA m hr).slots t (2 : Fin 4))
abbrev hs0_2 (t : Fin (cfgA m hr).N) : (ms0_2 m hr t).IsWhole := hstage0_2 (((cfgA m hr).slots t (2 : Fin 4)).cast nbuf0_2)
abbrev ms0_3 (t : Fin (cfgA m hr).N) : Memref sig .tc .vmem S256x2048 .f32 := spec0_3.stage ((cfgA m hr).slots t (3 : Fin 4))
abbrev hs0_3 (t : Fin (cfgA m hr).N) : (ms0_3 m hr t).IsWhole := hstage0_3 (((cfgA m hr).slots t (3 : Fin 4)).cast nbuf0_3)

/-! ## Words -/

theorem crd_val (t : Fin (cfgA m hr).N) : (crd m hr t 0).val = t.val :=
  (show ∀ t : Fin grid0.N, (grid0.coords t 0).val = t.val by decide +kernel) t

/-- Tile `i` is live. -/
abbrev live (i : grid0.Coords) : Prop := k0_cond1 i (liveWord (F := F) (Tn m)) = 1#1

/-- A tile below the count of live tiles is live. -/
theorem cond1_iff (i : grid0.Coords) (w : BitVec 32) : k0_cond1 i w = 1#1 ↔ ((i 0).val : ℤ) < w.toInt := by
  have hi : (i 0).val < 104 := (i 0).isLt
  have e : (BitVec.ofNat 32 (i 0).val).toInt = ((i 0).val : ℤ) := by
    rw [BitVec.toInt_eq_toNat_of_lt (by rw [BitVec.toNat_ofNat]; omega), BitVec.toNat_ofNat]; omega
  have key : k0_cond1 i w = BitVec.ofBool (BitVec.slt (BitVec.ofNat 32 (i 0).val) w) := by
    unfold k0_cond1
    show Scalar.cmpi .ne (Scalar.extui (BitVec.ofBool (BitVec.slt (BitVec.ofNat 32 (i 0).val) w)) : BitVec 32) 0#32 = _
    cases BitVec.slt (BitVec.ofNat 32 (i 0).val) w <;> decide
  rw [key, ← e]
  unfold BitVec.slt
  by_cases h : (BitVec.ofNat 32 (i 0).val).toInt < w.toInt <;> simp [h]

/-- A tile is either live or dead. -/
theorem cond3_iff (i : grid0.Coords) (w : BitVec 32) : k0_cond3 i w = 1#1 ↔ ¬ k0_cond1 i w = 1#1 := by
  rw [cond1_iff]
  have hi : (i 0).val < 104 := (i 0).isLt
  have e : (BitVec.ofNat 32 (i 0).val).toInt = ((i 0).val : ℤ) := by
    rw [BitVec.toInt_eq_toNat_of_lt (by rw [BitVec.toNat_ofNat]; omega), BitVec.toNat_ofNat]; omega
  have key : k0_cond3 i w = BitVec.ofBool (BitVec.sle w (BitVec.ofNat 32 (i 0).val)) := by
    unfold k0_cond3
    show Scalar.cmpi .ne (Scalar.extui (BitVec.ofBool (BitVec.sle w (BitVec.ofNat 32 (i 0).val))) : BitVec 32) 0#32 = _
    cases BitVec.sle w (BitVec.ofNat 32 (i 0).val) <;> decide
  rw [key, ← e]
  unfold BitVec.sle
  by_cases h : w.toInt ≤ (BitVec.ofNat 32 (i 0).val).toInt <;> simp [h]

/-- An element of a vector of 104 by its number. -/
abbrev ix1 (n : ℕ) (h : n < 104) : S104.Idx := fun a => match a with | ⟨0, _⟩ => ⟨n, h⟩

theorem hereWord_eq (T : S104.Idx → BitVec 32) (i : grid0.Coords) : hereWord (F := F) T i = T (ix1 (i 0).val (i 0).isLt) :=
  congrArg T (funext fun a => Fin.ext (by
    match a with
    | ⟨0, _⟩ => show k0_off1 i 0 + 1 * 0 = (i 0).val; rw [k0_off1_eq]; rfl))

theorem k0_off2_eq : ∀ i : grid0.Coords, k0_off2 i = ![(i 0).val - 1] := by decide +kernel

theorem prevWord_eq (T : S104.Idx → BitVec 32) (i : grid0.Coords) :
    prevWord (F := F) T i = T (ix1 ((i 0).val - 1) (by have : (i 0).val < 104 := (i 0).isLt; omega)) :=
  congrArg T (funext fun a => Fin.ext (by
    match a with
    | ⟨0, _⟩ => show k0_off2 i 0 + 1 * 0 = (i 0).val - 1; rw [k0_off2_eq]; rfl))

/-- A tile that casts no weights is no first tile, and has the expert of the tile before it. -/
theorem not_fresh (T : S104.Idx → BitVec 32) (i : grid0.Coords) (h : ¬ fresh (F := F) T i = 1#1) :
    (i 0).val ≠ 0 ∧ hereWord (F := F) T i = prevWord (F := F) T i := by
  have hi : (i 0).val < 104 := (i 0).isLt
  constructor
  · intro h0
    apply h
    unfold fresh
    rw [h0]
    generalize Scalar.cmpi .ne (hereWord (F := F) T i) (prevWord (F := F) T i) = b
    revert b; decide
  · by_contra hne
    apply h
    unfold fresh
    rw [show Scalar.cmpi .ne (hereWord (F := F) T i) (prevWord (F := F) T i) = 1#1 by
      show BitVec.ofBool (hereWord (F := F) T i != prevWord (F := F) T i) = 1#1
      rw [bne_iff_ne.mpr hne]; rfl]
    generalize Scalar.cmpi .eq (BitVec.ofNat 32 (i 0).val) 0#32 = b
    revert b; decide

/-- The token of each row of tile `i`. -/
def rows (i : grid0.Coords) (k : Fin 256) : Fin 9216 :=
  ⟨(Ts m (fun a => match a with | ⟨0, _⟩ => ⟨256 * (i 0).val + k.val, by have : (i 0).val < 104 := (i 0).isLt; have := k.isLt; show _ < 26624; omega⟩)).toNat, hr.src _⟩

theorem rows_word (i : grid0.Coords) (k : Fin k0_t1_loop.trips) :
    (srcWord (F := F) (Ts m) i k).toNat = (rows m hr i ⟨k.val, trips1 ▸ k.isLt⟩).val :=
  congrArg (fun y => (Ts m y).toNat) (funext fun a => Fin.ext (by
    match a with
    | ⟨0, _⟩ => show k0_off3 i k 0 + 1 * 0 = 256 * (i 0).val + k.val; rw [k0_off3_eq]; rfl))

/-! ## The windows' blocks -/

variable (c : Dev nD)

/-- Expert `e`'s gate weights, -/
def gateAt (e : Fin 32) : S1x2048x512.Idx → Elt F .f32 :=
  fun y => m ((c : Thread nD τ).loc main_arg4) (fun a => match a with | ⟨0, _⟩ => e | ⟨1, _⟩ => y 1 | ⟨2, _⟩ => y 2)
/-- its up weights, -/
def upAt (e : Fin 32) : S1x2048x512.Idx → Elt F .f32 :=
  fun y => m ((c : Thread nD τ).loc main_arg5) (fun a => match a with | ⟨0, _⟩ => e | ⟨1, _⟩ => y 1 | ⟨2, _⟩ => y 2)
/-- and its down weights. -/
def downAt (e : Fin 32) : S1x512x2048.Idx → Elt F .f32 :=
  fun y => m ((c : Thread nD τ).loc main_arg6) (fun a => match a with | ⟨0, _⟩ => e | ⟨1, _⟩ => y 1 | ⟨2, _⟩ => y 2)

/-- The hidden states. -/
abbrev hid : S9216x2048.Idx → Elt F .f32 := m ((c : Thread nD τ).loc main_arg3)

/-- What tile `i` stores. -/
def outAt (i : grid0.Coords) : S256x2048.Idx → Elt F .f32 :=
  if live m i then
    tileOut (hid m c) (rows m hr i) (k0_pay1 (gateAt m c (expert m hr i))) (k0_pay2 (upAt m c (expert m hr i))) (k0_pay3 (downAt m c (expert m hr i)))
  else k0_pay5

/-! ## What is held between two points -/

/-- The cast weights are those of the expert of the tile before, if that tile is live. -/
def Cast (t : Fin ((cfgA m hr).N + 1)) (a1 a2 : S2048x512.Idx → Elt F .bf16) (a3 : S512x2048.Idx → Elt F .bf16) : Prop :=
  ∀ u : Fin (cfgA m hr).N, u.val + 1 = t.val → live m (crd m hr u) →
    a1 = k0_pay1 (gateAt m c (expert m hr (crd m hr u))) ∧ a2 = k0_pay2 (upAt m c (expert m hr (crd m hr u))) ∧ a3 = k0_pay3 (downAt m c (expert m hr (crd m hr u)))

def Phi (t : Fin ((cfgA m hr).N + 1)) : sProp 𝕄 :=
  iprop((∃ a0 a1 a2 a3, ⌜Cast m hr c t a1 a2 a3⌝ ∗ held c cc0_scratch0 fullShare a0 ∗ held c cc0_scratch1 fullShare a1 ∗ held c cc0_scratch2 fullShare a2 ∗ held c cc0_scratch3 fullShare a3)
    ∗ (∃ r, prngReg c r) ∗ semVal ((c : Thread nD τ), SemLoc.dma cc0_scratch4.sem) 0 ∗ held c main_arg3 fullShare (hid m c)
    ∗ held c main_arg0 fullShare.right (Te m) ∗ held c main_arg1 fullShare.right (Tn m) ∗ tab c (Ts m))

/-- The proof data of the one pipeline on core `c`. -/
def dats (_ : Fin 1) (c : Dev nD) : Dat τ (Elt F) Unit ℕ (Pipeline.UD sig nD τ) ℕ (cfgA m hr) c where
  A w := m (((cfgA m hr).win w).arr.view.loc (c : Thread nD τ))
  after w t := match w with
    | ⟨0, _⟩ => gateAt m c (expert m hr (crd m hr t))
    | ⟨1, _⟩ => upAt m c (expert m hr (crd m hr t))
    | ⟨2, _⟩ => downAt m c (expert m hr (crd m hr t))
    | ⟨3, _⟩ => outAt m hr c (crd m hr t)
  Φ t := Phi m hr c t
  q _ := fullShare
  owed _ := 0

theorem after0_0 (t : Fin (cfgA m hr).N) : (dats m hr 0 c).after (0 : Fin 4) t = gateAt m c (expert m hr (crd m hr t)) := rfl
theorem after0_1 (t : Fin (cfgA m hr).N) : (dats m hr 0 c).after (1 : Fin 4) t = upAt m c (expert m hr (crd m hr t)) := rfl
theorem after0_2 (t : Fin (cfgA m hr).N) : (dats m hr 0 c).after (2 : Fin 4) t = downAt m c (expert m hr (crd m hr t)) := rfl
theorem after0_3 (t : Fin (cfgA m hr).N) : (dats m hr 0 c).after (3 : Fin 4) t = outAt m hr c (crd m hr t) := rfl

/-- The gate weights' block at point `t`, read off the array, is the expert's. -/
theorem blk_0 (t : Fin (cfgA m hr).N) : (dats m hr 0 c).blockOf (0 : Fin 4) t = gateAt m c (expert m hr (crd m hr t)) := by
  funext y
  have hy : (y 0).val < 1 := (y 0).isLt
  refine congrArg (m ((c : Thread nD τ).loc main_arg4)) (funext fun a => Fin.ext ?_)
  match a with
  | ⟨0, _⟩ => show (expert m hr (crd m hr t)).val * 1 + 1 * (y 0).val = (expert m hr (crd m hr t)).val; omega
  | ⟨1, _⟩ => show 0 * 2048 + 1 * (y 1).val = (y 1).val; omega
  | ⟨2, _⟩ => show 0 * 512 + 1 * (y 2).val = (y 2).val; omega

theorem blk_1 (t : Fin (cfgA m hr).N) : (dats m hr 0 c).blockOf (1 : Fin 4) t = upAt m c (expert m hr (crd m hr t)) := by
  funext y
  have hy : (y 0).val < 1 := (y 0).isLt
  refine congrArg (m ((c : Thread nD τ).loc main_arg5)) (funext fun a => Fin.ext ?_)
  match a with
  | ⟨0, _⟩ => show (expert m hr (crd m hr t)).val * 1 + 1 * (y 0).val = (expert m hr (crd m hr t)).val; omega
  | ⟨1, _⟩ => show 0 * 2048 + 1 * (y 1).val = (y 1).val; omega
  | ⟨2, _⟩ => show 0 * 512 + 1 * (y 2).val = (y 2).val; omega

theorem blk_2 (t : Fin (cfgA m hr).N) : (dats m hr 0 c).blockOf (2 : Fin 4) t = downAt m c (expert m hr (crd m hr t)) := by
  funext y
  have hy : (y 0).val < 1 := (y 0).isLt
  refine congrArg (m ((c : Thread nD τ).loc main_arg6)) (funext fun a => Fin.ext ?_)
  match a with
  | ⟨0, _⟩ => show (expert m hr (crd m hr t)).val * 1 + 1 * (y 0).val = (expert m hr (crd m hr t)).val; omega
  | ⟨1, _⟩ => show 0 * 512 + 1 * (y 1).val = (y 1).val; omega
  | ⟨2, _⟩ => show 0 * 2048 + 1 * (y 2).val = (y 2).val; omega

/-- An input's staging buffer holds its block when the body runs. -/
theorem before0_0 (t : Fin (cfgA m hr).N) (d) : (dats m hr 0 c).before (0 : Fin 4) t d = gateAt m c (expert m hr (crd m hr t)) :=
  ((dats m hr 0 c).before_in_eq_fetched (0 : Fin 4) rfl (fun _ => rfl) (fun _ _ _ => rfl) (fun t => (after0_0 m hr c t).trans (blk_0 m hr c t).symm) t d).trans
    (by unfold Dat.fetched; exact blk_0 m hr c t)
theorem before0_1 (t : Fin (cfgA m hr).N) (d) : (dats m hr 0 c).before (1 : Fin 4) t d = upAt m c (expert m hr (crd m hr t)) :=
  ((dats m hr 0 c).before_in_eq_fetched (1 : Fin 4) rfl (fun _ => rfl) (fun _ _ _ => rfl) (fun t => (after0_1 m hr c t).trans (blk_1 m hr c t).symm) t d).trans
    (by unfold Dat.fetched; exact blk_1 m hr c t)
theorem before0_2 (t : Fin (cfgA m hr).N) (d) : (dats m hr 0 c).before (2 : Fin 4) t d = downAt m c (expert m hr (crd m hr t)) :=
  ((dats m hr 0 c).before_in_eq_fetched (2 : Fin 4) rfl (fun _ => rfl) (fun _ _ _ => rfl) (fun t => (after0_2 m hr c t).trans (blk_2 m hr c t).symm) t d).trans
    (by unfold Dat.fetched; exact blk_2 m hr c t)

/-- Every point stores its output. -/
theorem idle_3 (t : Fin (cfgA m hr).N) : (cfgA m hr).idle (3 : Fin 4) ((cfgA m hr).grid.coords t) = false := by
  show (!(k0_cond1 (crd m hr t) ((tabs m).atD 1 ![0]) == 1#1) && !(k0_cond3 (crd m hr t) ((tabs m).atD 1 ![0]) == 1#1)) = false
  have h := cond3_iff (crd m hr t) ((tabs m).atD 1 ![0])
  by_cases h1 : k0_cond1 (crd m hr t) ((tabs m).atD 1 ![0]) = 1#1
  · rw [beq_iff_eq.mpr h1]; rfl
  · rw [beq_iff_eq.mpr (h.mpr h1), Bool.not_true, Bool.and_false]

/-- After a live point the cast weights are its expert's. -/
theorem cast_succ (t : Fin (cfgA m hr).N) :
    Cast m hr c t.succ (k0_pay1 (gateAt m c (expert m hr (crd m hr t)))) (k0_pay2 (upAt m c (expert m hr (crd m hr t)))) (k0_pay3 (downAt m c (expert m hr (crd m hr t)))) := by
  intro u hu _
  have e : u = t := Fin.ext (by have : t.succ.val = t.val + 1 := rfl; omega)
  rw [e]; exact ⟨rfl, rfl, rfl⟩

/-- After a dead point nothing is said of them. -/
theorem cast_dead (t : Fin (cfgA m hr).N) (hd : ¬ live m (crd m hr t)) (a1 a2 : S2048x512.Idx → Elt F .bf16) (a3 : S512x2048.Idx → Elt F .bf16) :
    Cast m hr c t.succ a1 a2 a3 := by
  intro u hu hl
  have e : u = t := Fin.ext (by have : t.succ.val = t.val + 1 := rfl; omega)
  rw [e] at hl; exact absurd hl hd

/-- At a live point the weights the body uses are its expert's, cast there or at the point before. -/
theorem cast_here (t : Fin (cfgA m hr).N) (hl : live m (crd m hr t)) (a1 a2 : S2048x512.Idx → Elt F .bf16) (a3 : S512x2048.Idx → Elt F .bf16)
    (ha : Cast m hr c t.castSucc a1 a2 a3) :
    (fresh (F := F) (Te m) (crd m hr t) = 1#1 ∧ k0_pay1 (gateAt m c (expert m hr (crd m hr t))) = k0_pay1 (gateAt m c (expert m hr (crd m hr t)))
        ∧ k0_pay2 (upAt m c (expert m hr (crd m hr t))) = k0_pay2 (upAt m c (expert m hr (crd m hr t)))
        ∧ k0_pay3 (downAt m c (expert m hr (crd m hr t))) = k0_pay3 (downAt m c (expert m hr (crd m hr t))))
      ∨ (¬ fresh (F := F) (Te m) (crd m hr t) = 1#1 ∧ k0_pay1 (gateAt m c (expert m hr (crd m hr t))) = a1
        ∧ k0_pay2 (upAt m c (expert m hr (crd m hr t))) = a2 ∧ k0_pay3 (downAt m c (expert m hr (crd m hr t))) = a3) := by
  by_cases hf : fresh (F := F) (Te m) (crd m hr t) = 1#1
  · exact Or.inl ⟨hf, rfl, rfl, rfl⟩
  · refine Or.inr ⟨hf, ?_⟩
    obtain ⟨h0, he⟩ := not_fresh (Te m) (crd m hr t) hf
    rw [crd_val] at h0
    have hN := t.isLt
    let u : Fin (cfgA m hr).N := ⟨t.val - 1, by omega⟩
    have hu : (crd m hr u 0).val = t.val - 1 := crd_val m hr u
    have hlu : live m (crd m hr u) := by
      unfold live at hl ⊢
      rw [cond1_iff] at hl ⊢
      rw [crd_val] at hl
      rw [hu]; omega
    have hx : expert m hr (crd m hr t) = expert m hr (crd m hr u) := by
      apply Fin.ext
      show (hereWord (F := F) (Te m) (crd m hr t)).toNat = (hereWord (F := F) (Te m) (crd m hr u)).toNat
      rw [he, prevWord_eq, hereWord_eq]
      refine congrArg (fun y => (Te m y).toNat) (funext fun a => Fin.ext ?_)
      match a with
      | ⟨0, _⟩ => show (crd m hr t 0).val - 1 = (crd m hr u 0).val; rw [crd_val, hu]
    obtain ⟨e1, e2, e3⟩ := ha u (by show t.val - 1 + 1 = t.val; omega) hlu
    rw [hx]; exact ⟨e1.symm, e2.symm, e3.symm⟩

set_option maxHeartbeats 4000000 in
/-- The body at point `t`, from what is held before it to what is held after it. -/
theorem sound_body (t : Fin (cfgA m hr).N) :
    iprop((dats m hr 0 c).Φ t.castSucc ∗ (dats m hr 0 c).owesAt () t.castSucc
        ∗ (∃ d, owns (c : Thread nD τ) (ms0_0 m hr t) fullShare ((dats m hr 0 c).before (0 : Fin 4) t d))
        ∗ (∃ d, owns (c : Thread nD τ) (ms0_1 m hr t) fullShare ((dats m hr 0 c).before (1 : Fin 4) t d))
        ∗ (∃ d, owns (c : Thread nD τ) (ms0_2 m hr t) fullShare ((dats m hr 0 c).before (2 : Fin 4) t d))
        ∗ (∃ d, owns (c : Thread nD τ) (ms0_3 m hr t) fullShare ((dats m hr 0 c).before (3 : Fin 4) t d)))
      ⊢ wp frame (wpE (defs₀ (F := F)) Variants.none (c : Thread nD τ) none) Set.univ
          (point (crd m hr t) (ms0_0 m hr t) (hs0_0 m hr t) (ms0_1 m hr t) (hs0_1 m hr t) (ms0_2 m hr t) (hs0_2 m hr t) (ms0_3 m hr t) (hs0_3 m hr t)) fun _ =>
          iprop((dats m hr 0 c).Φ t.succ ∗ (dats m hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m hr 0 c).before w t d))
                  | true => owns (c : Thread nD τ) (((cfgA m hr).win w).stage ((cfgA m hr).slots t w)) fullShare ((dats m hr 0 c).after w t)
                | false => owns (c : Thread nD τ) (((cfgA m hr).win w).stage ((cfgA m hr).slots t w)) fullShare ((dats m hr 0 c).after w t)) := by
  rw [bigSep_W0]
  rewrite [idle_3 m hr t]
  simp only [before0_0, before0_1, before0_2, after0_0, after0_1, after0_2, after0_3]
  rewrite [show (dats m hr 0 c).Φ t.succ = Phi m hr c t.succ from rfl, show (dats m hr 0 c).Φ t.castSucc = Phi m hr c t.castSucc from rfl,
    show (dats m hr 0 c).owesAt () t.succ = (dats m hr 0 c).owesAt () t.castSucc from rfl]
  unfold Phi
  iintro ⟨⟨⟨%a0, %a1, %a2, %a3, %ha, H0, H1, H2, H3⟩, Hp, Hsem, HH, HE, HN, HT⟩, ⟨%W, %hW, HW⟩, ⟨%d0, HA⟩, ⟨%d1, HB⟩, ⟨%d2, HC⟩, ⟨%d3, HO⟩⟩
  by_cases hl : live m (crd m hr t)
  · iapply (run_live c (hid m c) (rows m hr (crd m hr t)) (crd m hr t) (ms0_0 m hr t) (hs0_0 m hr t) (ms0_1 m hr t) (hs0_1 m hr t) (ms0_2 m hr t) (hs0_2 m hr t) (ms0_3 m hr t) (hs0_3 m hr t)
      (Tn m) (Te m) (Ts m) (rows_word m hr (crd m hr t)) hl (fun h => (cond3_iff _ _).mp h hl) (gateAt m c (expert m hr (crd m hr t))) (upAt m c (expert m hr (crd m hr t))) (downAt m c (expert m hr (crd m hr t)))
      a0 a1 a2 _ _ a3 _ (cast_here m hr c t hl a1 a2 a3 ha) W _)
    isplitl [HE]; · iexact HE
    isplitl [HN]; · iexact HN
    isplitl [HT]; · iexact HT
    isplitl [HH]; · iexact HH
    isplitl [HA]; · iapply rep_of_owns; iexact HA
    isplitl [HB]; · iapply rep_of_owns; iexact HB
    isplitl [HC]; · iapply rep_of_owns; iexact HC
    isplitl [HO]; · iexists _; iexact HO
    isplitl [H0]; · iexact H0
    isplitl [H1]; · iexact H1
    isplitl [H2]; · iexact H2
    isplitl [H3]; · iexact H3
    isplitl [Hsem]; · iexact Hsem
    isplitl [HW]; · iexact HW
    iintro ⟨HE, HN, HT, HH, HA, HB, HC, HO, H0, H1, H2, H3, Hsem, ⟨%W', HW⟩⟩
    isplitl [H0 H1 H2 H3 Hp Hsem HH HE HN HT]
    · isplitl [H0 H1 H2 H3]
      · iexists _; iexists _; iexists _; iexists _
        isplitr; swap
        · isplitl [H0]; · iexact H0
          isplitl [H1]; · iexact H1
          isplitl [H2]; · iexact H2
          iexact H3
        · ipureintro; exact cast_succ m hr c t
      isplitl [Hp]; · iexact Hp
      isplitl [Hsem]; · iexact Hsem
      isplitl [HH]; · iexact HH
      isplitl [HE]; · iexact HE
      isplitl [HN]; · iexact HN
      iexact HT
    isplitl [HW]
    · iexists W'; isplitr; swap
      · iexact HW
      · ipureintro; exact fun _ _ => Or.inl trivial
    isplitl [HA]; · iapply owns_of_rep; iexact HA
    isplitl [HB]; · iapply owns_of_rep; iexact HB
    isplitl [HC]; · iapply owns_of_rep; iexact HC
    rw [show outAt m hr c (crd m hr t) = tileOut (hid m c) (rows m hr (crd m hr t)) (k0_pay1 (gateAt m c (expert m hr (crd m hr t)))) (k0_pay2 (upAt m c (expert m hr (crd m hr t)))) (k0_pay3 (downAt m c (expert m hr (crd m hr t)))) from if_pos hl]
    iexact HO
  · iapply (run_dead c (crd m hr t) (ms0_0 m hr t) (hs0_0 m hr t) (ms0_1 m hr t) (hs0_1 m hr t) (ms0_2 m hr t) (hs0_2 m hr t) (ms0_3 m hr t) (hs0_3 m hr t)
      (Tn m) (Te m) hl ((cond3_iff _ _).mpr hl) _)
    isplitl [HE]; · iexact HE
    isplitl [HN]; · iexact HN
    isplitl [HO]; · iexists _; iexact HO
    iintro ⟨HE, HN, HO⟩
    isplitl [H0 H1 H2 H3 Hp Hsem HH HE HN HT]
    · isplitl [H0 H1 H2 H3]
      · iexists a0; iexists a1; iexists a2; iexists a3
        isplitr; swap
        · isplitl [H0]; · iexact H0
          isplitl [H1]; · iexact H1
          isplitl [H2]; · iexact H2
          iexact H3
        · ipureintro; exact cast_dead m hr c t hl a1 a2 a3
      isplitl [Hp]; · iexact Hp
      isplitl [Hsem]; · iexact Hsem
      isplitl [HH]; · iexact HH
      isplitl [HE]; · iexact HE
      isplitl [HN]; · iexact HN
      iexact HT
    isplitl [HW]
    · iexists W; isplitr; swap
      · iexact HW
      · ipureintro; exact hW
    isplitl [HA]; · iexact HA
    isplitl [HB]; · iexact HB
    isplitl [HC]; · iexact HC
    rw [show outAt m hr c (crd m hr t) = k0_pay5 from if_neg hl]
    iexact HO

/-- The body at every point. -/
theorem body_obligation : BodyObligation (dats m hr 0 c) (defs₀ (F := F)) Variants.none () Set.univ := fun t => by
  rw [bigSep_W0]
  exact sound_body m hr c t

/-! ## The launch -/

theorem share_eq (w : Fin (cfgA m hr).W) : (dats m hr 0 c).share w = fullShare := by unfold Dat.share; split <;> rfl

/-- The tables as the launch hands them out, one by one. -/
theorem prefHeld_eq (q : Fin 3 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The kernel's own semaphore. -/
abbrev osem : Fin 1 → SemLoc sig := fun _ => .dma cc0_scratch4.sem

theorem ownSems_eq : (Pipeline.ownSems0 (Ix := Unit) (Name := ℕ) (U := Pipeline.UD sig nD τ) (Lvl := ℕ) (Val := Elt F) (τ := τ) osem c : sProp 𝕄)
    = semVal ((c : Thread nD τ), SemLoc.dma cc0_scratch4.sem) 0 := by
  unfold Pipeline.ownSems0
  rw [show (Finset.univ : Finset (Fin 1)) = {(0 : Fin 1)} from by decide, bigSep_singleton]

/-- The contents at launch. -/
abbrev V (c : Dev nD) (b : Ref sig .tc) : Buf (Elt F) ((c : Thread nD τ).loc b) := m ((c : Thread nD τ).loc b)

theorem dev_eq (c : Dev nD) : c = 0 := Subsingleton.elim _ _

/-- What the launch hands over is what is held before the first point, -/
theorem phi_first : iprop(Pipeline.ΦD (Val := Elt F) osem spec0 {main_arg3} (V m) c ∗ Pipeline.ΦT pre0 (adm m hr).1 c) ⊢ (dats m hr 0 c).Φ 0 := by
  rw [Pipeline.ΦD_eq, ownSems_eq, bigSep_singleton, scopedRest0_eq, show (dats m hr 0 c).Φ 0 = Phi m hr c 0 from rfl]
  unfold Pipeline.ΦT Phi
  rw [prefHeld_eq]
  have hc := dev_eq c
  subst hc
  iintro ⟨⟨⟨⟨%a0, H0⟩, ⟨%a1, H1⟩, ⟨%a2, H2⟩, ⟨%a3, H3⟩⟩, Hp, Hsem, HH⟩, HE, HN, HT⟩
  isplitl [H0 H1 H2 H3]
  · iexists a0; iexists a1; iexists a2; iexists a3
    isplitr; swap
    · isplitl [H0]; · iexact H0
      isplitl [H1]; · iexact H1
      isplitl [H2]; · iexact H2
      iexact H3
    · ipureintro; intro u hu; exact absurd hu (Nat.succ_ne_zero _)
  isplitl [Hp]; · iexact Hp
  isplitl [Hsem]; · iexact Hsem
  isplitl [HH]; · iexact HH
  isplitl [HE]; · iexact HE
  isplitl [HN]; · iexact HN
  iexact HT

/-- and what is held after the last gives back the scratch buffers, the semaphore and the hidden states. -/
theorem phi_last : (dats m hr 0 c).Φ (Fin.last (cfgA m hr).N) ⊢ Pipeline.ΦD (Val := Elt F) osem spec0 {main_arg3} (V m) c := by
  rw [Pipeline.ΦD_eq, ownSems_eq, bigSep_singleton, scopedRest0_eq, show (dats m hr 0 c).Φ (Fin.last (cfgA m hr).N) = Phi m hr c (Fin.last _) from rfl]
  unfold Phi
  iintro ⟨⟨%a0, %a1, %a2, %a3, -, H0, H1, H2, H3⟩, Hp, Hsem, HH, -, -, -⟩
  isplitl [H0 H1 H2 H3]
  · isplitl [H0]; · iexists a0; iexact H0
    isplitl [H1]; · iexists a1; iexact H1
    isplitl [H2]; · iexists a2; iexact H2
    iexists a3; iexact H3
  isplitl [Hp]; · iexact Hp
  isplitl [Hsem]; · iexact Hsem
  iexact HH

set_option maxHeartbeats 4000000 in
/-- Every run ends, with each array at what the points wrote, every other buffer as it was, and every semaphore at zero. -/
theorem run_main (g : Dev nD → PrngReg) : θ_run (defs (F := F)) (onTc (τ := τ) (main (F := F))) (s₀ m g)
    (fun r => Pipeline.FramePost (pcs m hr) (dats m hr) 0 (V m) r ∧ r.2.sem = fun _ => 0) :=
  Pipeline.θ_run_frameP_dma pcfgs (fun _ => adm m hr) (dats m hr) (0 : Fin 1) launch0 osem defs₀ Variants.none
    (show Pipeline.OwnSemFacts spec0 osem by decide) {main_arg3} (show {main_arg3} ⊆ Pipeline.restRefsP sig pre0 spec0 by decide) m g main
    (hbody := fun c => (body_obligation m hr c).loose) (hshare := share_eq m hr) (howed := fun _ _ => rfl)
    (V := V m) (hmain := Pipeline.hmainP_region pcfgs 0 defs₀ Variants.none m main (fun c => main_chain c))
    (hA := fun _ _ => rfl) (hpf := fun c k => by rw [dev_eq c]; rfl)
    (hin := phi_first m hr) (hout := phi_last m hr)
    (Q' := fun r => Pipeline.FramePost (pcs m hr) (dats m hr) 0 (V m) r ∧ r.2.sem = fun _ => 0) (hQ' := fun _ h => h)

end Cert.Kernel.Rows

end
-- ==== Proof.ExpertsFrame.lean ====
/- What the precondition says of the routing's tables, and that the experts' kernel leaves its arguments as they were. -/
module

public import proofs.«01_k».proof.Defs
public import proofs.«01_k».proof.Proof.ExpertsLaunch
public import proofs.«01_k».proof.Proof.Gen.Pre_routed
public import Idealize.ShloMosaic.Lib.ReduceAll

@[expose] public section

set_option maxRecDepth 16384
set_option Elab.async false
set_option backward.isDefEq.respectTransparency.types false

noncomputable section

namespace Cert.Kernel.Rows

open Cert.Kernel Cert.Kernel.Gen
open Idealize.ShloMosaic Idealize.ShloMosaic.TcCoe Idealize.SL.Sem

attribute [local instance] Cert.Pre_routed.Gen.facts

variable {F : FTy → Type} [FloatOps F] [∀ e, Nonempty (Elt F e)]

/-- A word that is at least zero and less than a bound reads less than that bound without its sign. -/
theorem word_below (x : BitVec 32) (n : ℕ) (hn : n < 2 ^ 31)
    (h : IntOp.andi (IntOp.cmpi .sge x 0#32) (IntOp.cmpi .slt x (BitVec.ofNat 32 n)) = 1#1) : x.toNat < n := by
  have hb : (BitVec.ofNat 32 n).toInt = n := by
    rw [BitVec.toInt_eq_toNat_of_lt (by rw [BitVec.toNat_ofNat]; omega), BitVec.toNat_ofNat]; omega
  simp only [IntOp.cmpi, IntOp.andi, BitVec.sle, BitVec.slt, hb] at h
  have h0 : (0#32 : BitVec 32).toInt = 0 := by decide
  rw [h0] at h
  by_cases ha : (0 : ℤ) ≤ x.toInt <;> by_cases hc : x.toInt < (n : ℤ) <;> simp [ha, hc] at h
  have := BitVec.toInt_eq_toNat_cond x
  have hx := x.isLt
  split at this <;> omega

/-- The precondition: every tile's expert is one of the 32, and every row one of the 9216. -/
theorem tables_of_pre (a0 : IVec Cert.Pre_routed.S104 32) (a1 : IVec Cert.Pre_routed.S1 32) (a2 : IVec Cert.Pre_routed.S26624 32)
    (a3 : FVec F Cert.Pre_routed.S9216x2048 .f32) (a4 a5 : FVec F Cert.Pre_routed.S32x2048x512 .f32)
    (a6 : FVec F Cert.Pre_routed.S32x512x2048 .f32) (h : Cert.Pre_routed.fn (F := F) a0 a1 a2 a3 a4 a5 a6 = fun _ => 1#1) :
    (∀ y, (a0 y).toNat < 32) ∧ ∀ y, (a2 y).toNat < 9216 := by
  have h' := congrFun h (fun d => d.elim0)
  have hs : ∀ p q : BitVec 1, IntOp.andi p q = 1#1 → p = 1#1 ∧ q = 1#1 := by decide
  obtain ⟨he, hr⟩ := hs _ _ h'
  haveI : Subsingleton Cert.Pre_routed.S_.Idx := ⟨fun a b => funext fun d => d.elim0⟩
  exact ⟨fun y => word_below _ 32 (by decide) (Host.reduce_andi_all _ _ _ _ _ he y),
    fun y => word_below _ 9216 (by decide) (Host.reduce_andi_all _ _ _ _ _ hr y)⟩

variable (m : (ℓ : Loc nD τ sig) → Buf (Elt F) ℓ)

/-- A precondition on the arguments says that the routing's tables are in range. -/
theorem routed_of_pre
    (h : ∀ c : Dev nD, Cert.Pre_routed.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Routed m :=
  have t := tables_of_pre _ _ _ _ _ _ _ (h 0)
  ⟨t.1, t.2⟩

/-- Every final state: the result is what the grid's points wrote, the arguments are as they were, the counters zero. -/
theorem run_result (hr : Routed m) (g : Dev nD → PrngReg) :
    θ_run (defs (F := F)) (onTc (τ := τ) (main (F := F))) ⟨m, fun _ => 0, g⟩ (fun r => (∀ c : Dev nD,
      r.2.mem ((c.tc : Thread nD τ).loc main_v0) = (dats m hr 0 c).arrAt 3 (cfgA m hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ?_, h.2⟩) (run_main m hr g)
  have hc := h.1 c
  have rest : ∀ b, b ∈ Pipeline.restRefs sig spec0 → r.2.mem (((c : Dev nD) : Thread nD τ).loc b) = V m c b := hc.2
  exact ⟨hc.1 3, rest main_arg0 (by decide), rest main_arg1 (by decide), rest main_arg2 (by decide), rest main_arg3 (by decide),
    (hc.1 0).trans ((dats m hr 0 c).arrAt_in 0 rfl _), (hc.1 1).trans ((dats m hr 0 c).arrAt_in 1 rfl _),
    (hc.1 2).trans ((dats m hr 0 c).arrAt_in 2 rfl _)⟩

end Cert.Kernel.Rows

end
-- ==== Proof.ExpertsIdeal.lean ====
/- The idealized kernel is the kernel's own text, so its run at the extended reals is an instance of the kernel's. -/
module

public import proofs.«01_k».proof.Proof.ExpertsFrame
public import proofs.«01_k».proof.Proof.Gen.KernelIdeal

@[expose] public section

set_option maxRecDepth 16384
set_option Elab.async false
set_option backward.isDefEq.respectTransparency.types false

noncomputable section

namespace Cert.Kernel.Rows

open Idealize.ShloMosaic Idealize.ShloMosaic.TcCoe Idealize.SL.Sem
attribute [local instance] Cert.Pre_routed.Gen.facts Cert.KernelIdeal.Gen.facts Cert.Kernel.Gen.facts

set_option maxHeartbeats 2000000 in
/-- The two programs have one body. -/
theorem body_eq {F : FTy → Type} [FloatOps F] : @Cert.KernelIdeal.cc0_moe_experts F _ _ = @Cert.Kernel.cc0_moe_experts F _ _ := rfl
set_option maxHeartbeats 1000000 in
/-- They have one table of procedures, -/
theorem defs0_eq {F : FTy → Type} [FloatOps F] : (Cert.KernelIdeal.defs₀ (F := F)) = Cert.Kernel.defs₀ (F := F) := by
  unfold Cert.KernelIdeal.defs₀ Cert.Kernel.defs₀
  refine congrArg Defs.onTc (funext fun l => funext fun a => ?_)
  match l, a with
  | 0, (t, s) =>
    show @Cert.KernelIdeal.cc0_moe_experts F _ _ _ _ _ _ _ _ _ _ _ _ _ _ _ _ _ _ _ _ _ _ _ _ _ _ _ _ = _
    rw [body_eq]
    rfl

set_option maxHeartbeats 1000000 in
/-- also with the launch's own. -/
theorem defs_eq {F : FTy → Type} [FloatOps F] : (Cert.KernelIdeal.defs (F := F)) = Cert.Kernel.defs (F := F) := by
  unfold Cert.KernelIdeal.defs Cert.Kernel.defs
  exact congrArg (Pipeline.defs (Cert.Kernel.pcfgs (F := F))) defs0_eq

set_option maxHeartbeats 1000000 in
/-- The idealized kernel runs: the result is what the grid's stores leave, the arguments and the counters are as they were. -/
theorem run_ideal (m : (ℓ : Loc Cert.KernelIdeal.nD Cert.KernelIdeal.τ Cert.KernelIdeal.sig) → Buf (Elt Ideal) ℓ)
    (hr : Routed (F := Ideal) m) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_v0) = (dats m hr 0 c).arrAt 3 (cfgA m hr).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) := by
  rw [defs_eq]
  exact run_result (F := Ideal) m hr g

end Cert.Kernel.Rows

end
-- ==== Proof.ExpertsReference.lean ====
/- The reference of the experts' feed-forward, read at one element. -/
module

public import proofs.«01_k».proof.Proof.Gen.ReferenceIdeal.Run
public import Idealize.ShloMosaic.Lib.Pipeline.ValueKit
public import Idealize.ShloMosaic.Lib.Routing.Ops

@[expose] public section

set_option maxRecDepth 16384

noncomputable section

open Idealize.ShloMosaic Idealize.ShloMosaic.TcCoe Idealize.SL.Sem

/-- One output of the gated feed-forward of a token `x`: the gate's and the up projection's products, the gate through
the logistic function, and the down projection. -/
def Cert.feed (x : Fin 2048 → EReal) (G U : Fin 2048 → Fin 512 → EReal) (D : Fin 512 → EReal) : EReal :=
  ∑ f : Fin 512, ((∑ d, x d * G d f) * Ideal.div 1 (1 + Ideal.exp (-(∑ d, x d * G d f))) * (∑ d, x d * U d f)) * D f

namespace Cert.ReferenceIdeal.Experts

open Cert.ReferenceIdeal Cert.ReferenceIdeal.Gen Cert.ReferenceIdeal.Value

/-- The tokens' numbers, a negative one counted from the end. -/
def tokens (a : IVec S26624 32) : IVec S26624x1 32 :=
  broadcastInDim S26624x1 ![0] bcast_S26624_S26624x1_0 (select (cmpi .slt a (broadcastInDim S26624 ![] bcast_S_S26624 (constantI S_ 32 0#32))) (addi a (broadcastInDim S26624 ![] bcast_S_S26624 (constantI S_ 32 9216#32))) a)

/-- The experts' numbers, a negative one counted from the end. -/
def names (a : IVec S104 32) : IVec S104x1 32 :=
  broadcastInDim S104x1 ![0] bcast_S104_S104x1_0 (select (cmpi .slt a (broadcastInDim S104 ![] bcast_S_S104 (constantI S_ 32 0#32))) (addi a (broadcastInDim S104 ![] bcast_S_S104 (constantI S_ 32 32#32))) a)

/-- The tiles' tokens. -/
def toks (h : FVec Ideal S9216x2048 .f32) (ts : IVec S26624x1 32) : FVec Ideal S104x256x2048 .f32 :=
  shapeCast S104x256x2048 (Host.gather gather_S9216x2048_S26624x1_S26624x2048_1_0_n_n_0_1_12048 h ts) shapeCasts_S26624x2048_S104x256x2048

/-- The tiles' first weights, -/
def wide (w : FVec Ideal S32x2048x512 .f32) (es : IVec S104x1 32) : FVec Ideal S104x2048x512 .f32 :=
  Host.gather gather_S32x2048x512_S104x1_S104x2048x512_12_0_n_n_0_1_12048512 w es

/-- and their last. -/
def narrow (w : FVec Ideal S32x512x2048 .f32) (es : IVec S104x1 32) : FVec Ideal S104x512x2048 .f32 :=
  Host.gather gather_S32x512x2048_S104x1_S104x512x2048_12_0_n_n_0_1_15122048 w es

/-- A first product of every tile. -/
def up (x : FVec Ideal S104x256x2048 .f32) (w : FVec Ideal S104x2048x512 .f32) : FVec Ideal S104x256x512 .f32 :=
  Host.dotGeneral dot_S104x256x2048_S104x2048x512_S104x256x512_2_1_1_2_0_0 none x w

/-- The gated hidden values. -/
def gated (g u : FVec Ideal S104x256x512 .f32) : FVec Ideal S104x256x512 .f32 :=
  mulf (mulf g (Host.divf (broadcastInDim S104x256x512 ![] bcast_S_S104x256x512 (constant S_ .f32 0x3F800000#32)) (addf (broadcastInDim S104x256x512 ![] bcast_S_S104x256x512 (constant S_ .f32 0x3F800000#32)) (Host.exp (Host.negf g))))) u

/-- The last product of every tile. -/
def down (x : FVec Ideal S104x256x512 .f32) (w : FVec Ideal S104x512x2048 .f32) : FVec Ideal S104x256x2048 .f32 :=
  Host.dotGeneral dot_S104x256x512_S104x512x2048_S104x256x2048_2_1_1_2_0_0 none x w

/-- The result: the live tiles' outputs, zero in the others. -/
def out (n : IVec S1 32) (y : FVec Ideal S104x256x2048 .f32) : FVec Ideal S26624x2048 .f32 :=
  shapeCast S26624x2048 (select (broadcastInDim S104x256x2048 ![0, 1, 2] bcast_S104x1x1_S104x256x2048_0_1_2 (broadcastInDim S104x1x1 ![0] bcast_S104_S104x1x1_0 (cmpi .slt (iotaInDim S104 32 0) (broadcastInDim S104 ![] bcast_S_S104 (shapeCast S_ n shapeCasts_S1_S_))))) y (broadcastInDim S104x256x2048 ![] bcast_S_S104x256x2048 (id (constant S_ .f32 0x00000000#32)))) shapeCasts_S104x256x2048_S26624x2048

/-- The reference's result is the composition of the parts above. -/
theorem res_eq (m : (ℓ : Loc nD τ sig) → Buf (Elt Ideal) ℓ) (c : Dev nD) :
    res_out0 m c = out (m ((c.tc : Thread nD τ).loc main_arg1))
      (down (gated (up (toks (m ((c.tc : Thread nD τ).loc main_arg3)) (tokens (m ((c.tc : Thread nD τ).loc main_arg2)))) (wide (m ((c.tc : Thread nD τ).loc main_arg4)) (names (m ((c.tc : Thread nD τ).loc main_arg0)))))
          (up (toks (m ((c.tc : Thread nD τ).loc main_arg3)) (tokens (m ((c.tc : Thread nD τ).loc main_arg2)))) (wide (m ((c.tc : Thread nD τ).loc main_arg5)) (names (m ((c.tc : Thread nD τ).loc main_arg0))))))
        (narrow (m ((c.tc : Thread nD τ).loc main_arg6)) (names (m ((c.tc : Thread nD τ).loc main_arg0))))) := rfl

/-- A number below a half of the words is not negative, so it is read as it is. -/
theorem kept (x k : BitVec 32) (hx : x.toNat < 2 ^ 31) : Scalar.select (IntOp.cmpi .slt x 0#32) k x = x := by
  have h : IntOp.cmpi .slt x 0#32 = 0#1 := by
    simp only [IntOp.cmpi, BitVec.slt]
    rw [BitVec.toInt_eq_toNat_of_lt (by omega)]
    show BitVec.ofBool (decide ((x.toNat : ℤ) < 0)) = 0#1
    rw [decide_eq_false (by omega)]; rfl
  rw [h]; rfl

/-- Numbers in range are kept: the tokens', -/
theorem tokens_at (a : IVec S26624 32) (r : Fin 26624) (h : (a (ix1 r)).toNat < 9216) : tokens a (ix2 r 0) = a (ix1 r) := by
  refine Eq.trans ?_ (kept (a (ix1 r)) (a (ix1 r) + 9216#32) (by omega))
  pointwise [tokens]
  rfl

/-- and the experts'. -/
theorem names_at (a : IVec S104 32) (r : Fin 104) (h : (a (ix1 r)).toNat < 32) : names a (ix2 r 0) = a (ix1 r) := by
  refine Eq.trans ?_ (kept (a (ix1 r)) (a (ix1 r) + 32#32) (by omega))
  pointwise [names]
  rfl

/-- A tile's first weights at one element: its expert's. -/
theorem wide_at (w : FVec Ideal S32x2048x512 .f32) (es : IVec S104x1 32) (t : Fin 104) (a : Fin 2048) (b : Fin 512) (e : Fin 32)
    (h : es (ix2 t 0) = BitVec.ofNat 32 e) : wide w es (ix3 t a b) = w (ix3 e a b) := by
  have he := e.isLt
  have hw : (es (ix2 t 0)).toInt.toNat = e.val := by
    rw [h, BitVec.toInt_eq_toNat_of_lt (by rw [BitVec.toNat_ofNat]; omega), BitVec.toNat_ofNat, Int.toNat_natCast]; omega
  unfold wide Host.gather
  refine congrArg w (funext fun k => Fin.ext ?_)
  match k with
  | ⟨0, _⟩ =>
    show min (es _).toInt.toNat 31 + 0 + 0 = e.val
    refine Eq.trans (congrArg (fun z => min z 31 + 0 + 0) ((congrArg (fun q => (es q).toInt.toNat) ?_).trans hw)) ?_
    · funext y
      match y with
      | ⟨0, _⟩ => rfl
      | ⟨1, _⟩ => rfl
    show min e.val 31 + 0 + 0 = e.val
    omega
  | ⟨1, _⟩ => show 0 + 0 + a.val = a.val; omega
  | ⟨2, _⟩ => show 0 + 0 + b.val = b.val; omega

/-- A tile's last weights at one element: its expert's. -/
theorem narrow_at (w : FVec Ideal S32x512x2048 .f32) (es : IVec S104x1 32) (t : Fin 104) (a : Fin 512) (b : Fin 2048) (e : Fin 32)
    (h : es (ix2 t 0) = BitVec.ofNat 32 e) : narrow w es (ix3 t a b) = w (ix3 e a b) := by
  have he := e.isLt
  have hw : (es (ix2 t 0)).toInt.toNat = e.val := by
    rw [h, BitVec.toInt_eq_toNat_of_lt (by rw [BitVec.toNat_ofNat]; omega), BitVec.toNat_ofNat, Int.toNat_natCast]; omega
  unfold narrow Host.gather
  refine congrArg w (funext fun k => Fin.ext ?_)
  match k with
  | ⟨0, _⟩ =>
    show min (es _).toInt.toNat 31 + 0 + 0 = e.val
    refine Eq.trans (congrArg (fun z => min z 31 + 0 + 0) ((congrArg (fun q => (es q).toInt.toNat) ?_).trans hw)) ?_
    · funext y
      match y with
      | ⟨0, _⟩ => rfl
      | ⟨1, _⟩ => rfl
    show min e.val 31 + 0 + 0 = e.val
    omega
  | ⟨1, _⟩ => show 0 + 0 + a.val = a.val; omega
  | ⟨2, _⟩ => show 0 + 0 + b.val = b.val; omega

/-- A tile's token at one element: the row its number names. -/
theorem toks_at (h : FVec Ideal S9216x2048 .f32) (ts : IVec S26624x1 32) (t : Fin 104) (r : Fin 256) (d : Fin 2048) (k : Fin 9216)
    (hk : ts (ix2 ⟨t * 256 + r, by omega⟩ 0) = BitVec.ofNat 32 k) : toks h ts (ix3 t r d) = h (ix2 k d) := by
  pointwise [toks]
  exact Routing.gather_row _ rfl rfl rfl rfl rfl h ts ⟨t * 256 + r, by omega⟩ d k hk (by decide)

/-- A first product at one element. -/
theorem up_at (x : FVec Ideal S104x256x2048 .f32) (w : FVec Ideal S104x2048x512 .f32) (t : Fin 104) (r : Fin 256) (f : Fin 512) :
    up x w (ix3 t r f) = ∑ d : Fin 2048, x (ix3 t r d) * w (ix3 t d f) := by
  pointwise [up]

/-- The last product at one element. -/
theorem down_at (x : FVec Ideal S104x256x512 .f32) (w : FVec Ideal S104x512x2048 .f32) (t : Fin 104) (r : Fin 256) (j : Fin 2048) :
    down x w (ix3 t r j) = ∑ f : Fin 512, x (ix3 t r f) * w (ix3 t f j) := by
  pointwise [down]

/-- A gated value at one element. -/
theorem gated_at (g u : FVec Ideal S104x256x512 .f32) (t : Fin 104) (r : Fin 256) (f : Fin 512) :
    gated g u (ix3 t r f) = g (ix3 t r f) * Ideal.div 1 (1 + Ideal.exp (-(g (ix3 t r f)))) * u (ix3 t r f) := by
  pointwise [gated]

/-- The result at one element. -/
theorem out_at (n : IVec S1 32) (y : FVec Ideal S104x256x2048 .f32) (i : S26624x2048.Idx) :
    out n y i = if (((i 0 : ℕ) / 256 : ℕ) : ℤ) < (n (ix1 0)).toInt then
      y (ix3 ⟨(i 0 : ℕ) / 256, by idx_bounds; omega⟩ ⟨(i 0 : ℕ) % 256, by omega⟩ (i 1)) else 0 := by
  pointwise [out]
  have hi : (i 0 : ℕ) < 26624 := (i 0).isLt
  have e : (BitVec.ofNat 32 ((i 0 : ℕ) / 256)).toInt = (((i 0 : ℕ) / 256 : ℕ) : ℤ) := by
    rw [BitVec.toInt_eq_toNat_of_lt (by rw [BitVec.toNat_ofNat]; omega), BitVec.toNat_ofNat]; omega
  have key : IntOp.cmpi .slt (BitVec.ofNat 32 ((i 0 : ℕ) / 256)) (n (ix1 0)) = BitVec.ofBool (decide ((((i 0 : ℕ) / 256 : ℕ) : ℤ) < (n (ix1 0)).toInt)) := by
    rw [← e]; rfl
  rw [key]
  by_cases h : (((i 0 : ℕ) / 256 : ℕ) : ℤ) < (n (ix1 0)).toInt
  · rw [if_pos h, decide_eq_true h]; rfl
  · rw [if_neg h, decide_eq_false h]; exact (show Ideal.ofBits FTy.f32 0#32 = 0 from Ideal.ofBits_zero _)

/-- A word is the word of its number. -/
theorem word_eq (x : BitVec 32) (k : ℕ) (h : x.toNat = k) : x = BitVec.ofNat 32 k := by
  subst h; exact (BitVec.ofNat_toNat 32 x).symm ▸ by simp

/-- The reference's result at one element: in a live tile the feed-forward of the row's token by the tile's expert. -/
theorem result_at (es : IVec S104 32) (n : IVec S1 32) (ts : IVec S26624 32) (h : FVec Ideal S9216x2048 .f32) (wg wu : FVec Ideal S32x2048x512 .f32)
    (wd : FVec Ideal S32x512x2048 .f32) (i : S26624x2048.Idx) (e : Fin 32) (k : Fin 9216)
    (he : (es (ix1 ⟨(i 0 : ℕ) / 256, by idx_bounds; omega⟩)).toNat = e) (hk : (ts (ix1 (i 0))).toNat = k) :
    out n (down (gated (up (toks h (tokens ts)) (wide wg (names es))) (up (toks h (tokens ts)) (wide wu (names es)))) (narrow wd (names es))) i
      = if (((i 0 : ℕ) / 256 : ℕ) : ℤ) < (n (ix1 0)).toInt then
          Cert.feed (fun d => h (ix2 k d)) (fun d f => wg (ix3 e d f)) (fun d f => wu (ix3 e d f)) (fun f => wd (ix3 e f (i 1)))
        else 0 := by
  have hi : (i 0 : ℕ) < 26624 := (i 0).isLt
  have hel := e.isLt
  have hkl := k.isLt
  have hn : names es (ix2 ⟨(i 0 : ℕ) / 256, by omega⟩ 0) = BitVec.ofNat 32 e :=
    (names_at es ⟨(i 0 : ℕ) / 256, by omega⟩ (by rw [he]; omega)).trans (word_eq _ _ he)
  have ht : tokens ts (ix2 ⟨(⟨(i 0 : ℕ) / 256, by omega⟩ : Fin 104) * 256 + (⟨(i 0 : ℕ) % 256, by omega⟩ : Fin 256), by show (i 0 : ℕ) / 256 * 256 + (i 0 : ℕ) % 256 < 26624; omega⟩ 0) = BitVec.ofNat 32 k := by
    have hx : (⟨(i 0 : ℕ) / 256 * 256 + (i 0 : ℕ) % 256, by omega⟩ : Fin 26624) = i 0 := Fin.ext (by show (i 0 : ℕ) / 256 * 256 + (i 0 : ℕ) % 256 = _; omega)
    refine (congrArg (fun q => tokens ts (ix2 q 0)) hx).trans ?_
    exact (tokens_at ts (i 0) (by rw [hk]; omega)).trans (word_eq _ _ hk)
  rw [out_at]
  refine ite_congr rfl (fun _ => ?_) fun _ => rfl
  refine (down_at _ _ _ _ _).trans ?_
  unfold Cert.feed
  refine Finset.sum_congr rfl fun f _ => ?_
  refine congrArg₂ (· * ·) ?_ (narrow_at wd _ _ f (i 1) e hn)
  rw [gated_at, up_at, up_at]
  simp only [wide_at _ _ _ _ f e hn, toks_at h _ _ _ _ k ht]

end Cert.ReferenceIdeal.Experts
end
-- ==== Proof.ExpertsValue.lean ====
/- The experts' kernel's result, read at one element, and that it is the reference's. -/
module

public import proofs.«01_k».proof.Proof.ExpertsIdeal
public import proofs.«01_k».proof.Proof.ExpertsReference
public import Idealize.ShloMosaic.Lib.Pipeline.ValueKit
public import Idealize.ShloMosaic.Lib.Pipeline.Covers

@[expose] public section

set_option maxRecDepth 16384
set_option Elab.async false

noncomputable section

namespace Cert.Kernel.Rows

open Cert.Kernel Cert.Kernel.Gen
open Idealize.ShloMosaic Idealize.ShloMosaic.TcCoe Idealize.SL.Sem

/-- One element of a live tile's store: the feed-forward of the row by the tile's weights. -/
theorem store_at (x : FVec Ideal S256x2048 .f32) (G U : Vec Ideal S1x2048x512 .f32) (D : Vec Ideal S1x512x2048 .f32) (r : Fin 256) (j : Fin 2048) :
    k0_pay4 (F := Ideal) x (k0_pay1 G) (k0_pay2 U) (k0_pay3 D) (Idealize.ShloMosaic.ix2 r j)
      = Cert.feed (fun d => x (Idealize.ShloMosaic.ix2 r d)) (fun d f => G (ix3 0 d f)) (fun d f => U (ix3 0 d f)) (fun f => D (ix3 0 f j)) := by
  unfold Cert.feed
  pointwise [k0_pay4, k0_pay1, k0_pay2, k0_pay3]
  rfl

/-- One element of a dead tile's store: zero. -/
theorem zero_at (y : S256x2048.Idx) : k0_pay5 (F := Ideal) y = 0 := by
  pointwise [k0_pay5]

variable (m : (ℓ : Loc nD τ sig) → Buf (Elt Ideal) ℓ) (hr : Routed m) (c : Dev nD)

/-- The expert of row `i`'s tile, -/
def who (i : S26624x2048.Idx) : Fin 32 := ⟨(Te m (Idealize.ShloMosaic.ix1 ⟨(i 0).val / 256, by have : (i 0).val < 26624 := (i 0).isLt; omega⟩)).toNat, hr.te _⟩
/-- and the row's token. -/
def what (i : S26624x2048.Idx) : Fin 9216 := ⟨(Ts m (Idealize.ShloMosaic.ix1 (i 0))).toNat, hr.src _⟩

/-- The result: in a live tile the feed-forward of the row's token by the tile's expert. -/
def ends : FVec Ideal S26624x2048 .f32 := fun i =>
  if (((i 0).val / 256 : ℕ) : ℤ) < (Tn m (Idealize.ShloMosaic.ix1 0)).toInt then
    Cert.feed (fun d => m ((c : Thread nD τ).loc main_arg3) (Idealize.ShloMosaic.ix2 (what m hr i) d)) (fun d f => m ((c : Thread nD τ).loc main_arg4) (ix3 (who m hr i) d f))
      (fun d f => m ((c : Thread nD τ).loc main_arg5) (ix3 (who m hr i) d f)) (fun f => m ((c : Thread nD τ).loc main_arg6) (ix3 (who m hr i) f (i 1)))
  else 0

/-- The block of the result that each point stores. -/
theorem index_3 : ∀ t : Fin grid0.N, cc0_transform_4 (grid0.coords t) = ![t.val, 0] := by decide +kernel

/-- The points' blocks cover the result. -/
theorem covers : ((cfgA m hr).win 3).Covers := by
  refine ⟨show ∀ a, 0 < S256x2048.size a by decide, fun β => ?_⟩
  have h0 : (β (0 : Fin 2)).val < 104 := lt_of_lt_of_eq (β (0 : Fin 2)).isLt (show ((cfgA m hr).win 3).nblk (0 : Fin 2) = (26624 + 256 - 1) / 256 from rfl)
  have h1 : (β (1 : Fin 2)).val < 1 := lt_of_lt_of_eq (β (1 : Fin 2)).isLt (show ((cfgA m hr).win 3).nblk (1 : Fin 2) = (2048 + 2048 - 1) / 2048 from rfl)
  obtain ⟨t, -, hf, hi⟩ := ((cfgA m hr).win 3).exists_flush_same_index rfl ⟨(β (0 : Fin 2)).val, h0⟩
  refine ⟨t, hf, fun a => ⟨?_, Or.inl rfl⟩⟩
  rw [hi]
  refine (congrFun (index_3 ⟨(β (0 : Fin 2)).val, h0⟩) a).trans ?_
  match a with
  | ⟨0, _⟩ => rfl
  | ⟨1, _⟩ => show 0 = (β (1 : Fin 2)).val; omega

/-- A point's store at its place in the result. -/
theorem placed (t : Fin (cfgA m hr).N) (y : S256x2048.Idx) (i : S26624x2048.Idx) (h0 : (i 0).val = t.val * 256 + (y 0).val) (h1 : (i 1).val = (y 1).val) :
    outAt m hr c (crd m hr t) y = ends m hr c i := by
  have hy : (y 0).val < 256 := (y 0).isLt
  have ht : (crd m hr t 0).val = t.val := crd_val m hr t
  have hd : (i 0).val / 256 = t.val := by omega
  have hl : live m (crd m hr t) ↔ (((i 0).val / 256 : ℕ) : ℤ) < (Tn m (Idealize.ShloMosaic.ix1 0)).toInt := by
    rw [hd, ← ht]
    refine (cond1_iff _ _).trans (Iff.of_eq (congrArg (fun w : BitVec 32 => ((crd m hr t 0).val : ℤ) < w.toInt) ?_))
    exact congrArg (Tn m) (funext fun a => by match a with | ⟨0, _⟩ => exact Subsingleton.elim (α := Fin 1) _ _)
  unfold outAt ends
  by_cases hv : live m (crd m hr t)
  case neg => exact (congrFun (if_neg hv) y).trans ((zero_at y).trans (if_neg fun h => hv (hl.2 h)).symm)
  refine (congrFun (if_pos hv) y).trans (Eq.trans ?_ (if_pos (hl.1 hv)).symm)
  have hy2 : y = Idealize.ShloMosaic.ix2 (y 0) (y 1) := by
    funext a; match a with | ⟨0, _⟩ => rfl | ⟨1, _⟩ => rfl
  have hi1 : i 1 = y 1 := Fin.ext h1
  have hw : expert m hr (crd m hr t) = who m hr i := Fin.ext (by
    show (hereWord (F := Ideal) (Te m) (crd m hr t)).toNat = _
    rw [hereWord_eq]
    exact congrArg (fun q => (Te m q).toNat) (funext fun a => Fin.ext (by match a with | ⟨0, _⟩ => exact ht.trans hd.symm)))
  have hs : rows m hr (crd m hr t) (y 0) = what m hr i := Fin.ext
    (congrArg (fun q => (Ts m q).toNat) (funext fun a => Fin.ext (by
      match a with
      | ⟨0, _⟩ => show 256 * (crd m hr t 0).val + (y 0).val = (i 0).val; omega)))
  unfold tileOut
  rw [hw]
  refine (congrArg _ hy2).trans ((store_at _ _ _ _ (y 0) (y 1)).trans ?_)
  have e1 : (fun d : Fin 2048 => gathered (hid m c) (rows m hr (crd m hr t)) (Idealize.ShloMosaic.ix2 (y 0) d)) = fun d => m ((c : Thread nD τ).loc main_arg3) (Idealize.ShloMosaic.ix2 (what m hr i) d) :=
    funext fun d => congrArg (m ((c : Thread nD τ).loc main_arg3)) (funext fun a => by match a with | ⟨0, _⟩ => exact hs | ⟨1, _⟩ => rfl)
  have e2 : (fun (d : Fin 2048) (f : Fin 512) => gateAt m c (who m hr i) (ix3 0 d f)) = fun d f => m ((c : Thread nD τ).loc main_arg4) (ix3 (who m hr i) d f) :=
    funext fun d => funext fun f => congrArg (m ((c : Thread nD τ).loc main_arg4)) (funext fun a => by match a with | ⟨0, _⟩ => rfl | ⟨1, _⟩ => rfl | ⟨2, _⟩ => rfl)
  have e3 : (fun (d : Fin 2048) (f : Fin 512) => upAt m c (who m hr i) (ix3 0 d f)) = fun d f => m ((c : Thread nD τ).loc main_arg5) (ix3 (who m hr i) d f) :=
    funext fun d => funext fun f => congrArg (m ((c : Thread nD τ).loc main_arg5)) (funext fun a => by match a with | ⟨0, _⟩ => rfl | ⟨1, _⟩ => rfl | ⟨2, _⟩ => rfl)
  have e4 : (fun f : Fin 512 => downAt m c (who m hr i) (ix3 0 f (y 1))) = fun f => m ((c : Thread nD τ).loc main_arg6) (ix3 (who m hr i) f (i 1)) :=
    funext fun f => congrArg (m ((c : Thread nD τ).loc main_arg6)) (funext fun a => by match a with | ⟨0, _⟩ => rfl | ⟨1, _⟩ => rfl | ⟨2, _⟩ => exact hi1.symm)
  exact congr (congr (congr (congrArg Cert.feed e1) e2) e3) e4

/-- The result array after the run. -/
theorem arr_eq : (dats m hr 0 c).arrAt 3 (cfgA m hr).N = ends m hr c := by
  refine (dats m hr 0 c).arrAt_eq_of_covers 3 _ (covers m hr) fun t _ y => ?_
  refine (placed m hr c t y (((cfgA m hr).win 3).blk t |>.view.emb y) ?_ ?_)
  · refine (congrArg (fun q => q * 256 + 1 * ((show S256x2048.Idx from y) 0).val) (congrFun (index_3 t) (0 : Fin 2))).trans ?_
    show t.val * 256 + 1 * ((show S256x2048.Idx from y) 0).val = t.val * 256 + ((show S256x2048.Idx from y) 0).val; omega
  · refine (congrArg (fun q => q * 2048 + 1 * ((show S256x2048.Idx from y) 1).val) (congrFun (index_3 t) (1 : Fin 2))).trans ?_
    show 0 * 2048 + 1 * ((show S256x2048.Idx from y) 1).val = ((show S256x2048.Idx from y) 1).val; omega

attribute [local instance] Cert.Pre_routed.Gen.facts Cert.KernelIdeal.Gen.facts Cert.Kernel.Gen.facts

/-- What the run of the kernel leaves is the reference's result, of the same arguments. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Value.res_out0 m' c = (dats m hr 0 c).arrAt 3 (cfgA m hr).N := by
  rw [arr_eq]
  refine (Cert.ReferenceIdeal.Experts.res_eq m' c).trans ?_
  rw [h0, h1, h2, h3, h4, h5, h6]
  obtain rfl : c = 0 := dev_eq c
  funext i
  exact Cert.ReferenceIdeal.Experts.result_at _ _ _ _ _ _ _ i (who m hr i) (what m hr i) rfl rfl

end Cert.Kernel.Rows

end
-- ==== Proof.CombineRows.lean ====
/- The gather of the combining kernel: the 512 row transfers of a tile, two a trip, issued by one loop and awaited by
   another. Transfer `t` copies a row of the experts' outputs into row `t / 2` of the scratch's plane `t % 2`: the two
   outputs of one token lie above one another. All share one semaphore. -/
module

public import proofs.«01_k».proof.Defs
public import proofs.«01_k».proof.Proof.Gen.Kernel2
public import proofs.«01_k».proof.Proof.Gen.Kernel2.Skeleton
public import proofs.«01_k».proof.Proof.Gen.Kernel2.Loops
public import Idealize.ShloMosaic.Lib.Batch
public import Idealize.ShloMosaic.Lib.Ring
public import Idealize.ShloMosaic.Lib.Pipeline.Frame
public import Idealize.ShloMosaic.Lib.Pipeline.Value

@[expose] public section

set_option maxRecDepth 16384
set_option Elab.async false
set_option backward.isDefEq.respectTransparency.types false

noncomputable section

namespace Cert.Kernel2.Rows

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where transfer `t` goes: plane `t % 2`, row `t / 2`. -/
abbrev spot (t : Fin 512) : Fin 3 → ℕ := ![t.val % 2, t.val / 2, 0]

/-- That row lies in the scratch. -/
theorem row_inb (t : Fin 512) : ∀ a, spot t a + S1x1x2048.size a ≤ S2x256x2048.size a := by
  have := t.isLt; intro a; fin_cases a
  · show t.val % 2 + 1 ≤ 2; omega
  · show t.val / 2 + 1 ≤ 256; omega
  · show 0 + 2048 ≤ 2048; omega

/-- Row `r` of the experts' outputs lies in them. -/
theorem src_inb (r : Fin 24576) : ∀ a, (![r.val, 0] : Fin 2 → Nat) a + S1x2048.size a ≤ S24576x2048.size a := by
  have := r.isLt; intro a; fin_cases a
  · show r.val + 1 ≤ 24576; omega
  · show 0 + 2048 ≤ 2048; omega

/-- Transfer `t`'s destination: its row of the scratch, read as one row. -/
def xRow (t : Fin 512) : Memref sig .tc .vmem S1x2048 .f32 :=
  ((Memref.whole cc0_scratch0).slice (Rect.unit (s := S2x256x2048) (spot t) S1x1x2048.size (row_inb t)) (fun _ => rfl)).squeeze S1x2048 squeezes_S1x1x2048_S1x2048

/-- Row `r` of the experts' outputs, as a transfer's source. -/
def yRow (r : Fin 24576) : Memref sig .tc .hbm S1x2048 .f32 :=
  (Memref.whole main_arg1).slice (Rect.unit (s := S24576x2048) ![r.val, 0] S1x2048.size (src_inb r)) (fun _ => rfl)

/-- The scratch's elements that transfer `t` writes. -/
abbrev bset (t : Fin 512) : Finset S2x256x2048.Idx := (Rect.unit (s := S2x256x2048) (spot t) S1x1x2048.size (row_inb t)).set

theorem xset_eq (t : Fin 512) : (xRow t).view.set = bset t := by
  unfold xRow
  exact (View.set_reshape _ _).trans (View.set_slice_whole _ _)

theorem mem_bset (t : Fin 512) (y : S2x256x2048.Idx) : y ∈ bset t ↔ (y 0).val = t.val % 2 ∧ (y 1).val = t.val / 2 := by
  rw [Rect.mem_set_unit]
  have h2 : (y 2).val < 2048 := (y 2).isLt
  constructor
  · intro H
    have a0 : t.val % 2 ≤ (y 0).val ∧ (y 0).val < t.val % 2 + 1 := H 0
    have a1 : t.val / 2 ≤ (y 1).val ∧ (y 1).val < t.val / 2 + 1 := H 1
    omega
  · intro H a; fin_cases a
    · show t.val % 2 ≤ (y 0).val ∧ (y 0).val < t.val % 2 + 1; omega
    · show t.val / 2 ≤ (y 1).val ∧ (y 1).val < t.val / 2 + 1; omega
    · show 0 ≤ (y 2).val ∧ (y 2).val < 0 + 2048; omega

theorem bset_disjoint : ∀ t t' : Fin 512, t ≠ t' → Disjoint (bset t) (bset t') := fun t t' hne => by
  rw [Finset.disjoint_left]; intro y hy hy'; rw [mem_bset] at hy hy'; exact hne (Fin.ext (by omega))

/-- The transfer that writes plane `p`, row `r`. -/
def turn (p : Fin 2) (r : Fin 256) : Fin 512 := ⟨2 * r.val + p.val, by omega⟩

theorem bset_cover : Finset.univ.biUnion bset = Finset.univ := by
  ext y; simp only [Finset.mem_biUnion, Finset.mem_univ, true_and, iff_true]
  have h0 : (y 0).val < 2 := (y 0).isLt
  refine ⟨turn (y 0) (y 1), (mem_bset _ _).mpr ⟨?_, ?_⟩⟩
  · show (y 0).val = (2 * (y 1).val + (y 0).val) % 2; omega
  · show (y 1).val = (2 * (y 1).val + (y 0).val) / 2; omega

/-- An element of the experts' outputs by its row and column. -/
def ix2 (r : Fin 24576) (j : Fin 2048) : S24576x2048.Idx := fun a => match a with | ⟨0, _⟩ => r | ⟨1, _⟩ => j

/-- The scratch once every transfer has landed: plane `p`'s row `r` is row `ρ (turn p r)` of the experts' outputs. -/
def gathered (y : S24576x2048.Idx → Elt F .f32) (ρ : Fin 512 → Fin 24576) : S2x256x2048.Idx → Elt F .f32 :=
  fun z => y (ix2 (ρ (turn (z 0) (z 1))) (z 2))

/-- The scratch's element under element `x` of transfer `t`'s row. -/
abbrev xAt (t : Fin 512) (x : S1x2048.Idx) : S2x256x2048.Idx := (xRow t).view.emb x

/-- A row's element, under a further axis of length one. -/
abbrev lifted (x : S1x2048.Idx) : S1x1x2048.Idx := fun a => match a with | ⟨0, _⟩ => (0 : Fin 1) | ⟨1, _⟩ => x 0 | ⟨2, _⟩ => x 1

/-- One row is the same row under a further axis of length one. -/
theorem squeezed (x : S1x2048.Idx) :
    Shape.reshapeEquiv (Shape.Squeezes.numel_eq squeezes_S1x1x2048_S1x2048) x = lifted x :=
  Shape.reshapeEquiv_eq_of_rowMajor _ (by
    rw [Shape.rowMajor_val_three, Shape.rowMajor_val_two]
    show ((0 : ℕ) * 1 + (x 0).val) * 2048 + (x 1).val = (x 0).val * 2048 + (x 1).val; omega)

theorem xAt_eq (t : Fin 512) (x : S1x2048.Idx) :
    (xAt t x 0).val = t.val % 2 ∧ (xAt t x 1).val = t.val / 2 ∧ (xAt t x 2).val = (x 1).val := by
  have h0 : (x 0).val < 1 := (x 0).isLt
  have e : xAt t x = (Rect.unit (s := S2x256x2048) (spot t) S1x1x2048.size (row_inb t)).emb (lifted x) :=
    congrArg (Rect.unit (s := S2x256x2048) (spot t) S1x1x2048.size (row_inb t)).emb (squeezed x)
  rw [e]
  refine ⟨?_, ?_, ?_⟩
  · show t.val % 2 + 1 * 0 = t.val % 2; omega
  · show t.val / 2 + 1 * (x 0).val = t.val / 2; omega
  · show 0 + 1 * (x 1).val = (x 1).val; omega

/-- What a transfer leaves is its row of the gathered scratch. -/
theorem row_written (y : S24576x2048.Idx → Elt F .f32) (ρ : Fin 512 → Fin 24576) (f : S2x256x2048.Idx → Elt F .f32) (t : Fin 512) :
    ∀ z ∈ (xRow t).view.set, (xRow t).view.write (Elt F) f ((yRow (ρ t)).view.read (Elt F) y) Finset.univ z = gathered y ρ z := by
  intro z hz
  obtain ⟨x, rfl⟩ := View.exists_emb_of_mem_set (xRow t).view hz
  refine (View.write_emb_of_mem (v := (xRow t).view) _ _ (Finset.mem_univ x)).trans ?_
  have h0 : (x 0).val < 1 := (x 0).isLt
  obtain ⟨e0, e1, e2⟩ := xAt_eq t x
  show y ((yRow (ρ t)).view.emb x) = y (ix2 (ρ (turn (xAt t x 0) (xAt t x 1))) (xAt t x 2))
  refine congrArg y (funext fun a => Fin.ext ?_)
  match a with
  | ⟨0, _⟩ =>
    show (ρ t).val + 1 * (x 0).val = (ρ (turn (xAt t x 0) (xAt t x 1))).val
    rw [show turn (xAt t x 0) (xAt t x 1) = t from Fin.ext (by show 2 * (xAt t x 1).val + (xAt t x 0).val = t.val; omega)]; omega
  | ⟨1, _⟩ =>
    show 0 + 1 * (x 1).val = (xAt t x 2).val
    rw [e2]; omega

section Issue

variable (c : Dev nD) (y : S24576x2048.Idx → Elt F .f32) (ρ : Fin 512 → Fin 24576)

/-- A row's credit on the semaphore. -/
abbrev NN : ℕ := (xRow 0).view.amount (.dma cc0_scratch1.sem)

theorem credit (t : Fin 512) : (xRow t).view.amount (.dma cc0_scratch1.sem) = NN := rfl

/-- The experts' outputs under read token `t`. -/
abbrev yTok (t : ℕ) : sProp 𝕄 :=
  (Memref.whole main_arg1 : Memref sig .tc .hbm S24576x2048 .f32).view.loc (c : Thread nD τ) ↦{Transfers.shareTokN fullShare t} y

/-- Transfer `t`'s row of the scratch, held at contents `f`. -/
abbrev xPart (t : Fin 512) (f : S2x256x2048.Idx → Elt F .f32) : sProp 𝕄 :=
  (Memref.whole cc0_scratch0 : Memref sig .tc .vmem S2x256x2048 .f32).view.loc (c : Thread nD τ) ↦[bset t]{fullShare} f

/-- What transfer `t` delivers: its row of the gathered scratch, and its read token back. -/
abbrev del (t : Fin 512) : sProp 𝕄 :=
  iprop(xPart c t (gathered y ρ) ∗ yTok c y t.val)

instance del_storable (t : Fin 512) : BI.Storable (upEmb : UEmb _ 𝕄) (del c y ρ t) := by unfold del; infer_instance

/-- The tile's transfers: `j` issued, `u` units awaited. -/
abbrev batch (j u : ℕ) : sProp 𝕄 :=
  Transfers.Batch (countersEmb (U := Pipeline.UD sig nD τ)) (c : Thread nD τ) (.dma cc0_scratch1.sem) () NN (del c y ρ) j u

/-- What lands, with the rest of the read token, is the delivery. -/
theorem land_row (f : S2x256x2048.Idx → Elt F .f32) (t : Fin 512) :
    iprop(((yRow (ρ t)).view.loc (c : Thread nD τ) ↦[Finset.univ \ (yRow (ρ t)).view.set]{Transfers.shareTokN fullShare t.val} y)
        ∗ ((xRow t).view.loc (c : Thread nD τ) ↦[(xRow t).view.set]{fullShare}
            (xRow t).view.write (Elt F) f ((yRow (ρ t)).view.read (Elt F) y) Finset.univ)
        ∗ ((yRow (ρ t)).view.loc (c : Thread nD τ) ↦[(yRow (ρ t)).view.set]{Transfers.shareTokN fullShare t.val} y))
      ⊢ (del c y ρ t : sProp 𝕄) := by
  iintro ⟨Hp, Hd, Hs⟩
  isplitl [Hd]
  · ihave Hd' := (Entails.of_eq (pointsTo_congr (row_written y ρ f t))) $$ Hd
    iapply (Entails.of_eq (show ((xRow t).view.loc (c : Thread nD τ) ↦[(xRow t).view.set]{fullShare} gathered y ρ : sProp 𝕄) = xPart c t (gathered y ρ) by
      rw [xset_eq]; rfl)) $$ Hd'
  · iapply (pointsTo_split_subset (Finset.subset_univ (yRow (ρ t)).view.set)).2
    isplitl [Hs]; · iexact Hs
    iexact Hp

/-- Issuing transfer `t`: its destination row and its token go in. -/
theorem issue_row (f : S2x256x2048.Idx → Elt F .f32) (t : Fin 512) {α : Type} {Q : α → sProp 𝕄}
    (src : Memref sig .tc .hbm S1x2048 .f32) (dst : Memref sig .tc .vmem S1x2048 .f32) (es : src = yRow (ρ t)) (ed : dst = xRow t)
    {hsrc : src.view.WordExact} {hdst : dst.view.WordExact}
    {hsem : DmaTarget.Typed (nD := nD) (τ := τ) (p := Proc.tc) .hbm (.dma cc0_scratch1.sem) (.here dst)}
    (k : PUnit → Prog (TpuEff nD τ sig (Elt F) Λ₀ .tc) α) :
    iprop(yTok c y t.val ∗ xPart c t f ∗ batch c y ρ t.val 0)
      ⊢ iprop((batch c y ρ (t.val + 1) 0 -∗ wp frame (wpE defs₀ Variants.none (c : Thread nD τ) none) Set.univ (k ⟨⟩) Q)
          -∗ wp frame (wpE defs₀ Variants.none (c : Thread nD τ) none) Set.univ
              (.op (.enqueueDma src (.here dst) (.dma cc0_scratch1.sem) hsrc hdst hsem) k) Q) := by
  subst es ed
  have hj := t.isLt
  unfold batch Transfers.Batch
  iintro ⟨Hs, Hd, ⟨%γ, %γ₀, %κ, #Hinv, HI, H0, Hcred⟩⟩ Hk
  ihave HI' := (show bigSep (Transfers.pending (n := 512) t.val) (fun t => count (countersEmb (U := Pipeline.UD sig nD τ)) (γ t) 0) ⊢ iprop(count (countersEmb (U := Pipeline.UD sig nD τ)) (γ ⟨t.val, hj⟩) 0 ∗ bigSep (Transfers.pending (n := 512) (t.val + 1)) (fun t => count (countersEmb (U := Pipeline.UD sig nD τ)) (γ t) 0))
    from Entails.of_eq (by rw [Transfers.pending_succ hj, bigSep_insert (Transfers.not_mem_pending_succ hj)]; rfl)) $$ HI
  icases HI' with ⟨Ht, HI⟩
  ihave Hs' := (pointsTo_split_subset (Finset.subset_univ (yRow (ρ t)).view.set)).1 $$ Hs
  icases Hs' with ⟨Hs, Hput⟩
  iapply (wp_enqueueDmaAs Variants.none (c : Thread nD τ) none Set.univ () NN (credit t)) $$ [Hs Hd] [Ht Hput]
  · isplitl [Hs]; · iexact Hs
    ihave Hd' := (Entails.of_eq (show xPart c t f = ((xRow t).view.loc (c : Thread nD τ) ↦[(xRow t).view.set]{fullShare} f : sProp 𝕄) by
      rw [xset_eq]; rfl)) $$ Hd
    iapply (pointsTo_writeUpdate (c : Thread nD τ) (subset_refl (xRow t).view.set)) $$ Hd'
  · iapply (Transfers.batch_creditUpdate_with (countersEmb (U := Pipeline.UD sig nD τ)) (D := del c y ρ) (γ := γ) t (land_row c y ρ f t))
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (t.val + 1) * NN - 0 = (t.val * NN - 0) + NN by rw [Nat.succ_mul]; omega, ← tallyAt_add]
  icombine Hcred Hcred' as H
  iexact H

/-- A slice is the slice at equal offsets, -/
theorem slice_off {κ : Kind} {sp : Space} {s : Shape} {e : EltTy} (M : Memref sig κ sp s e) {off off' sz : Fin s.rank → ℕ}
    (eq : off = off') (i : ∀ a, off a + sz a ≤ s.size a) (i' : ∀ a, off' a + sz a ≤ s.size a) :
    M.slice (Rect.unit (s := s) off sz i) (fun _ => rfl) = M.slice (Rect.unit (s := s) off' sz i') (fun _ => rfl) := by
  subst eq; rfl

/-- and so is the row of the scratch read off it. -/
theorem row_off {t : Fin 512} {off : Fin 3 → ℕ} (eq : off = spot t) (i : ∀ a, off a + S1x1x2048.size a ≤ S2x256x2048.size a) :
    ((Memref.whole cc0_scratch0 : Memref sig .tc .vmem S2x256x2048 .f32).slice (Rect.unit (s := S2x256x2048) off S1x1x2048.size i) (fun _ => rfl)).squeeze S1x2048 squeezes_S1x1x2048_S1x2048 = xRow t := by
  subst eq; rfl

/-- The table of source rows, held by the kernel's read share. -/
abbrev tab (T : S16384.Idx → Elt F .i32) : sProp 𝕄 :=
  (Memref.whole main_arg0 : Memref sig .tc .smem S16384 .i32).view.loc (c : Thread nD τ) ↦{fullShare.right} T

/-- The word that trip `k` of tile `i` reads for the token's first expert, -/
abbrev firstWord (T : S16384.Idx → Elt F .i32) (i : grid0.Coords) (k : Fin k0_t1_loop.trips) : BitVec 32 :=
  View.readAt (Elt F) (Memref.whole main_arg0 : Memref sig .tc .smem S16384 .i32).view
    (Rect.unit (s := S16384) (k0_off1 i k) S1.size (k0_off1_inb i k)).toLoadRect T (Shape.Idx.first (numel1_S1.symm ▸ Nat.one_pos))

/-- and for its second. -/
abbrev secondWord (T : S16384.Idx → Elt F .i32) (i : grid0.Coords) (k : Fin k0_t1_loop.trips) : BitVec 32 :=
  View.readAt (Elt F) (Memref.whole main_arg0 : Memref sig .tc .smem S16384 .i32).view
    (Rect.unit (s := S16384) (k0_off4 i k) S1.size (k0_off4_inb i k)).toLoadRect T (Shape.Idx.first (numel1_S1.symm ▸ Nat.one_pos))

theorem trips1 : k0_t1_loop.trips = 256 := by decide
theorem trips2 : k0_t2_loop.trips = 256 := by decide

/-- Trip `k`'s first transfer, -/
abbrev fst (k : ℕ) (hk : k < 256) : Fin 512 := ⟨2 * k, by omega⟩
/-- and its second. -/
abbrev snd (k : ℕ) (hk : k < 256) : Fin 512 := ⟨2 * k + 1, by omega⟩

/-- The source's offsets, from the word read. -/
theorem off_src {w : BitVec 32} {r : Fin 24576} (e : w.toNat = r.val) : (![w.toNat, 0] : Fin 2 → ℕ) = ![r.val, 0] := by rw [e]

/-- A word below the number of rows names a row. -/
theorem word_row {w : BitVec 32} {r : Fin 24576} (e : w.toNat = r.val) :
    ∀ a, (![w.toNat, 0] : Fin 2 → ℕ) a + S1x2048.size a ≤ S24576x2048.size a := fun a => by
  have hb := r.isLt
  fin_cases a
  · show w.toNat + 1 ≤ 24576; omega
  · show 0 + 2048 ≤ 2048; omega

/-- Before trip `k` of the issue loop: `2k` transfers issued; the rows and the tokens from there on in hand. -/
def issueAt (f : S2x256x2048.Idx → Elt F .f32) (T : S16384.Idx → Elt F .i32) (k : ℕ) (_ : Unit) : sProp 𝕄 :=
  iprop(batch c y ρ (2 * k) 0 ∗ bigSep (Ring.rangeSet 512 (2 * k) 512) (fun t => xPart c t f)
    ∗ bigSep (Ring.rangeSet 512 (2 * k) 512) (fun t => yTok c y t.val) ∗ tab c T)

variable (i : grid0.Coords) (arg3 : Memref sig .tc .vmem S256x2048 .f32) (harg3 : arg3.IsWhole) (arg4 : Memref sig .tc .vmem S256x8 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S256x2048 .f32) (harg7 : arg7.IsWhole)

/-- One trip of the issue loop: the rows of token `k`'s two experts. -/
theorem issue_step (f : S2x256x2048.Idx → Elt F .f32) (T : S16384.Idx → Elt F .i32)
    (hρ : ∀ k : Fin k0_t1_loop.trips, (firstWord T i k).toNat = (ρ (fst k.val (trips1 ▸ k.isLt))).val ∧ (secondWord T i k).toNat = (ρ (snd k.val (trips1 ▸ k.isLt))).val)
    (k : Fin k0_t1_loop.trips) (acc : Unit) :
    issueAt c y ρ f T k acc ⊢ wp frame (wpE defs₀ Variants.none (c : Thread nD τ) none) Set.univ
      (k0_t1_body i (Memref.whole main_arg0) (Memref.isWhole_whole _) (Memref.whole main_arg1) (Memref.isWhole_whole _) arg3 harg3 arg4 harg4 arg5 harg5 arg6 harg6 arg7 harg7 (Memref.whole cc0_scratch0) (Memref.isWhole_whole _) cc0_scratch1 k acc)
      (issueAt c y ρ f T (k.val + 1)) := by
  have hk : k.val < 256 := trips1 ▸ k.isLt
  obtain ⟨w1, w2⟩ := hρ k
  have c1 : k0_chk1 (firstWord T i k) := word_row w1
  have c2 : k0_chk2 (secondWord T i k) := word_row w2
  have s1 : k0_off2 k = spot (fst k.val hk) := (k0_off2_eq k).trans (by
    show ![0, k.val, 0] = ![2 * k.val % 2, 2 * k.val / 2, 0]
    rw [show 2 * k.val % 2 = 0 by omega, show 2 * k.val / 2 = k.val by omega])
  have s2 : k0_off5 k = spot (snd k.val hk) := (k0_off5_eq k).trans (by
    show ![1, k.val, 0] = ![(2 * k.val + 1) % 2, (2 * k.val + 1) / 2, 0]
    rw [show (2 * k.val + 1) % 2 = 1 by omega, show (2 * k.val + 1) / 2 = k.val by omega])
  unfold issueAt
  rw [Ring.bigSep_rangeSet_head (Φ := fun t => xPart c t f) (lo := 2 * k.val) (by omega) (by omega),
    Ring.bigSep_rangeSet_head (Φ := fun t => yTok c y t.val) (lo := 2 * k.val) (by omega) (by omega),
    Ring.bigSep_rangeSet_head (Φ := fun t => xPart c t f) (lo := 2 * k.val + 1) (by omega) (by omega),
    Ring.bigSep_rangeSet_head (Φ := fun t => yTok c y t.val) (lo := 2 * k.val + 1) (by omega) (by omega)]
  iintro ⟨HB, ⟨HX, HX', HXs⟩, ⟨HY, HY', HYs⟩, HT⟩
  unfold k0_t1_body
  dsimp only
  sl_exec (disch := exact c1)
  iapply (issue_row c y ρ f (fst k.val hk) _ _ (slice_off _ (off_src w1) _ _) (row_off s1 _)) $$ [HB HX HY]
  · isplitl [HY]; · iexact HY
    isplitl [HX] <;> iassumption
  iintro HB
  sl_exec (disch := exact c2)
  iapply (issue_row c y ρ f (snd k.val hk) _ _ (slice_off _ (off_src w2) _ _) (row_off s2 _)) $$ [HB HX' HY']
  · isplitl [HY']; · iexact HY'
    isplitl [HX'] <;> iassumption
  iintro HB
  sl_step
  isplitl [HB]; · iexact HB
  isplitl [HXs]; · iexact HXs
  isplitl [HYs]; · iexact HYs
  iexact HT

/-- Before trip `k` of the wait loop: the waits recorded, and the batch with `2k` rows awaited; after the last trip, the
    semaphore at zero and every delivery. -/
def drainAt (k : ℕ) (_ : Unit) : sProp 𝕄 :=
  iprop(⌜k ≤ 256⌝ ∗ (∃ W, owes (c : Thread nD τ) 0 W)
    ∗ (if k < 256 then batch c y ρ 512 (2 * k * NN)
       else iprop(semVal ((c : Thread nD τ), SemLoc.dma cc0_scratch1.sem) 0 ∗ bigSep Finset.univ (del c y ρ))))

/-- One trip of the wait loop. -/
theorem drain_step (k : Fin k0_t2_loop.trips) (acc : Unit) :
    drainAt c y ρ k acc ⊢ wp frame (wpE defs₀ Variants.none (c : Thread nD τ) none) Set.univ
      (k0_t2_body i (Memref.whole main_arg0) (Memref.isWhole_whole _) (Memref.whole main_arg1) (Memref.isWhole_whole _) arg3 harg3 arg4 harg4 arg5 harg5 arg6 harg6 arg7 harg7 (Memref.whole cc0_scratch0) (Memref.isWhole_whole _) cc0_scratch1 k acc)
      (drainAt c y ρ (k.val + 1)) := by
  have hk : k.val < 256 := trips2 ▸ k.isLt
  unfold drainAt
  simp only [if_pos hk]
  rcases Nat.lt_or_ge (k.val + 1) 256 with h1 | h1
  · simp only [if_pos h1]
    iintro ⟨-, ⟨%W, HO⟩, HB⟩
    unfold k0_t2_body
    dsimp only
    sl_exec
    sl_step
    isplitr; · ipureintro; omega
    isplitl [HO]; · iexists _; iexact HO
    rw [show 2 * (k.val + 1) * NN = 2 * k.val * NN + NN + NN by ring]
    iexact HB
  · simp only [if_neg (Nat.not_lt.mpr h1)]
    iintro ⟨-, ⟨%W, HO⟩, HB⟩
    unfold k0_t2_body
    dsimp only
    sl_exec
    sl_step
    isplitr; · ipureintro; omega
    isplitl [HO]; · iexists _; iexact HO
    isplitl [HB]; · iexact HB
    iexact HB_all

end Issue

end Cert.Kernel2.Rows

end
-- ==== Proof.CombineRun.lean ====
/- One grid point of the combining kernel: it gathers the rows of its 256 tokens' two experts, weighs and adds them,
   adds the gated sum to the stream, and normalises every token. -/
module

public import proofs.«01_k».proof.Proof.CombineRows
public import Idealize.ShloMosaic.Lib.VecWindow
public import Idealize.ShloMosaic.Lib.Writes
public import Idealize.ShloMosaic.Lib.Pipeline.FrameBody
public import Idealize.ShloMosaic.Lib.Pipeline.TableIdle

@[expose] public section

set_option maxRecDepth 16384
set_option Elab.async false
set_option backward.isDefEq.respectTransparency.types false

noncomputable section

namespace Cert.Kernel2.Rows

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD) (y : S24576x2048.Idx → Elt F .f32) (ρ : Fin 512 → Fin 24576)

/-- A whole scratch or table buffer at contents `f`. -/
abbrev held (b : Ref sig .tc) (q : PosShare TreeShare) (f : b.ty.Contents (Elt F)) : sProp 𝕄 :=
  (Memref.whole b).view.loc (c : Thread nD τ) ↦{q} f

/-- The experts' outputs once 512 read tokens are dealt out of them. -/
abbrev yRest : sProp 𝕄 := held c main_arg1 (Transfers.shareDrop fullShare 512) y

/-- The scratch whole is its rows. -/
theorem xParts_eq (f : S2x256x2048.Idx → Elt F .f32) :
    held c cc0_scratch0 fullShare f = (bigSep (Ring.rangeSet 512 0 512) (fun t => xPart c t f) : sProp 𝕄) := by
  rw [Ring.rangeSet_univ]
  exact Ring.pointsTo_blocks (ℓ := (Memref.whole cc0_scratch0 : Memref sig .tc .vmem S2x256x2048 .f32).view.loc (c : Thread nD τ)) (q := fullShare) bset bset_disjoint bset_cover f

/-- The tokens by number. -/
theorem toks_eq : (bigSep (Finset.range 512) (fun t => yTok c y t) : sProp 𝕄) = bigSep (Ring.rangeSet 512 0 512) (fun t => yTok c y t.val) :=
  (Ring.bigSep_rangeSet_eq_range (NB := 512) (lo := 0) (hi := 512) (Φ := fun t => yTok c y t.val) le_rfl (fun t => yTok c y t)
    (fun k hk => by show yTok c y k = yTok c y (0 + k); rw [Nat.zero_add])).symm

/-- The experts' outputs are the rest and the tokens. -/
theorem yToks : held c main_arg1 fullShare y ⊣⊢ (iprop(yRest c y ∗ bigSep (Ring.rangeSet 512 0 512) (fun t => yTok c y t.val)) : sProp 𝕄) := by
  rw [← toks_eq]; exact Transfers.pointsTo_toks_range fullShare 512

/-- Every delivery, with the rest of the experts' outputs, is the gathered scratch and the outputs whole. -/
theorem gather_done : iprop(bigSep Finset.univ (del c y ρ) ∗ yRest c y)
    ⊢ (iprop(held c cc0_scratch0 fullShare (gathered y ρ) ∗ held c main_arg1 fullShare y) : sProp 𝕄) := by
  iintro ⟨HD, HR⟩
  ihave HD' := (Entails.of_eq (show (bigSep Finset.univ (del c y ρ) : sProp 𝕄)
      = iprop(bigSep Finset.univ (fun t => xPart c t (gathered y ρ)) ∗ bigSep Finset.univ (fun t : Fin 512 => yTok c y t.val)) from BI.bigSep_sep _ _ _)) $$ HD
  icases HD' with ⟨HX, HT⟩
  rw [xParts_eq, Ring.rangeSet_univ]
  isplitl [HX]; · iexact HX
  iapply (yToks c y).2
  rw [Ring.rangeSet_univ]
  isplitl [HR] <;> iassumption

/-- What a store of the whole shape leaves. -/
theorem read_full {sp : Space} {s : Shape} {e : EltTy} (M : Memref sig .tc sp s e) {off : Fin s.rank → ℕ} (inb : ∀ a, off a + s.size a ≤ s.size a)
    (f : M.view.ty.Contents (Elt F)) (w : s.Idx → Elt F e) :
    M.view.read (Elt F) (M.view.writes (Elt F) f [⟨Rect.unit (s := s) off s.size inb, w⟩]) = w := by
  funext y
  have ey : (Rect.unit (s := s) off s.size inb).emb y = y := funext fun a => Fin.ext (by
    show off a + 1 * (y a).val = (y a).val
    have := inb a; omega)
  calc _ = M.view.read (Elt F) (M.view.writes (Elt F) f [⟨Rect.unit (s := s) off s.size inb, w⟩]) ((Rect.unit (s := s) off s.size inb).emb y) := by rw [ey]
    _ = w y := M.view.read_writes_cons_emb f (Rect.unit (s := s) off s.size inb) w [] y

/-- After the issue loop. -/
theorem issue_done (f : S2x256x2048.Idx → Elt F .f32) (T : S16384.Idx → Elt F .i32) (acc : Unit) :
    issueAt c y ρ f T (Scf.trips k0_t1_loop.lb k0_t1_loop.ub k0_t1_loop.st) acc ⊢ (iprop(batch c y ρ 512 0 ∗ tab c T) : sProp 𝕄) := by
  rw [show Scf.trips k0_t1_loop.lb k0_t1_loop.ub k0_t1_loop.st = 256 from trips1]
  unfold issueAt; iintro ⟨HB, -, -, HT⟩; isplitl [HB] <;> iassumption

/-- After the wait loop. -/
theorem drain_done (acc : Unit) : drainAt c y ρ (Scf.trips k0_t2_loop.lb k0_t2_loop.ub k0_t2_loop.st) acc
    ⊢ (iprop((∃ W, owes (c : Thread nD τ) 0 W) ∗ semVal ((c : Thread nD τ), SemLoc.dma cc0_scratch1.sem) 0 ∗ bigSep Finset.univ (del c y ρ)) : sProp 𝕄) := by
  rw [show Scf.trips k0_t2_loop.lb k0_t2_loop.ub k0_t2_loop.st = 256 from trips2]
  unfold drainAt; rw [if_neg (Nat.lt_irrefl _)]; iintro ⟨-, HO, Hc, Hall⟩
  isplitl [HO]; · iexact HO
  isplitl [Hc] <;> iassumption

/-- The rows of the tokens' first experts, -/
abbrev first (G : S2x256x2048.Idx → Elt F .f32) : S1x256x2048.Idx → Elt F .f32 :=
  View.readAt (Elt F) (Memref.whole cc0_scratch0 : Memref sig .tc .vmem S2x256x2048 .f32).view
    (Rect.unit (s := S2x256x2048) ![0, 0, 0] S1x256x2048.size inb_S2x256x2048_S1x256x2048_0_0_0).toLoadRect G
/-- and of their second. -/
abbrev second (G : S2x256x2048.Idx → Elt F .f32) : S1x256x2048.Idx → Elt F .f32 :=
  View.readAt (Elt F) (Memref.whole cc0_scratch0 : Memref sig .tc .vmem S2x256x2048 .f32).view
    (Rect.unit (s := S2x256x2048) ![1, 0, 0] S1x256x2048.size inb_S2x256x2048_S1x256x2048_1_0_0).toLoadRect G

/-- What a tile stores, from the stream's rows `x`, their weights `w`, the gate `g`, the norm's scale `s` and the scratch. -/
abbrev tileOut (G : S2x256x2048.Idx → Elt F .f32) (x : S256x2048.Idx → Elt F .f32) (w : S256x8.Idx → Elt F .f32)
    (g : S1x1x2048.Idx → Elt F .f32) (s : S1x2048.Idx → Elt F .f32) : S256x2048.Idx → Elt F .f32 :=
  k0_pay1 (k0_pay2 w x g (first G) (second G)) (k0_pay3 s) (k0_pay4 w x g (first G) (second G))

variable (i : grid0.Coords) (arg3 : Memref sig .tc .vmem S256x2048 .f32) (harg3 : arg3.IsWhole) (arg4 : Memref sig .tc .vmem S256x8 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S256x2048 .f32) (harg7 : arg7.IsWhole)

/-- The kernel's body at its operands. -/
abbrev point : Prog (TpuEff nD τ sig (Elt F) Λ₀ .tc) PUnit :=
  cc0_moe_combine i (Memref.whole main_arg0) (Memref.isWhole_whole _) (Memref.whole main_arg1) (Memref.isWhole_whole _) arg3 harg3 arg4 harg4 arg5 harg5 arg6 harg6 arg7 harg7 (Memref.whole cc0_scratch0) (Memref.isWhole_whole _) cc0_scratch1

/-- A tile stores its tokens' normalised stream, on the rows gathered for them. -/
theorem run_point (T : S16384.Idx → Elt F .i32)
    (hρ : ∀ k : Fin k0_t1_loop.trips, (firstWord T i k).toNat = (ρ (fst k.val (trips1 ▸ k.isLt))).val ∧ (secondWord T i k).toNat = (ρ (snd k.val (trips1 ▸ k.isLt))).val)
    (x : S256x2048.Idx → Elt F .f32) (w : S256x8.Idx → Elt F .f32) (g : S1x1x2048.Idx → Elt F .f32) (s : S1x2048.Idx → Elt F .f32)
    (f : S2x256x2048.Idx → Elt F .f32) (W : Waits sig Unit) (K : PUnit → sProp 𝕄) :
    iprop(tab c T ∗ held c main_arg1 fullShare y
        ∗ (arg3.view.loc (c : Thread nD τ) ↦[arg3.view.set]{fullShare} arg3.view.rep x)
        ∗ (arg4.view.loc (c : Thread nD τ) ↦[arg4.view.set]{fullShare} arg4.view.rep w)
        ∗ (arg5.view.loc (c : Thread nD τ) ↦[arg5.view.set]{fullShare} arg5.view.rep g)
        ∗ (arg6.view.loc (c : Thread nD τ) ↦[arg6.view.set]{fullShare} arg6.view.rep s)
        ∗ (∃ d, owns (c : Thread nD τ) arg7 fullShare d)
        ∗ held c cc0_scratch0 fullShare f
        ∗ semVal ((c : Thread nD τ), SemLoc.dma cc0_scratch1.sem) 0 ∗ owes (c : Thread nD τ) 0 W
        ∗ ((tab c T ∗ held c main_arg1 fullShare y
            ∗ (arg3.view.loc (c : Thread nD τ) ↦[arg3.view.set]{fullShare} arg3.view.rep x)
            ∗ (arg4.view.loc (c : Thread nD τ) ↦[arg4.view.set]{fullShare} arg4.view.rep w)
            ∗ (arg5.view.loc (c : Thread nD τ) ↦[arg5.view.set]{fullShare} arg5.view.rep g)
            ∗ (arg6.view.loc (c : Thread nD τ) ↦[arg6.view.set]{fullShare} arg6.view.rep s)
            ∗ owns (c : Thread nD τ) arg7 fullShare (tileOut (gathered y ρ) x w g s)
            ∗ held c cc0_scratch0 fullShare (gathered y ρ)
            ∗ semVal ((c : Thread nD τ), SemLoc.dma cc0_scratch1.sem) 0 ∗ (∃ W, owes (c : Thread nD τ) 0 W)) -∗ K ⟨⟩))
      ⊢ wp frame (wpE defs₀ Variants.none (c : Thread nD τ) none) Set.univ (point i arg3 harg3 arg4 harg4 arg5 harg5 arg6 harg6 arg7 harg7) K := by
  have hS0 : (Memref.whole cc0_scratch0).IsWhole := Memref.isWhole_whole _
  unfold owns point
  rw [cc0_moe_combine_eq_skeleton, xParts_eq c f]
  unfold cc0_moe_combine_skel
  rw [k0_part1_eq_skeleton]
  unfold k0_part1_skel
  simp only [bind_assoc, pure_bind]
  iintro ⟨HT, HY, HA, HB, HC, HD, ⟨%d, %q, -, HO⟩, HX, Hsem, Hw, Hk⟩
  ihave HY' := (yToks c y).1 $$ HY
  icases HY' with ⟨HR, HY⟩
  imod (Transfers.batch_alloc' (Lvl := ℕ) (countersEmb (U := Pipeline.UD sig nD τ)) (c : Thread nD τ) () NN (del c y ρ) (sm := .dma cc0_scratch1.sem) (E := Set.univ)) $$ Hsem with Hbatch
  sl_for (issueAt c y ρ f T) $$ [Hbatch HX HY HT]
  · intro k acc; exact issue_step c y ρ i _ _ _ _ _ _ _ _ _ _ f T hρ k acc
  · unfold issueAt
    isplitl [Hbatch]; · iexact Hbatch
    isplitl [HX]; · iexact HX
    isplitl [HY]; · iexact HY
    iexact HT
  iintro %acc HL
  ihave HL' := (issue_done c y ρ f T acc) $$ HL
  icases HL' with ⟨Hbatch, HT⟩
  sl_for (drainAt c y ρ) $$ [Hbatch Hw]
  · intro k acc; exact drain_step c y ρ i _ _ _ _ _ _ _ _ _ _ k acc
  · unfold drainAt
    rw [if_pos (by decide)]
    isplitr; · ipureintro; omega
    isplitl [Hw]; · iexists _; iexact Hw
    rw [Nat.mul_zero, Nat.zero_mul]; iexact Hbatch
  iintro %acc' HL
  ihave HL' := (drain_done c y ρ acc') $$ HL
  icases HL' with ⟨⟨%W', HW⟩, Hsem, HG⟩
  ihave HG' := (gather_done c y ρ) $$ [HG HR]
  · isplitl [HG] <;> iassumption
  icases HG' with ⟨HX, HY⟩
  sl_exec!
  sl_step
  iapply Hk
  isplitl [HT]; · iexact HT
  isplitl [HY]; · iexact HY
  isplitl [HA]; · iexact HA
  isplitl [HB]; · iexact HB
  isplitl [HC]; · iexact HC
  isplitl [HD]; · iexact HD
  isplitl [HO]
  · iexists _; isplitr; swap
    · iexact HO
    · ipureintro
      refine (read_full arg7 inb_S256x2048_S256x2048_0_0 _ _).trans ?_
      rw [View.readAt_rep_full, View.readAt_rep_full, View.readAt_rep_full, View.readAt_rep_full]
  isplitl [HX]; · iexact HX
  isplitl [Hsem]; · iexact Hsem
  iexists _; iexact HW

end Cert.Kernel2.Rows

end
-- ==== Proof.CombineLaunch.lean ====
/- The combining kernel launched: what the windows' blocks are, what is held between two grid points, each point from
   one to the next, and what every final state holds. -/
module

public import proofs.«01_k».proof.Proof.CombineRun
public import proofs.«01_k».proof.Proof.Gen.Kernel2.Launch
public import Idealize.ShloMosaic.Lib.Pipeline.Kit
public import Idealize.ShloMosaic.Lib.Pipeline.Frame

@[expose] public section

set_option maxRecDepth 16384
set_option Elab.async false
set_option backward.isDefEq.respectTransparency.types false

noncomputable section

namespace Cert.Kernel2.Rows

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-! ## The table -/

/-- Where in the experts' outputs each token's two rows lie: the first experts' rows, then the second's. -/
abbrev Td : S16384.Idx → BitVec 32 := m (((0 : Dev nD) : Thread nD τ).loc main_arg0)

/-- Every place is one of the 24576 rows. -/
def Placed : Prop := ∀ y, (Td m y).toNat < 24576

variable (hr : Placed m)

/-- The table, as the launch reads it. -/
def tabs : pre0.Contents (Elt F) := fun k => m (((0 : Dev nD) : Thread nD τ).loc (pre0.ref k))

def adm : (pcfg0 (F := F)).Adm := ⟨tabs m, trivial⟩
abbrev cfgA : Pipeline.Cfg sig Λ₀ := cfg0 (F := F) (adm m)
abbrev pcs : Fin 1 → Pipeline.Cfg sig Λ₀ := Pipeline.pin (pcfgs (F := F)) fun _ => adm m

/-- Point `t`'s coordinates, and each window's staging buffer there. -/
abbrev crd (t : Fin (cfgA m).N) : grid0.Coords := (cfgA m).grid.coords t
abbrev ms0_0 (t : Fin (cfgA m).N) : Memref sig .tc .vmem S256x2048 .f32 := spec0_0.stage ((cfgA m).slots t (0 : Fin 5))
abbrev hs0_0 (t : Fin (cfgA m).N) : (ms0_0 m t).IsWhole := hstage0_0 (((cfgA m).slots t (0 : Fin 5)).cast nbuf0_0)
abbrev ms0_1 (t : Fin (cfgA m).N) : Memref sig .tc .vmem S256x8 .f32 := spec0_1.stage ((cfgA m).slots t (1 : Fin 5))
abbrev hs0_1 (t : Fin (cfgA m).N) : (ms0_1 m t).IsWhole := hstage0_1 (((cfgA m).slots t (1 : Fin 5)).cast nbuf0_1)
abbrev ms0_2 (t : Fin (cfgA m).N) : Memref sig .tc .vmem S1x1x2048 .f32 := spec0_2.stage ((cfgA m).slots t (2 : Fin 5))
abbrev hs0_2 (t : Fin (cfgA m).N) : (ms0_2 m t).IsWhole := hstage0_2 (((cfgA m).slots t (2 : Fin 5)).cast nbuf0_2)
abbrev ms0_3 (t : Fin (cfgA m).N) : Memref sig .tc .vmem S1x2048 .f32 := spec0_3.stage ((cfgA m).slots t (3 : Fin 5))
abbrev hs0_3 (t : Fin (cfgA m).N) : (ms0_3 m t).IsWhole := hstage0_3 (((cfgA m).slots t (3 : Fin 5)).cast nbuf0_3)
abbrev ms0_4 (t : Fin (cfgA m).N) : Memref sig .tc .vmem S256x2048 .f32 := spec0_4.stage ((cfgA m).slots t (4 : Fin 5))
abbrev hs0_4 (t : Fin (cfgA m).N) : (ms0_4 m t).IsWhole := hstage0_4 (((cfgA m).slots t (4 : Fin 5)).cast nbuf0_4)

theorem crd_val (t : Fin (cfgA m).N) : (crd m t 0).val = t.val :=
  (show ∀ t : Fin grid0.N, (grid0.coords t 0).val = t.val by decide +kernel) t

/-- The row of the experts' outputs that transfer `t` of tile `i` copies: a token's first place, or its second. -/
def rows (i : grid0.Coords) (t : Fin 512) : Fin 24576 :=
  ⟨(Td m (fun a => match a with | ⟨0, _⟩ => ⟨256 * (i 0).val + t.val / 2 + 8192 * (t.val % 2), by have : (i 0).val < 32 := (i 0).isLt; have := t.isLt; show _ < 16384; omega⟩)).toNat, hr _⟩

theorem rows_word (i : grid0.Coords) (k : Fin k0_t1_loop.trips) :
    (firstWord (F := F) (Td m) i k).toNat = (rows m hr i (fst k.val (trips1 ▸ k.isLt))).val
      ∧ (secondWord (F := F) (Td m) i k).toNat = (rows m hr i (snd k.val (trips1 ▸ k.isLt))).val := by
  constructor
  · refine congrArg (fun y => (Td m y).toNat) (funext fun a => Fin.ext ?_)
    match a with
    | ⟨0, _⟩ =>
      show k0_off1 i k 0 + 1 * 0 = 256 * (i 0).val + 2 * k.val / 2 + 8192 * (2 * k.val % 2)
      rw [k0_off1_eq]; show 256 * (i 0).val + k.val + 1 * 0 = _; omega
  · refine congrArg (fun y => (Td m y).toNat) (funext fun a => Fin.ext ?_)
    match a with
    | ⟨0, _⟩ =>
      show k0_off4 i k 0 + 1 * 0 = 256 * (i 0).val + (2 * k.val + 1) / 2 + 8192 * ((2 * k.val + 1) % 2)
      rw [k0_off4_eq]; show 256 * (i 0).val + k.val + 8192 + 1 * 0 = _; omega

/-! ## The windows' blocks -/

variable (c : Dev nD)

/-- The contents at launch: the weights transposed and the norm's scale made a row, all else as given. -/
abbrev V (c : Dev nD) (b : Ref sig .tc) : Buf (Elt F) ((c : Thread nD τ).loc b) :=
  StableHlo.after hostOps0 (fun b => m (c, b)) (Proc.devRef .tc b)

/-- What the two host operations do not write is as given. -/
theorem V_kept {r : Ref sig .tc} (h : r ∉ [main_v0, main_v1]) : V m c r = m ((c : Thread nD τ).loc r) :=
  StableHlo.after_of_writes_sub (W := [main_v0, main_v1]) hostOps0 _
    ⟨Finset.singleton_subset_iff.mpr (by decide), Finset.singleton_subset_iff.mpr (by decide)⟩ h

theorem V_v0 : V m c main_v0 = transpose S8192x8 [1, 0] (m ((c : Thread nD τ).loc main_arg3)) transposes_S8x8192_S8192x8_1_0 := by
  show StableHlo.after hostOps0 (fun b => m (c, b)) (Proc.devRef .tc main_v0) = _
  rw [StableHlo.after_cons, StableHlo.after_cons, StableHlo.after_nil, StableHlo.reshape_result_ne _ _ _ _ _ _ _ (by decide), StableHlo.unary_result]

theorem V_v1 : V m c main_v1 = shapeCast S1x2048 (m ((c : Thread nD τ).loc main_arg5)) shapeCasts_S2048_S1x2048 := by
  show StableHlo.after hostOps0 (fun b => m (c, b)) (Proc.devRef .tc main_v1) = _
  rw [StableHlo.after_cons, StableHlo.after_cons, StableHlo.after_nil, StableHlo.reshape_result, StableHlo.unary_result_ne _ _ _ _ _ _ (by decide)]
  rfl

/-- The places of a tile's blocks in their arrays. -/
theorem step1 : ∀ i : grid0.Coords, cc0_transform_1 i = ![(i 0).val, 0] := by decide +kernel
theorem step2 : ∀ i : grid0.Coords, cc0_transform_2 i = ![(i 0).val, 0] := by decide +kernel
theorem step3 : ∀ i : grid0.Coords, cc0_transform_3 i = ![(i 0).val / 8 * 6 + 5, 0, 0] := by decide +kernel
theorem step4 : ∀ i : grid0.Coords, cc0_transform_4 i = ![0, 0] := by decide +kernel

/-- Tile `i`'s rows of the stream, -/
def streamAt (i : grid0.Coords) : S256x2048.Idx → Elt F .f32 :=
  fun y => m ((c : Thread nD τ).loc main_arg2) (fun a => match a with | ⟨0, _⟩ => ⟨256 * (i 0).val + (y 0).val, by have : (i 0).val < 32 := (i 0).isLt; have : (y 0).val < 256 := (y 0).isLt; show _ < 8192; omega⟩ | ⟨1, _⟩ => y 1)
/-- its tokens' routing numbers, a token's in a row, -/
def infoAt (i : grid0.Coords) : S256x8.Idx → Elt F .f32 :=
  fun y => V m c main_v0 (fun a => match a with | ⟨0, _⟩ => ⟨256 * (i 0).val + (y 0).val, by have : (i 0).val < 32 := (i 0).isLt; have : (y 0).val < 256 := (y 0).isLt; show _ < 8192; omega⟩ | ⟨1, _⟩ => y 1)
/-- its sample's gate, -/
def gateAt (i : grid0.Coords) : S1x1x2048.Idx → Elt F .f32 :=
  fun y => m ((c : Thread nD τ).loc main_arg4) (fun a => match a with | ⟨0, _⟩ => ⟨(i 0).val / 8 * 6 + 5, by have : (i 0).val < 32 := (i 0).isLt; show _ < 48; omega⟩ | ⟨1, _⟩ => y 1 | ⟨2, _⟩ => y 2)
/-- and the norm's scale. -/
abbrev scaleRow : S1x2048.Idx → Elt F .f32 := V m c main_v1

/-- The experts' outputs. -/
abbrev outs : S24576x2048.Idx → Elt F .f32 := m ((c : Thread nD τ).loc main_arg1)

/-- What tile `i` stores. -/
def outAt (i : grid0.Coords) : S256x2048.Idx → Elt F .f32 :=
  tileOut (gathered (outs m c) (rows m hr i)) (streamAt m c i) (infoAt m c i) (gateAt m c i) (scaleRow m c)

/-! ## What is held between two points -/

def Phi : sProp 𝕄 :=
  iprop((∃ f : S2x256x2048.Idx → Elt F .f32, held c cc0_scratch0 fullShare f)
    ∗ (∃ r, prngReg c r) ∗ semVal ((c : Thread nD τ), SemLoc.dma cc0_scratch1.sem) 0 ∗ held c main_arg1 fullShare (outs m c) ∗ tab c (Td m))

/-- The proof data of the one pipeline on core `c`. -/
def dats (_ : Fin 1) (c : Dev nD) : Dat τ (Elt F) Unit ℕ (Pipeline.UD sig nD τ) ℕ (cfgA m) c where
  A w := StableHlo.after hostOps0 (fun b => m (c, b)) (((cfgA m).win w).arr.view.loc (c : Thread nD τ)).2
  after w t := match w with
    | ⟨0, _⟩ => streamAt m c (crd m t)
    | ⟨1, _⟩ => infoAt m c (crd m t)
    | ⟨2, _⟩ => gateAt m c (crd m t)
    | ⟨3, _⟩ => scaleRow m c
    | ⟨4, _⟩ => outAt m hr c (crd m t)
  Φ _ := Phi m c
  q _ := fullShare
  owed _ := 0

theorem after0_0 (t : Fin (cfgA m).N) : (dats m hr 0 c).after (0 : Fin 5) t = streamAt m c (crd m t) := rfl
theorem after0_1 (t : Fin (cfgA m).N) : (dats m hr 0 c).after (1 : Fin 5) t = infoAt m c (crd m t) := rfl
theorem after0_2 (t : Fin (cfgA m).N) : (dats m hr 0 c).after (2 : Fin 5) t = gateAt m c (crd m t) := rfl
theorem after0_3 (t : Fin (cfgA m).N) : (dats m hr 0 c).after (3 : Fin 5) t = scaleRow m c := rfl
theorem after0_4 (t : Fin (cfgA m).N) : (dats m hr 0 c).after (4 : Fin 5) t = outAt m hr c (crd m t) := rfl

/-- Each input's block at point `t`, read off its array. -/
theorem blk_0 (t : Fin (cfgA m).N) : (dats m hr 0 c).blockOf (0 : Fin 5) t = streamAt m c (crd m t) := by
  funext y
  show V m c main_arg2 _ = _
  rw [V_kept m c (r := main_arg2) (by decide)]
  refine congrArg (m ((c : Thread nD τ).loc main_arg2)) (funext fun a => Fin.ext ?_)
  match a with
  | ⟨0, _⟩ => show cc0_transform_1 (crd m t) 0 * 256 + 1 * (y 0).val = 256 * (crd m t 0).val + (y 0).val; rw [step1]; show (crd m t 0).val * 256 + 1 * (y 0).val = _; omega
  | ⟨1, _⟩ => show cc0_transform_1 (crd m t) 1 * 2048 + 1 * (y 1).val = (y 1).val; rw [step1]; show 0 * 2048 + 1 * (y 1).val = _; omega

theorem blk_1 (t : Fin (cfgA m).N) : (dats m hr 0 c).blockOf (1 : Fin 5) t = infoAt m c (crd m t) := by
  funext y
  refine congrArg (V m c main_v0) (funext fun a => Fin.ext ?_)
  match a with
  | ⟨0, _⟩ => show cc0_transform_2 (crd m t) 0 * 256 + 1 * (y 0).val = 256 * (crd m t 0).val + (y 0).val; rw [step2]; show (crd m t 0).val * 256 + 1 * (y 0).val = _; omega
  | ⟨1, _⟩ => show cc0_transform_2 (crd m t) 1 * 8 + 1 * (y 1).val = (y 1).val; rw [step2]; show 0 * 8 + 1 * (y 1).val = _; omega

theorem blk_2 (t : Fin (cfgA m).N) : (dats m hr 0 c).blockOf (2 : Fin 5) t = gateAt m c (crd m t) := by
  funext y
  have hy : (y 0).val < 1 := (y 0).isLt
  show V m c main_arg4 _ = _
  rw [V_kept m c (r := main_arg4) (by decide)]
  refine congrArg (m ((c : Thread nD τ).loc main_arg4)) (funext fun a => Fin.ext ?_)
  match a with
  | ⟨0, _⟩ => show cc0_transform_3 (crd m t) 0 * 1 + 1 * (y 0).val = (crd m t 0).val / 8 * 6 + 5; rw [step3]; show ((crd m t 0).val / 8 * 6 + 5) * 1 + 1 * (y 0).val = _; omega
  | ⟨1, _⟩ => show cc0_transform_3 (crd m t) 1 * 1 + 1 * (y 1).val = (y 1).val; rw [step3]; show 0 * 1 + 1 * (y 1).val = _; omega
  | ⟨2, _⟩ => show cc0_transform_3 (crd m t) 2 * 2048 + 1 * (y 2).val = (y 2).val; rw [step3]; show 0 * 2048 + 1 * (y 2).val = _; omega

theorem blk_3 (t : Fin (cfgA m).N) : (dats m hr 0 c).blockOf (3 : Fin 5) t = scaleRow m c := by
  funext y
  refine congrArg (V m c main_v1) (funext fun a => Fin.ext ?_)
  match a with
  | ⟨0, _⟩ => show cc0_transform_4 (crd m t) 0 * 1 + 1 * (y 0).val = (y 0).val; rw [step4]; show 0 * 1 + 1 * (y 0).val = _; omega
  | ⟨1, _⟩ => show cc0_transform_4 (crd m t) 1 * 2048 + 1 * (y 1).val = (y 1).val; rw [step4]; show 0 * 2048 + 1 * (y 1).val = _; omega

/-- An input's staging buffer holds its block when the body runs. -/
theorem before0_0 (t : Fin (cfgA m).N) (d) : (dats m hr 0 c).before (0 : Fin 5) t d = streamAt m c (crd m t) :=
  ((dats m hr 0 c).before_in_eq_fetched (0 : Fin 5) rfl (fun _ => rfl) (fun _ _ _ => rfl) (fun t => (after0_0 m hr c t).trans (blk_0 m hr c t).symm) t d).trans
    (by unfold Dat.fetched; exact blk_0 m hr c t)
theorem before0_1 (t : Fin (cfgA m).N) (d) : (dats m hr 0 c).before (1 : Fin 5) t d = infoAt m c (crd m t) :=
  ((dats m hr 0 c).before_in_eq_fetched (1 : Fin 5) rfl (fun _ => rfl) (fun _ _ _ => rfl) (fun t => (after0_1 m hr c t).trans (blk_1 m hr c t).symm) t d).trans
    (by unfold Dat.fetched; exact blk_1 m hr c t)
theorem before0_2 (t : Fin (cfgA m).N) (d) : (dats m hr 0 c).before (2 : Fin 5) t d = gateAt m c (crd m t) :=
  ((dats m hr 0 c).before_in_eq_fetched (2 : Fin 5) rfl (fun _ => rfl) (fun _ _ _ => rfl) (fun t => (after0_2 m hr c t).trans (blk_2 m hr c t).symm) t d).trans
    (by unfold Dat.fetched; exact blk_2 m hr c t)
theorem before0_3 (t : Fin (cfgA m).N) (d) : (dats m hr 0 c).before (3 : Fin 5) t d = scaleRow m c :=
  ((dats m hr 0 c).before_in_eq_fetched (3 : Fin 5) rfl (fun _ => rfl) (fun _ _ _ => rfl) (fun t => (after0_3 m hr c t).trans (blk_3 m hr c t).symm) t d).trans
    (by unfold Dat.fetched; exact blk_3 m hr c t)

set_option maxHeartbeats 4000000 in
/-- The body at point `t`, from what is held before it to what is held after it. -/
theorem sound_body (t : Fin (cfgA m).N) :
    iprop((dats m hr 0 c).Φ t.castSucc ∗ (dats m hr 0 c).owesAt () t.castSucc
        ∗ (∃ d, owns (c : Thread nD τ) (ms0_0 m t) fullShare ((dats m hr 0 c).before (0 : Fin 5) t d))
        ∗ (∃ d, owns (c : Thread nD τ) (ms0_1 m t) fullShare ((dats m hr 0 c).before (1 : Fin 5) t d))
        ∗ (∃ d, owns (c : Thread nD τ) (ms0_2 m t) fullShare ((dats m hr 0 c).before (2 : Fin 5) t d))
        ∗ (∃ d, owns (c : Thread nD τ) (ms0_3 m t) fullShare ((dats m hr 0 c).before (3 : Fin 5) t d))
        ∗ (∃ d, owns (c : Thread nD τ) (ms0_4 m t) fullShare ((dats m hr 0 c).before (4 : Fin 5) t d)))
      ⊢ wp frame (wpE (defs₀ (F := F)) Variants.none (c : Thread nD τ) none) Set.univ
          (point (crd m t) (ms0_0 m t) (hs0_0 m t) (ms0_1 m t) (hs0_1 m t) (ms0_2 m t) (hs0_2 m t) (ms0_3 m t) (hs0_3 m t) (ms0_4 m t) (hs0_4 m t)) fun _ =>
          iprop((dats m hr 0 c).Φ t.succ ∗ (dats m hr 0 c).owesAt () t.succ
            ∗ owns (c : Thread nD τ) (ms0_0 m t) fullShare ((dats m hr 0 c).after (0 : Fin 5) t)
            ∗ owns (c : Thread nD τ) (ms0_1 m t) fullShare ((dats m hr 0 c).after (1 : Fin 5) t)
            ∗ owns (c : Thread nD τ) (ms0_2 m t) fullShare ((dats m hr 0 c).after (2 : Fin 5) t)
            ∗ owns (c : Thread nD τ) (ms0_3 m t) fullShare ((dats m hr 0 c).after (3 : Fin 5) t)
            ∗ owns (c : Thread nD τ) (ms0_4 m t) fullShare ((dats m hr 0 c).after (4 : Fin 5) t)) := by
  simp only [before0_0, before0_1, before0_2, before0_3, after0_0, after0_1, after0_2, after0_3, after0_4]
  rewrite [show (dats m hr 0 c).Φ t.succ = Phi m c from rfl, show (dats m hr 0 c).Φ t.castSucc = Phi m c from rfl,
    show (dats m hr 0 c).owesAt () t.succ = (dats m hr 0 c).owesAt () t.castSucc from rfl]
  unfold Phi
  iintro ⟨⟨⟨%f, H0⟩, Hp, Hsem, HY, HT⟩, ⟨%W, %hW, HW⟩, ⟨%d0, HA⟩, ⟨%d1, HB⟩, ⟨%d2, HC⟩, ⟨%d3, HD⟩, ⟨%d4, HO⟩⟩
  iapply (run_point c (outs m c) (rows m hr (crd m t)) (crd m t) (ms0_0 m t) (hs0_0 m t) (ms0_1 m t) (hs0_1 m t) (ms0_2 m t) (hs0_2 m t) (ms0_3 m t) (hs0_3 m t) (ms0_4 m t) (hs0_4 m t)
    (Td m) (rows_word m hr (crd m t)) (streamAt m c (crd m t)) (infoAt m c (crd m t)) (gateAt m c (crd m t)) (scaleRow m c) f W _)
  isplitl [HT]; · iexact HT
  isplitl [HY]; · iexact HY
  isplitl [HA]; · iapply rep_of_owns; iexact HA
  isplitl [HB]; · iapply rep_of_owns; iexact HB
  isplitl [HC]; · iapply rep_of_owns; iexact HC
  isplitl [HD]; · iapply rep_of_owns; iexact HD
  isplitl [HO]; · iexists _; iexact HO
  isplitl [H0]; · iexact H0
  isplitl [Hsem]; · iexact Hsem
  isplitl [HW]; · iexact HW
  iintro ⟨HT, HY, HA, HB, HC, HD, HO, H0, Hsem, ⟨%W', HW⟩⟩
  isplitl [H0 Hp Hsem HY HT]
  · isplitl [H0]; · iexists _; iexact H0
    isplitl [Hp]; · iexact Hp
    isplitl [Hsem]; · iexact Hsem
    isplitl [HY]; · iexact HY
    iexact HT
  isplitl [HW]
  · iexists W'; isplitr; swap
    · iexact HW
    · ipureintro; exact fun _ _ => Or.inl trivial
  isplitl [HA]; · iapply owns_of_rep; iexact HA
  isplitl [HB]; · iapply owns_of_rep; iexact HB
  isplitl [HC]; · iapply owns_of_rep; iexact HC
  isplitl [HD]; · iapply owns_of_rep; iexact HD
  iexact HO

/-- The body at every point. -/
theorem body_obligation : BodyObligation (dats m hr 0 c) (defs₀ (F := F)) Variants.none () Set.univ := fun t => by
  rw [bigSep_W0, bigSep_W0]
  exact sound_body m hr c t

/-! ## The launch -/

theorem share_eq (w : Fin (cfgA m).W) : (dats m hr 0 c).share w = fullShare := by unfold Dat.share; split <;> rfl

/-- The table as the launch hands it out. -/
theorem prefHeld_eq (q : Fin 1 → PosShare TreeShare) (v : pre0.Contents (Elt F)) :
    (Pipeline.prefHeld (Ix := Unit) (Name := ℕ) (U := Pipeline.UD sig nD τ) (Lvl := ℕ) pre0 c q v : sProp 𝕄)
      = (((c : Thread nD τ).loc main_arg0) ↦{q 0} v 0) := by
  unfold Pipeline.prefHeld
  rw [show (Finset.univ : Finset (Fin 1)) = {(0 : Fin 1)} from by decide, bigSep_singleton]
  rfl

/-- The kernel's own semaphore. -/
abbrev osem : Fin 1 → SemLoc sig := fun _ => .dma cc0_scratch1.sem

theorem ownSems_eq : (Pipeline.ownSems0 (Ix := Unit) (Name := ℕ) (U := Pipeline.UD sig nD τ) (Lvl := ℕ) (Val := Elt F) (τ := τ) osem c : sProp 𝕄)
    = semVal ((c : Thread nD τ), SemLoc.dma cc0_scratch1.sem) 0 := by
  unfold Pipeline.ownSems0
  rw [show (Finset.univ : Finset (Fin 1)) = {(0 : Fin 1)} from by decide, bigSep_singleton]

theorem dev_eq (c : Dev nD) : c = 0 := Subsingleton.elim _ _

/-- What the launch hands over is what is held before the first point, -/
theorem phi_first : iprop(Pipeline.ΦD (Val := Elt F) osem spec0 {main_arg1} (V m) c ∗ Pipeline.ΦT pre0 (adm m).1 c) ⊢ (dats m hr 0 c).Φ 0 := by
  rw [Pipeline.ΦD_eq, ownSems_eq, bigSep_singleton, scopedRest0_eq, show (dats m hr 0 c).Φ 0 = Phi m c from rfl, V_kept m c (r := main_arg1) (by decide)]
  unfold Pipeline.ΦT Phi
  rw [prefHeld_eq]
  have hc := dev_eq c
  subst hc
  iintro ⟨⟨⟨%f, H0⟩, Hp, Hsem, HY⟩, HT⟩
  isplitl [H0]; · iexists f; iexact H0
  isplitl [Hp]; · iexact Hp
  isplitl [Hsem]; · iexact Hsem
  isplitl [HY]; · iexact HY
  iexact HT

/-- and what is held after the last gives back the scratch buffer, the semaphore and the experts' outputs. -/
theorem phi_last : (dats m hr 0 c).Φ (Fin.last (cfgA m).N) ⊢ Pipeline.ΦD (Val := Elt F) osem spec0 {main_arg1} (V m) c := by
  rw [Pipeline.ΦD_eq, ownSems_eq, bigSep_singleton, scopedRest0_eq, show (dats m hr 0 c).Φ (Fin.last (cfgA m).N) = Phi m c from rfl, V_kept m c (r := main_arg1) (by decide)]
  unfold Phi
  iintro ⟨⟨%f, H0⟩, Hp, Hsem, HY, -⟩
  isplitl [H0]; · iexists f; iexact H0
  isplitl [Hp]; · iexact Hp
  isplitl [Hsem]; · iexact Hsem
  iexact HY

set_option maxHeartbeats 4000000 in
/-- Every run ends, with each array at what the points wrote, every other buffer as it was when the kernel was
    launched, and every semaphore at zero. -/
theorem run_main (g : Dev nD → PrngReg) : θ_run (defs (F := F)) (onTc (τ := τ) (main (F := F))) (s₀ m g)
    (fun r => Pipeline.FramePost (pcs m) (dats m hr) 0 (V m) r ∧ r.2.sem = fun _ => 0) :=
  Pipeline.θ_run_frameP_dma pcfgs (fun _ => adm m) (dats m hr) (0 : Fin 1) launch0 osem defs₀ Variants.none
    (show Pipeline.OwnSemFacts spec0 osem by decide) {main_arg1} (show {main_arg1} ⊆ Pipeline.restRefsP sig pre0 spec0 by decide) m g main
    (hbody := fun c => (body_obligation m hr c).loose) (hshare := share_eq m hr) (howed := fun _ _ => rfl)
    (V := V m) (hmain := Pipeline.hmainP_prefix pcfgs 0 defs₀ Variants.none m main hostOps0 hostOps0_sub ⟨rfl, rfl⟩ (fun c => main_chain c))
    (hA := fun _ _ => rfl) (hpf := fun c k => by rw [dev_eq c]; match k with | ⟨0, _⟩ => exact V_kept m 0 (r := main_arg0) (by decide))
    (hin := phi_first m hr) (hout := phi_last m hr)
    (Q' := fun r => Pipeline.FramePost (pcs m) (dats m hr) 0 (V m) r ∧ r.2.sem = fun _ => 0) (hQ' := fun _ h => h)

end Cert.Kernel2.Rows

end
-- ==== Proof.CombineFrame.lean ====
/- What the precondition says of the places, and that the combining kernel leaves its arguments as they were. -/
module

public import proofs.«01_k».proof.Defs
public import proofs.«01_k».proof.Proof.CombineLaunch
public import proofs.«01_k».proof.Proof.ExpertsFrame
public import proofs.«01_k».proof.Proof.Gen.Pre_placed
public import Idealize.ShloMosaic.Lib.ReduceAll

@[expose] public section

set_option maxRecDepth 16384
set_option Elab.async false
set_option backward.isDefEq.respectTransparency.types false

noncomputable section

namespace Cert.Kernel2.Rows

open Cert.Kernel2 Cert.Kernel2.Gen
open Idealize.ShloMosaic Idealize.ShloMosaic.TcCoe Idealize.SL.Sem

attribute [local instance] Cert.Pre_placed.Gen.facts

variable {F : FTy → Type} [FloatOps F] [∀ e, Nonempty (Elt F e)]

/-- The precondition: every place is one of the 24576 rows. -/
theorem places_of_pre (a0 : IVec Cert.Pre_placed.S16384 32) (a1 : FVec F Cert.Pre_placed.S24576x2048 .f32) (a2 : FVec F Cert.Pre_placed.S8192x2048 .f32)
    (a3 : FVec F Cert.Pre_placed.S8x8192 .f32) (a4 : FVec F Cert.Pre_placed.S48x1x2048 .f32) (a5 : FVec F Cert.Pre_placed.S2048 .f32)
    (h : Cert.Pre_placed.fn (F := F) a0 a1 a2 a3 a4 a5 = fun _ => 1#1) : ∀ y, (a0 y).toNat < 24576 := by
  have h' := congrFun h (fun d => d.elim0)
  haveI : Subsingleton Cert.Pre_placed.S_.Idx := ⟨fun a b => funext fun d => d.elim0⟩
  exact fun y => Cert.Kernel.Rows.word_below _ 24576 (by decide) (Host.reduce_andi_all _ _ _ _ _ h' y)

variable (m : (ℓ : Loc nD τ sig) → Buf (Elt F) ℓ)

/-- A precondition on the arguments says that the places are in range. -/
theorem placed_of_pre
    (h : ∀ c : Dev nD, Cert.Pre_placed.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Placed m :=
  places_of_pre _ _ _ _ _ _ (h 0)

/-- Every final state: the result is what the grid's points wrote, the arguments are as they were, the counters zero. -/
theorem run_result (hr : Placed m) (g : Dev nD → PrngReg) :
    θ_run (defs (F := F)) (onTc (τ := τ) (main (F := F))) ⟨m, fun _ => 0, g⟩ (fun r => (∀ c : Dev nD,
      r.2.mem ((c.tc : Thread nD τ).loc main_v2) = (dats m hr 0 c).arrAt 4 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run _ _ _).mono (fun r h => ⟨fun c => ?_, h.2⟩) (run_main m hr g)
  have hc := h.1 c
  have rest : ∀ b, b ∈ Pipeline.restRefs sig spec0 → b ∉ [main_v0, main_v1] →
      r.2.mem (((c : Dev nD) : Thread nD τ).loc b) = m ((c : Thread nD τ).loc b) := fun b hb hn => (hc.2 b hb).trans (V_kept m c hn)
  exact ⟨hc.1 4, rest main_arg0 (by decide) (by decide), rest main_arg1 (by decide) (by decide),
    ((hc.1 0).trans ((dats m hr 0 c).arrAt_in 0 rfl _)).trans (V_kept m c (r := main_arg2) (by decide)),
    rest main_arg3 (by decide) (by decide),
    ((hc.1 2).trans ((dats m hr 0 c).arrAt_in 2 rfl _)).trans (V_kept m c (r := main_arg4) (by decide)),
    rest main_arg5 (by decide) (by decide)⟩

end Cert.Kernel2.Rows

end
-- ==== Proof.CombineIdeal.lean ====
/- The idealized kernel is the kernel's own text, so its run at the extended reals is an instance of the kernel's. -/
module

public import proofs.«01_k».proof.Proof.CombineFrame
public import proofs.«01_k».proof.Proof.Gen.Kernel2Ideal

@[expose] public section

set_option maxRecDepth 16384
set_option Elab.async false
set_option backward.isDefEq.respectTransparency.types false

noncomputable section

namespace Cert.Kernel2.Rows

open Idealize.ShloMosaic Idealize.ShloMosaic.TcCoe Idealize.SL.Sem
attribute [local instance] Cert.Pre_placed.Gen.facts Cert.Kernel2Ideal.Gen.facts Cert.Kernel2.Gen.facts

set_option maxHeartbeats 2000000 in
/-- The two programs have one body. -/
theorem body_eq {F : FTy → Type} [FloatOps F] : @Cert.Kernel2Ideal.cc0_moe_combine F _ _ = @Cert.Kernel2.cc0_moe_combine F _ _ := rfl
set_option maxHeartbeats 1000000 in
/-- They have one table of procedures, -/
theorem defs0_eq {F : FTy → Type} [FloatOps F] : (Cert.Kernel2Ideal.defs₀ (F := F)) = Cert.Kernel2.defs₀ (F := F) := by
  unfold Cert.Kernel2Ideal.defs₀ Cert.Kernel2.defs₀
  refine congrArg Defs.onTc (funext fun l => funext fun a => ?_)
  match l, a with
  | 0, (t, s) =>
    show @Cert.Kernel2Ideal.cc0_moe_combine F _ _ _ _ _ _ _ _ _ _ _ _ _ _ _ _ _ _ _ _ = _
    rw [body_eq]
    rfl

set_option maxHeartbeats 1000000 in
/-- also with the launch's own. -/
theorem defs_eq {F : FTy → Type} [FloatOps F] : (Cert.Kernel2Ideal.defs (F := F)) = Cert.Kernel2.defs (F := F) := by
  unfold Cert.Kernel2Ideal.defs Cert.Kernel2.defs
  exact congrArg (Pipeline.defs (Cert.Kernel2.pcfgs (F := F))) defs0_eq

set_option maxHeartbeats 1000000 in
/-- The idealized kernel runs: the result is what the grid's stores leave, the arguments and the counters are as they were. -/
theorem run_ideal (m : (ℓ : Loc Cert.Kernel2Ideal.nD Cert.Kernel2Ideal.τ Cert.Kernel2Ideal.sig) → Buf (Elt Ideal) ℓ)
    (hr : Placed (F := Ideal) m) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_v2) = (dats m hr 0 c).arrAt 4 (cfgA m).N
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) := by
  rw [defs_eq]
  exact run_result (F := Ideal) m hr g

end Cert.Kernel2.Rows

end
-- ==== Proof.CombineReference.lean ====
/- The reference of the combining, read at one element. -/
module

public import proofs.«01_k».proof.Proof.Gen.Reference2Ideal.Run
public import proofs.«01_k».proof.Proof.ExpertsReference

@[expose] public section

set_option maxRecDepth 16384

noncomputable section

open Idealize.ShloMosaic Idealize.ShloMosaic.TcCoe Idealize.SL.Sem

/-- One element of the stepped stream: the stream's, and the gate times a token's two outputs by their weights. -/
def Cert.step (x g w v a b : EReal) : EReal := x + g * (w * a + v * b)

/-- One output of the normalised stream: a row over the root of its mean square, times the norm's scale. -/
def Cert.scaled (z : Fin 2048 → EReal) (s : EReal) (j : Fin 2048) : EReal :=
  z j * Ideal.rsqrt (Ideal.div (∑ d, z d * z d) (Ideal.ofBits .f32 0x45000000#32) + Ideal.ofBits .f32 0x358637BD#32) * s

namespace Cert.Reference2Ideal.Combine

open Cert.Reference2Ideal Cert.Reference2Ideal.Gen Cert.Reference2Ideal.Value

/-- The places, a token's two in a column, a negative one counted from the end. -/
def places (a : IVec S16384 32) : IVec S2x8192x1 32 :=
  broadcastInDim S2x8192x1 ![0, 1] bcast_S2x8192_S2x8192x1_0_1
    (select (cmpi .slt (shapeCast S2x8192 a shapeCasts_S16384_S2x8192) (broadcastInDim S2x8192 ![] bcast_S_S2x8192 (constantI S_ 32 0#32)))
      (addi (shapeCast S2x8192 a shapeCasts_S16384_S2x8192) (broadcastInDim S2x8192 ![] bcast_S_S2x8192 (constantI S_ 32 24576#32)))
      (shapeCast S2x8192 a shapeCasts_S16384_S2x8192))

/-- The experts' outputs of each token. -/
def chosen (y : FVec Ideal S24576x2048 .f32) (ps : IVec S2x8192x1 32) : FVec Ideal S2x8192x2048 .f32 :=
  Host.gather gather_S24576x2048_S2x8192x1_S2x8192x2048_2_0_n_n_0_2_12048 y ps

/-- Their sum by the routing's weights. -/
def mixed (info : FVec Ideal S8x8192 .f32) (ch : FVec Ideal S2x8192x2048 .f32) : FVec Ideal S8192x2048 .f32 :=
  Host.reduceAdd (mulf (broadcastInDim S2x8192x2048 ![0, 1, 2] bcast_S2x8192x1_S2x8192x2048_0_1_2 (broadcastInDim S2x8192x1 ![0, 1] bcast_S2x8192_S2x8192x1_0_1
    (extractStridedSlice S2x8192 ![4, 0] info slices_S8x8192_S2x8192_4_0))) ch) (constant S_ .f32 0x00000000#32) reducesTo_S2x8192x2048_S8192x2048_d0 h_S_

/-- The stream, stepped on by the gated sum. -/
def stepped (x : FVec Ideal S8192x2048 .f32) (mod : FVec Ideal S48x1x2048 .f32) (o : FVec Ideal S8192x2048 .f32) : FVec Ideal S8192x2048 .f32 :=
  shapeCast S8192x2048 (addf (shapeCast S4x2048x2048 x shapeCasts_S8192x2048_S4x2048x2048)
    (mulf (broadcastInDim S4x2048x2048 ![0, 1, 2] bcast_S4x1x2048_S4x2048x2048_0_1_2 (broadcastInDim S4x1x2048 ![0, 2] bcast_S4x2048_S4x1x2048_0_2
        (shapeCast S4x2048 (extractStridedSlice S4x1x2048 ![0, 5, 0] (shapeCast S8x6x2048 mod shapeCasts_S48x1x2048_S8x6x2048) slices_S8x6x2048_S4x1x2048_0_5_0) shapeCasts_S4x1x2048_S4x2048)))
      (shapeCast S4x2048x2048 o shapeCasts_S8192x2048_S4x2048x2048))) shapeCasts_S4x2048x2048_S8192x2048

/-- The normalised stream. -/
def normed (z : FVec Ideal S8192x2048 .f32) (s : FVec Ideal S2048 .f32) : FVec Ideal S8192x2048 .f32 :=
  mulf (mulf z (broadcastInDim S8192x2048 ![0, 1] bcast_S8192x1_S8192x2048_0_1 (Host.rsqrt (addf (Host.divf
      (broadcastInDim S8192x1 ![0] bcast_S8192_S8192x1_0 (Host.reduceAdd (mulf z z) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 s))

/-- The reference's result is the composition of the parts above. -/
theorem res_eq (m : (ℓ : Loc nD τ sig) → Buf (Elt Ideal) ℓ) (c : Dev nD) :
    res_out0 m c = normed (stepped (m ((c.tc : Thread nD τ).loc main_arg2)) (m ((c.tc : Thread nD τ).loc main_arg4))
        (mixed (m ((c.tc : Thread nD τ).loc main_arg3)) (chosen (m ((c.tc : Thread nD τ).loc main_arg1)) (places (m ((c.tc : Thread nD τ).loc main_arg0))))))
      (m ((c.tc : Thread nD τ).loc main_arg5)) := rfl

/-- Places in range are kept. -/
theorem places_at (a : IVec S16384 32) (p : Fin 2) (r : Fin 8192) (h : ∀ z, (a z).toNat < 24576) :
    places a (ix3 p r 0) = a (ix1 ⟨p * 8192 + r, by omega⟩) := by
  have hz := h (ix1 ⟨p * 8192 + r, by omega⟩)
  refine Eq.trans ?_ (Cert.ReferenceIdeal.Experts.kept (a (ix1 ⟨p * 8192 + r, by omega⟩)) (a (ix1 ⟨p * 8192 + r, by omega⟩) + 24576#32) (by omega))
  pointwise [places]
  rfl

/-- A token's chosen output at one element: the row its place names. -/
theorem chosen_at (y : FVec Ideal S24576x2048 .f32) (ps : IVec S2x8192x1 32) (p : Fin 2) (r : Fin 8192) (d : Fin 2048) (k : Fin 24576)
    (h : ps (ix3 p r 0) = BitVec.ofNat 32 k) : chosen y ps (ix3 p r d) = y (ix2 k d) := by
  have hk := k.isLt
  have hw : (ps (ix3 p r 0)).toInt.toNat = k.val := by
    rw [h, BitVec.toInt_eq_toNat_of_lt (by rw [BitVec.toNat_ofNat]; omega), BitVec.toNat_ofNat, Int.toNat_natCast]; omega
  unfold chosen Host.gather
  refine congrArg y (funext fun a => Fin.ext ?_)
  match a with
  | ⟨0, _⟩ =>
    show min (ps _).toInt.toNat 24575 + 0 + 0 = k.val
    refine Eq.trans (congrArg (fun z => min z 24575 + 0 + 0) ((congrArg (fun q => (ps q).toInt.toNat) ?_).trans hw)) ?_
    · funext b
      match b with
      | ⟨0, _⟩ => rfl
      | ⟨1, _⟩ => rfl
      | ⟨2, _⟩ => rfl
    show min k.val 24575 + 0 + 0 = k.val
    omega
  | ⟨1, _⟩ => show 0 + 0 + d.val = d.val; omega

/-- The weighted sum at one element. -/
theorem mixed_at (info : FVec Ideal S8x8192 .f32) (ch : FVec Ideal S2x8192x2048 .f32) (r : Fin 8192) (d : Fin 2048) :
    mixed info ch (ix2 r d) = info (ix2 4 r) * ch (ix3 0 r d) + info (ix2 5 r) * ch (ix3 1 r d) := by
  pointwise [mixed]
  exact Fin.sum_univ_two _

/-- The stepped stream at one element. -/
theorem stepped_at (x : FVec Ideal S8192x2048 .f32) (mod : FVec Ideal S48x1x2048 .f32) (o : FVec Ideal S8192x2048 .f32) (r : Fin 8192) (d : Fin 2048) :
    stepped x mod o (ix2 r d) = x (ix2 r d) + mod (ix3 ⟨r / 2048 * 6 + 5, by omega⟩ 0 d) * o (ix2 r d) := by
  pointwise [stepped]

/-- The normalised stream at one element. -/
theorem normed_at (z : FVec Ideal S8192x2048 .f32) (s : FVec Ideal S2048 .f32) (r : Fin 8192) (j : Fin 2048) :
    normed z s (ix2 r j) = Cert.scaled (fun d => z (ix2 r d)) (s (ix1 j)) j := by
  unfold Cert.scaled
  pointwise [normed]

end Cert.Reference2Ideal.Combine
end
-- ==== Proof.CombineValue.lean ====
/- The combining kernel's result, read at one element, and that it is the reference's. -/
module

public import proofs.«01_k».proof.Proof.CombineIdeal
public import proofs.«01_k».proof.Proof.CombineReference
public import Idealize.ShloMosaic.Lib.Pipeline.ValueKit
public import Idealize.ShloMosaic.Lib.Pipeline.Covers

@[expose] public section

set_option maxRecDepth 16384
set_option Elab.async false

noncomputable section

namespace Cert.Kernel2.Rows

open Cert.Kernel2 Cert.Kernel2.Gen
open Idealize.ShloMosaic Idealize.ShloMosaic.TcCoe Idealize.SL.Sem

/-- One element of a tile's stepped stream: the stream's, and the gate times the two rows by their weights. -/
theorem step_at (w : Vec Ideal S256x8 .f32) (x : Vec Ideal S256x2048 .f32) (g : Vec Ideal S1x1x2048 .f32) (p q : Vec Ideal S1x256x2048 .f32) (r : Fin 256) (d : Fin 2048) :
    k0_pay2 (F := Ideal) w x g p q (Idealize.ShloMosaic.ix2 r d)
      = x (Idealize.ShloMosaic.ix2 r d) + g (ix3 0 0 d) * (w (Idealize.ShloMosaic.ix2 r 4) * p (ix3 0 r d) + w (Idealize.ShloMosaic.ix2 r 5) * q (ix3 0 r d)) := by
  pointwise [k0_pay2]

/-- One element of a tile's store, from its stepped stream. -/
theorem store_at (w : Vec Ideal S256x8 .f32) (x : Vec Ideal S256x2048 .f32) (g : Vec Ideal S1x1x2048 .f32) (s : Vec Ideal S1x2048 .f32) (p q : Vec Ideal S1x256x2048 .f32) (r : Fin 256) (j : Fin 2048) :
    k0_pay1 (F := Ideal) (k0_pay2 w x g p q) (k0_pay3 s) (k0_pay4 w x g p q) (Idealize.ShloMosaic.ix2 r j)
      = Cert.scaled (fun d => k0_pay2 (F := Ideal) w x g p q (Idealize.ShloMosaic.ix2 r d)) (s (Idealize.ShloMosaic.ix2 0 j)) j := by
  unfold Cert.scaled
  unfold k0_pay4
  generalize k0_pay2 (F := Ideal) w x g p q = z
  pointwise [k0_pay1, k0_pay3]

/-- A row of the tokens' first experts is one of the scratch's, -/
theorem first_at (G : Vec Ideal S2x256x2048 .f32) (r : Fin 256) (d : Fin 2048) : first (F := Ideal) G (ix3 0 r d) = G (ix3 0 r d) :=
  congrArg G (funext fun a => Fin.ext (by
    match a with
    | ⟨0, _⟩ => rfl
    | ⟨1, _⟩ => show 0 + 1 * r.val = r.val; omega
    | ⟨2, _⟩ => show 0 + 1 * d.val = d.val; omega))
/-- and so is one of their second. -/
theorem second_at (G : Vec Ideal S2x256x2048 .f32) (r : Fin 256) (d : Fin 2048) : second (F := Ideal) G (ix3 0 r d) = G (ix3 1 r d) :=
  congrArg G (funext fun a => Fin.ext (by
    match a with
    | ⟨0, _⟩ => rfl
    | ⟨1, _⟩ => show 0 + 1 * r.val = r.val; omega
    | ⟨2, _⟩ => show 0 + 1 * d.val = d.val; omega))

variable (m : (ℓ : Loc nD τ sig) → Buf (Elt Ideal) ℓ) (hr : Placed m) (c : Dev nD)

/-- The row of the experts' outputs at a token's place `p`. -/
def who (p : Fin 2) (r : Fin 8192) : Fin 24576 := ⟨(Td m (Idealize.ShloMosaic.ix1 ⟨p * 8192 + r, by omega⟩)).toNat, hr _⟩

/-- The stepped stream: the stream, and the sample's gate times the token's two outputs by their weights. -/
def steps (r : Fin 8192) (d : Fin 2048) : EReal :=
  Cert.step (m ((c : Thread nD τ).loc main_arg2) (Idealize.ShloMosaic.ix2 r d)) (m ((c : Thread nD τ).loc main_arg4) (ix3 ⟨r / 2048 * 6 + 5, by omega⟩ 0 d))
    (m ((c : Thread nD τ).loc main_arg3) (Idealize.ShloMosaic.ix2 4 r)) (m ((c : Thread nD τ).loc main_arg3) (Idealize.ShloMosaic.ix2 5 r))
    (m ((c : Thread nD τ).loc main_arg1) (Idealize.ShloMosaic.ix2 (who m hr 0 r) d)) (m ((c : Thread nD τ).loc main_arg1) (Idealize.ShloMosaic.ix2 (who m hr 1 r) d))

/-- The result: the stepped stream, normalised. -/
def ends : FVec Ideal S8192x2048 .f32 := fun i => Cert.scaled (steps m hr c (i 0)) (m ((c : Thread nD τ).loc main_arg5) (Idealize.ShloMosaic.ix1 (i 1))) (i 1)

/-- The block of the result that each point stores. -/
theorem index_4 : ∀ t : Fin grid0.N, cc0_transform_5 (grid0.coords t) = ![t.val, 0] := by decide +kernel

/-- The points' blocks cover the result. -/
theorem covers : ((cfgA m).win 4).Covers := by
  refine ⟨show ∀ a, 0 < S256x2048.size a by decide, fun β => ?_⟩
  have h0 : (β (0 : Fin 2)).val < 32 := lt_of_lt_of_eq (β (0 : Fin 2)).isLt (show ((cfgA m).win 4).nblk (0 : Fin 2) = (8192 + 256 - 1) / 256 from rfl)
  have h1 : (β (1 : Fin 2)).val < 1 := lt_of_lt_of_eq (β (1 : Fin 2)).isLt (show ((cfgA m).win 4).nblk (1 : Fin 2) = (2048 + 2048 - 1) / 2048 from rfl)
  obtain ⟨t, -, hf, hi⟩ := ((cfgA m).win 4).exists_flush_same_index rfl ⟨(β (0 : Fin 2)).val, h0⟩
  refine ⟨t, hf, fun a => ⟨?_, Or.inl rfl⟩⟩
  rw [hi]
  refine (congrFun (index_4 ⟨(β (0 : Fin 2)).val, h0⟩) a).trans ?_
  match a with
  | ⟨0, _⟩ => rfl
  | ⟨1, _⟩ => show 0 = (β (1 : Fin 2)).val; omega

/-- A tile's gathered row is the experts' output at the token's place. -/
theorem gathered_at (t : Fin (cfgA m).N) (p : Fin 2) (y : Fin 256) (r : Fin 8192) (d : Fin 2048) (h0 : r.val = t.val * 256 + y.val) :
    gathered (outs m c) (rows m hr (crd m t)) (ix3 p y d) = m ((c : Thread nD τ).loc main_arg1) (Idealize.ShloMosaic.ix2 (who m hr p r) d) := by
  have ht : (crd m t 0).val = t.val := crd_val m t
  have hs : rows m hr (crd m t) (turn p y) = who m hr p r := Fin.ext
    (congrArg (fun q => (Td m q).toNat) (funext fun a => Fin.ext (by
      match a with
      | ⟨0, _⟩ =>
        show 256 * (crd m t 0).val + (2 * y.val + p.val) / 2 + 8192 * ((2 * y.val + p.val) % 2) = p.val * 8192 + r.val
        have := p.isLt
        omega)))
  exact congrArg (m ((c : Thread nD τ).loc main_arg1)) (funext fun a => by match a with | ⟨0, _⟩ => exact hs | ⟨1, _⟩ => rfl)

/-- A tile's routing numbers are its tokens'. -/
theorem infoAt_at (t : Fin (cfgA m).N) (k : Fin 8) (y : Fin 256) (r : Fin 8192) (h0 : r.val = t.val * 256 + y.val) :
    infoAt m c (crd m t) (Idealize.ShloMosaic.ix2 y k) = m ((c : Thread nD τ).loc main_arg3) (Idealize.ShloMosaic.ix2 k r) := by
  have ht : (crd m t 0).val = t.val := crd_val m t
  refine (congrFun (V_v0 m c) _).trans (congrArg (m ((c : Thread nD τ).loc main_arg3)) (funext fun a => Fin.ext ?_))
  match a with
  | ⟨0, _⟩ => rfl
  | ⟨1, _⟩ => show 256 * (crd m t 0).val + y.val = r.val; omega

/-- The norm's scale as a row is the scale. -/
theorem scaleRow_at (j : Fin 2048) : scaleRow m c (Idealize.ShloMosaic.ix2 0 j) = m ((c : Thread nD τ).loc main_arg5) (Idealize.ShloMosaic.ix1 j) := by
  refine (congrFun (V_v1 m c) _).trans ?_
  generalize m ((c : Thread nD τ).loc main_arg5) = s
  revert s
  intro (s : FVec Ideal S2048 .f32)
  show shapeCast S1x2048 s shapeCasts_S2048_S1x2048 _ = s _
  pointwise []

/-- A point's store at its place in the result. -/
theorem stored (t : Fin (cfgA m).N) (y : S256x2048.Idx) (i : S8192x2048.Idx) (h0 : (i 0).val = t.val * 256 + (y 0).val) (h1 : (i 1).val = (y 1).val) :
    outAt m hr c (crd m t) y = ends m hr c i := by
  have ht : (crd m t 0).val = t.val := crd_val m t
  have hy2 : y = Idealize.ShloMosaic.ix2 (y 0) (y 1) := by
    funext a; match a with | ⟨0, _⟩ => rfl | ⟨1, _⟩ => rfl
  have hi1 : i 1 = y 1 := Fin.ext h1
  have hy0 : (y 0).val < 256 := (y 0).isLt
  unfold outAt ends tileOut
  refine (congrArg _ hy2).trans ((store_at _ _ _ _ _ _ (y 0) (y 1)).trans ?_)
  have e1 : (fun d : Fin 2048 => k0_pay2 (F := Ideal) (infoAt m c (crd m t)) (streamAt m c (crd m t)) (gateAt m c (crd m t)) (first (gathered (outs m c) (rows m hr (crd m t)))) (second (gathered (outs m c) (rows m hr (crd m t)))) (Idealize.ShloMosaic.ix2 (y 0) d))
      = steps m hr c (i 0) := funext fun d => by
    refine (step_at _ _ _ _ _ (y 0) d).trans ?_
    unfold steps Cert.step
    refine congrArg₂ (· + ·) ?_ (congrArg₂ (· * ·) ?_ (congrArg₂ (· + ·) (congrArg₂ (· * ·) (infoAt_at m c t 4 (y 0) (i 0) h0) ?_) (congrArg₂ (· * ·) (infoAt_at m c t 5 (y 0) (i 0) h0) ?_)))
    · exact congrArg (m ((c : Thread nD τ).loc main_arg2)) (funext fun a => Fin.ext (by
        match a with | ⟨0, _⟩ => (show 256 * (crd m t 0).val + (y 0).val = (i 0).val; omega) | ⟨1, _⟩ => rfl))
    · exact congrArg (m ((c : Thread nD τ).loc main_arg4)) (funext fun a => Fin.ext (by
        match a with | ⟨0, _⟩ => (show (crd m t 0).val / 8 * 6 + 5 = (i 0).val / 2048 * 6 + 5; omega) | ⟨1, _⟩ => rfl | ⟨2, _⟩ => rfl))
    · exact (first_at _ (y 0) d).trans (gathered_at m hr c t 0 (y 0) (i 0) d h0)
    · exact (second_at _ (y 0) d).trans (gathered_at m hr c t 1 (y 0) (i 0) d h0)
  rw [hi1]
  exact congr (congr (congrArg Cert.scaled e1) (scaleRow_at m c (y 1))) rfl

/-- The result array after the run. -/
theorem arr_eq : (dats m hr 0 c).arrAt 4 (cfgA m).N = ends m hr c := by
  refine (dats m hr 0 c).arrAt_eq_of_covers 4 _ (covers m) fun t _ y => ?_
  refine (stored m hr c t y (((cfgA m).win 4).blk t |>.view.emb y) ?_ ?_)
  · refine (congrArg (fun q => q * 256 + 1 * ((show S256x2048.Idx from y) 0).val) (congrFun (index_4 t) (0 : Fin 2))).trans ?_
    show t.val * 256 + 1 * ((show S256x2048.Idx from y) 0).val = t.val * 256 + ((show S256x2048.Idx from y) 0).val; omega
  · refine (congrArg (fun q => q * 2048 + 1 * ((show S256x2048.Idx from y) 1).val) (congrFun (index_4 t) (1 : Fin 2))).trans ?_
    show 0 * 2048 + 1 * ((show S256x2048.Idx from y) 1).val = ((show S256x2048.Idx from y) 1).val; omega

attribute [local instance] Cert.Pre_placed.Gen.facts Cert.Kernel2Ideal.Gen.facts Cert.Kernel2.Gen.facts

/-- What the run of the kernel leaves is the reference's result, of the same arguments. -/
theorem result_eq (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5)) :
    Cert.Reference2Ideal.Value.res_out0 m' c = (dats m hr 0 c).arrAt 4 (cfgA m).N := by
  rw [arr_eq]
  refine (Cert.Reference2Ideal.Combine.res_eq m' c).trans ?_
  rw [h0, h1, h2, h3, h4, h5]
  obtain rfl : c = 0 := dev_eq c
  funext i
  have hi : i = Idealize.ShloMosaic.ix2 (i 0) (i 1) := by
    funext a; match a with | ⟨0, _⟩ => rfl | ⟨1, _⟩ => rfl
  have hp : ∀ (p : Fin 2), Cert.Reference2Ideal.Combine.places (Td m) (ix3 p (i 0) 0) = BitVec.ofNat 32 (who m hr p (i 0)).val := fun p =>
    (Cert.Reference2Ideal.Combine.places_at (Td m) p (i 0) hr).trans (Cert.ReferenceIdeal.Experts.word_eq _ _ rfl)
  refine (congrArg _ hi).trans ((Cert.Reference2Ideal.Combine.normed_at _ _ (i 0) (i 1)).trans ?_)
  unfold ends
  refine congr (congr (congrArg Cert.scaled (funext fun d => ?_)) rfl) rfl
  refine (Cert.Reference2Ideal.Combine.stepped_at _ _ _ (i 0) d).trans ?_
  unfold steps Cert.step
  refine congrArg₂ (· + ·) rfl (congrArg₂ (· * ·) rfl ((Cert.Reference2Ideal.Combine.mixed_at _ _ (i 0) d).trans ?_))
  exact congrArg₂ (· + ·) (congrArg₂ (· * ·) rfl (Cert.Reference2Ideal.Combine.chosen_at _ _ 0 (i 0) d _ (hp 0)))
    (congrArg₂ (· * ·) rfl (Cert.Reference2Ideal.Combine.chosen_at _ _ 1 (i 0) d _ (hp 1)))

end Cert.Kernel2.Rows

end
-- ==== Proof.InReference.lean ====
/- The reference of the input projection, read at one element. -/
module

public import proofs.«01_k».proof.Proof.Gen.Reference3Ideal.Run
public import proofs.«01_k».proof.Proof.CombineReference

@[expose] public section

set_option maxRecDepth 16384

noncomputable section

open Idealize.ShloMosaic Idealize.ShloMosaic.TcCoe Idealize.SL.Sem

/-- One element of a modulated row: normalised, times one more than the scale, plus the shift. -/
def Cert.modulated (z g sc sh : Fin 2048 → EReal) (d : Fin 2048) : EReal :=
  Cert.scaled z (g d) d * (Ideal.ofBits .f32 0x3F800000#32 + sc d) + sh d

namespace Cert.Reference3Ideal.In

open Cert.Reference3Ideal Cert.Reference3Ideal.Gen Cert.Reference3Ideal.Value

/-- The context before the latents, sample by sample. -/
def joined (ctx : FVec Ideal S4x256x2048 .f32) (x : FVec Ideal S4x2048x2048 .f32) : FVec Ideal S4x2304x2048 .f32 :=
  concatenate S4x2304x2048 1 [⟨S4x256x2048, ctx⟩, ⟨S4x2048x2048, x⟩] concatenates_S4x256x2048_S4x2048x2048_S4x2304x2048_d1

/-- Which places are latents. -/
def latent : IVec S1x2304x1 1 :=
  broadcastInDim S1x2304x1 ![1] bcast_S2304_S1x2304x1_1 (cmpi .sge (iotaInDim S2304 32 0) (broadcastInDim S2304 ![] bcast_S_S2304 (constantI S_ 32 256#32)))

/-- A sample's own row on its latents, the context's row elsewhere. -/
def perPlace (a : FVec Ideal S4x1x2048 .f32) (b : FVec Ideal S1x1x2048 .f32) : FVec Ideal S4x2304x2048 .f32 :=
  select (broadcastInDim S4x2304x2048 ![0, 1, 2] bcast_S1x2304x1_S4x2304x2048_0_1_2 latent)
    (broadcastInDim S4x2304x2048 ![0, 1, 2] bcast_S4x1x2048_S4x2304x2048_0_1_2 (broadcastInDim S4x1x2048 ![0, 2] bcast_S4x2048_S4x1x2048_0_2 (shapeCast S4x2048 a shapeCasts_S4x1x2048_S4x2048)))
    (broadcastInDim S4x2304x2048 ![0, 1, 2] bcast_S1x1x2048_S4x2304x2048_0_1_2 (broadcastInDim S1x1x2048 ![2] bcast_S2048_S1x1x2048_2 (shapeCast S2048 b shapeCasts_S1x1x2048_S2048)))

/-- The shifts at every place, -/
def shift (mod : FVec Ideal S48x1x2048 .f32) : FVec Ideal S4x2304x2048 .f32 :=
  perPlace (extractStridedSlice S4x1x2048 ![0, 0, 0] (shapeCast S8x6x2048 mod shapeCasts_S48x1x2048_S8x6x2048) slices_S8x6x2048_S4x1x2048_0_0_0)
    (extractStridedSlice S1x1x2048 ![4, 0, 0] (shapeCast S8x6x2048 mod shapeCasts_S48x1x2048_S8x6x2048) slices_S8x6x2048_S1x1x2048_4_0_0)

/-- and the scales. -/
def scale (mod : FVec Ideal S48x1x2048 .f32) : FVec Ideal S4x2304x2048 .f32 :=
  perPlace (extractStridedSlice S4x1x2048 ![0, 1, 0] (shapeCast S8x6x2048 mod shapeCasts_S48x1x2048_S8x6x2048) slices_S8x6x2048_S4x1x2048_0_1_0)
    (extractStridedSlice S1x1x2048 ![4, 1, 0] (shapeCast S8x6x2048 mod shapeCasts_S48x1x2048_S8x6x2048) slices_S8x6x2048_S1x1x2048_4_1_0)

/-- The modulated stream. -/
def stream (z : FVec Ideal S4x2304x2048 .f32) (g : FVec Ideal S2048 .f32) (sc sh : FVec Ideal S4x2304x2048 .f32) : FVec Ideal S4x2304x2048 .f32 :=
  addf (mulf (mulf (mulf z (broadcastInDim S4x2304x2048 ![0, 1, 2] bcast_S4x2304x1_S4x2304x2048_0_1_2 (Host.rsqrt (addf (Host.divf
        (broadcastInDim S4x2304x1 ![0, 1] bcast_S4x2304_S4x2304x1_0_1 (Host.reduceAdd (mulf z z) (constant S_ .f32 0x00000000#32) reducesTo_S4x2304x2048_S4x2304_d2 h_S_))
        (broadcastInDim S4x2304x1 ![] bcast_S_S4x2304x1 (constant S_ .f32 0x45000000#32))) (broadcastInDim S4x2304x1 ![] bcast_S_S4x2304x1 (constant S_ .f32 0x358637BD#32))))))
      (broadcastInDim S4x2304x2048 ![0, 1, 2] bcast_S1x1x2048_S4x2304x2048_0_1_2 (broadcastInDim S1x1x2048 ![2] bcast_S2048_S1x1x2048_2 g)))
    (addf (broadcastInDim S4x2304x2048 ![] bcast_S_S4x2304x2048 (constant S_ .f32 0x3F800000#32)) sc)) sh

/-- Its projection, the samples one after another. -/
def projected (h : FVec Ideal S4x2304x2048 .f32) (w : FVec Ideal S2048x2880 .f32) : FVec Ideal S9216x2880 .f32 :=
  shapeCast S9216x2880 (Host.dotGeneral dot_S4x2304x2048_S2048x2880_S4x2304x2880_2_0_01_1_n_n none h w) shapeCasts_S4x2304x2880_S9216x2880

/-- The first columns, with zeros after them; -/
def latents (y : FVec Ideal S9216x2880 .f32) : FVec Ideal S9216x896 .f32 :=
  pad S9216x896 ![0, 0] ![0, 64] ![0, 0] (extractStridedSlice S9216x832 ![0, 0] y slices_S9216x2880_S9216x832_0_0) (sitofp .f32 (constantI S_ 32 0#32)) pads_S9216x832_S9216x896_000_0640 h_S_
/-- those of the recurrence; -/
def recur (y : FVec Ideal S9216x2880 .f32) : FVec Ideal S9216x1024 .f32 := extractStridedSlice S9216x1024 ![0, 832] y slices_S9216x2880_S9216x1024_0_832
/-- those of its gate. -/
def gating (y : FVec Ideal S9216x2880 .f32) : FVec Ideal S9216x1024 .f32 := extractStridedSlice S9216x1024 ![0, 1856] y slices_S9216x2880_S9216x1024_0_1856

/-- The projection of the arguments that a memory holds. -/
def whole (m : (ℓ : Loc nD τ sig) → Buf (Elt Ideal) ℓ) (c : Dev nD) : FVec Ideal S9216x2880 .f32 :=
  projected (stream (joined (m ((c.tc : Thread nD τ).loc main_arg1)) (m ((c.tc : Thread nD τ).loc main_arg0))) (m ((c.tc : Thread nD τ).loc main_arg2))
    (scale (m ((c.tc : Thread nD τ).loc main_arg3))) (shift (m ((c.tc : Thread nD τ).loc main_arg3)))) (m ((c.tc : Thread nD τ).loc main_arg4))

/-- The reference runs to its end with these three results, and leaves its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v42) = latents (whole m c) ∧ r.2.mem ((c.tc : Thread nD τ).loc main_v40) = recur (whole m c)
        ∧ r.2.mem ((c.tc : Thread nD τ).loc main_v41) = gating (whole m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨(h c).1.trans rfl, (h c).2.1.trans rfl, (h c).2.2.1.trans rfl⟩, (h c).2.2.2⟩) (Value.run m ρ)

/-- A place is a latent one from the 256th on. -/
theorem latent_at (p : Fin 2304) : latent (ix3 0 p 0) = if p.val < 256 then 0#1 else 1#1 := by
  have hp := p.isLt
  have e : latent (ix3 0 p 0) = BitVec.ofBool ((256#32).sle (BitVec.ofNat 32 p.val)) := rfl
  rw [e]
  have h2 : (BitVec.ofNat 32 p.val).toInt = p.val := by
    rw [BitVec.toInt_eq_toNat_of_lt (by rw [BitVec.toNat_ofNat]; omega), BitVec.toNat_ofNat]; omega
  have h1 : (256#32).toInt = 256 := by decide
  by_cases h : p.val < 256
  · rw [if_pos h, BitVec.sle_eq_decide, h1, h2, decide_eq_false (by omega)]; rfl
  · rw [if_neg h, BitVec.sle_eq_decide, h1, h2, decide_eq_true (by omega)]; rfl

/-- The row at a place. -/
theorem perPlace_at (a : FVec Ideal S4x1x2048 .f32) (b : FVec Ideal S1x1x2048 .f32) (s : Fin 4) (p : Fin 2304) (d : Fin 2048) :
    perPlace a b (ix3 s p d) = if p.val < 256 then b (ix3 0 0 d) else a (ix3 s 0 d) := by
  have e : perPlace a b (ix3 s p d) = if latent (ix3 0 p 0) = 1#1 then a (ix3 s 0 d) else b (ix3 0 0 d) := by
    generalize hl : latent = l
    unfold perPlace
    rw [hl]
    pointwise []
    rfl
  rw [e, latent_at]
  by_cases h : p.val < 256
  · rw [if_pos h, if_pos h]; rfl
  · rw [if_neg h, if_neg h]; rfl

/-- The shift at a place, -/
theorem shift_at (mod : FVec Ideal S48x1x2048 .f32) (s : Fin 4) (p : Fin 2304) (d : Fin 2048) :
    shift mod (ix3 s p d) = if p.val < 256 then mod (ix3 24 0 d) else mod (ix3 ⟨s * 6, by omega⟩ 0 d) := by
  refine (perPlace_at _ _ s p d).trans ?_
  refine congrArg₂ (fun a b => if p.val < 256 then a else b) ?_ ?_
  · pointwise []
  · pointwise []

/-- and the scale. -/
theorem scale_at (mod : FVec Ideal S48x1x2048 .f32) (s : Fin 4) (p : Fin 2304) (d : Fin 2048) :
    scale mod (ix3 s p d) = if p.val < 256 then mod (ix3 25 0 d) else mod (ix3 ⟨s * 6 + 1, by omega⟩ 0 d) := by
  refine (perPlace_at _ _ s p d).trans ?_
  refine congrArg₂ (fun a b => if p.val < 256 then a else b) ?_ ?_
  · pointwise []
  · pointwise []

/-- The modulated stream at one element. -/
theorem stream_at (z : FVec Ideal S4x2304x2048 .f32) (g : FVec Ideal S2048 .f32) (sc sh : FVec Ideal S4x2304x2048 .f32) (s : Fin 4) (p : Fin 2304) (d : Fin 2048) :
    stream z g sc sh (ix3 s p d) = Cert.modulated (fun k => z (ix3 s p k)) (fun k => g (ix1 k)) (fun k => sc (ix3 s p k)) (fun k => sh (ix3 s p k)) d := by
  unfold Cert.modulated Cert.scaled
  pointwise [stream]

/-- The projection at one element. -/
theorem projected_at (h : FVec Ideal S4x2304x2048 .f32) (w : FVec Ideal S2048x2880 .f32) (r : Fin 9216) (e : Fin 2880) :
    projected h w (ix2 r e) = ∑ d : Fin 2048, h (ix3 ⟨r / 2304, by omega⟩ ⟨r % 2304, by omega⟩ d) * w (ix2 d e) := by
  pointwise [projected]

/-- The results at one element: -/
theorem latents_at (y : FVec Ideal S9216x2880 .f32) (r : Fin 9216) (e : Fin 896) :
    latents y (ix2 r e) = if h : e.val < 832 then y (ix2 r ⟨e, by omega⟩) else 0 := by
  pointwise [latents]
  have h0 : (FloatOps.sitofp (F := Ideal) FTy.f32 (0#32) : EReal) = 0 := by
    show (((0#32).toInt : ℝ) : EReal) = 0
    simp
  rw [h0]
/-- the recurrence's, -/
theorem recur_at (y : FVec Ideal S9216x2880 .f32) (r : Fin 9216) (e : Fin 1024) : recur y (ix2 r e) = y (ix2 r ⟨832 + e, by omega⟩) := by
  pointwise [recur]
/-- and its gate's. -/
theorem gating_at (y : FVec Ideal S9216x2880 .f32) (r : Fin 9216) (e : Fin 1024) : gating y (ix2 r e) = y (ix2 r ⟨1856 + e, by omega⟩) := by
  pointwise [gating]

end Cert.Reference3Ideal.In
end
-- ==== Proof.InValue.lean ====
/- The input projection's results, read at one element, and that they are the reference's. -/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.InReference
public import Idealize.ShloMosaic.Lib.Pipeline.ValueKit
public import Idealize.ShloMosaic.Lib.Pipeline.Covers

@[expose] public section

set_option maxRecDepth 16384
set_option Elab.async false

noncomputable section

namespace Cert.Kernel3Ideal.In

open Cert.Kernel3Ideal Cert.Kernel3Ideal.Gen
open Idealize.ShloMosaic Idealize.ShloMosaic.TcCoe Idealize.SL.Sem

/-- A tile's projection at one element: the modulated row against a column of the weights. -/
theorem tile_at (x : Vec Ideal S256x2048 .f32) (g : Vec Ideal S1x2048 .f32) (sc sh : Vec Ideal S1x1x2048 .f32) (w : Vec Ideal S2048x2944 .bf16) (r : Fin 256) (e : Fin 2944) :
    k0_pay1 (F := Ideal) x g sc sh w (ix2 r e)
      = ∑ d : Fin 2048, Cert.modulated (fun k => x (ix2 r k)) (fun k => g (ix2 0 k)) (fun k => sc (ix3 0 0 k)) (fun k => sh (ix3 0 0 k)) d * w (ix2 d e) := by
  unfold Cert.modulated Cert.scaled
  pointwise [k0_pay1]

/-- The columns stored in each of the three outputs. -/
theorem store5_at (x : Vec Ideal S256x2048 .f32) (g : Vec Ideal S1x2048 .f32) (sc sh : Vec Ideal S1x1x2048 .f32) (w : Vec Ideal S2048x2944 .bf16) (r : Fin 256) (e : Fin 896) :
    k0_pay2 (F := Ideal) x g sc sh w (ix2 r e) = k0_pay1 (F := Ideal) x g sc sh w (ix2 r ⟨e, by omega⟩) := by
  unfold k0_pay2
  generalize k0_pay1 (F := Ideal) x g sc sh w = y
  pointwise []
theorem store6_at (x : Vec Ideal S256x2048 .f32) (g : Vec Ideal S1x2048 .f32) (sc sh : Vec Ideal S1x1x2048 .f32) (w : Vec Ideal S2048x2944 .bf16) (r : Fin 256) (e : Fin 1024) :
    k0_pay3 (F := Ideal) x g sc sh w (ix2 r e) = k0_pay1 (F := Ideal) x g sc sh w (ix2 r ⟨896 + e, by omega⟩) := by
  unfold k0_pay3
  generalize k0_pay1 (F := Ideal) x g sc sh w = y
  pointwise []
theorem store7_at (x : Vec Ideal S256x2048 .f32) (g : Vec Ideal S1x2048 .f32) (sc sh : Vec Ideal S1x1x2048 .f32) (w : Vec Ideal S2048x2944 .bf16) (r : Fin 256) (e : Fin 1024) :
    k0_pay4 (F := Ideal) x g sc sh w (ix2 r e) = k0_pay1 (F := Ideal) x g sc sh w (ix2 r ⟨1920 + e, by omega⟩) := by
  unfold k0_pay4
  generalize k0_pay1 (F := Ideal) x g sc sh w = y
  pointwise []

/-- The context before the latents, all samples in one column of rows. -/
def rows (ctx : FVec Ideal S4x256x2048 .f32) (x : FVec Ideal S4x2048x2048 .f32) : FVec Ideal S9216x2048 .f32 :=
  shapeCast S9216x2048 (Cert.Reference3Ideal.In.joined ctx x) shapeCasts_S4x2304x2048_S9216x2048

/-- The weights with 64 columns of zeros put in after the 832nd. -/
def padded (w : FVec Ideal S2048x2880 .f32) : FVec Ideal S2048x2944 .bf16 :=
  truncf .bf16 (concatenate S2048x2944 1 [⟨S2048x832, extractStridedSlice S2048x832 ![0, 0] w slices_S2048x2880_S2048x832_0_0⟩,
    ⟨S2048x64, broadcastInDim S2048x64 ![] bcast_S_S2048x64 (constant (F := Ideal) S_ .f32 0x00000000#32)⟩,
    ⟨S2048x2048, extractStridedSlice S2048x2048 ![0, 832] w slices_S2048x2880_S2048x2048_0_832⟩] concatenates_S2048x832_S2048x64_S2048x2048_S2048x2944_d1) bitsLt_bf16_f32

theorem rows_at (ctx : FVec Ideal S4x256x2048 .f32) (x : FVec Ideal S4x2048x2048 .f32) (r : Fin 9216) (d : Fin 2048) :
    rows ctx x (ix2 r d) = Cert.Reference3Ideal.In.joined ctx x (ix3 ⟨r / 2304, by omega⟩ ⟨r % 2304, by omega⟩ d) := by
  unfold rows
  generalize Cert.Reference3Ideal.In.joined ctx x = z
  revert z
  intro (z : FVec Ideal S4x2304x2048 .f32)
  show shapeCast S9216x2048 z shapeCasts_S4x2304x2048_S9216x2048 _ = z _
  pointwise []

theorem padded_at (w : FVec Ideal S2048x2880 .f32) (d : Fin 2048) (e : Fin 2944) :
    padded w (ix2 d e) = if h : e.val < 832 then w (ix2 d ⟨e, by omega⟩) else if h' : e.val < 896 then 0 else w (ix2 d ⟨e - 64, by omega⟩) := by
  pointwise [padded]
  by_cases h : e.val < 832
  · rw [dif_pos h, dif_pos h]
  · rw [dif_neg h, dif_neg h]
    by_cases h' : e.val < 896
    · rw [dif_pos h', dif_pos (by omega)]
    · rw [dif_neg h', dif_neg (by omega)]
      exact congrArg (fun k => w (ix2 d k)) (Fin.ext (show 832 + (e.val - 832 - 64) = e.val - 64 by omega))

variable (m : (ℓ : Loc nD τ sig) → Buf (Elt Ideal) ℓ) (c : Dev nD)

/-- What the call finds in the arrays that the host prepared: the rows, -/
theorem V_rows : V m c main_v1 = rows (m ((c : Thread nD τ).loc main_arg1)) (m ((c : Thread nD τ).loc main_arg0)) := by
  show StableHlo.after hostOps0 (fun b => m (c, b)) (Proc.devRef .tc main_v1) = _
  after_results_simp
  rfl
/-- the weights, -/
theorem V_weights : V m c main_v6 = padded (m ((c : Thread nD τ).loc main_arg4)) := by
  show StableHlo.after hostOps0 (fun b => m (c, b)) (Proc.devRef .tc main_v6) = _
  after_results_simp
  rfl
/-- and the norm's scale as a row. -/
theorem V_norm : V m c main_v7 = shapeCast S1x2048 (m ((c : Thread nD τ).loc main_arg2)) shapeCasts_S2048_S1x2048 := by
  show StableHlo.after hostOps0 (fun b => m (c, b)) (Proc.devRef .tc main_v7) = _
  after_results_simp
  rfl

/-- The places of the blocks: the rows', -/
theorem index_0 : ∀ t : Fin cfg0.N, win0_0.index t = ![t.val, 0] := (by decide +kernel : ∀ t : Fin grid0.N, _)
/-- the norm's, -/
theorem index_1 : ∀ t : Fin cfg0.N, win0_1.index t = ![0, 0] := (by decide +kernel : ∀ t : Fin grid0.N, _)
/-- the shift's, -/
theorem index_2 : ∀ t : Fin cfg0.N, win0_2.index t = ![if t.val % 9 = 0 then 24 else t.val / 9 * 6, 0, 0] := (by decide +kernel : ∀ t : Fin grid0.N, _)
/-- the scale's, -/
theorem index_3 : ∀ t : Fin cfg0.N, win0_3.index t = ![if t.val % 9 = 0 then 25 else t.val / 9 * 6 + 1, 0, 0] := (by decide +kernel : ∀ t : Fin grid0.N, _)
/-- the weights', -/
theorem index_4 : ∀ t : Fin cfg0.N, win0_4.index t = ![0, 0] := (by decide +kernel : ∀ t : Fin grid0.N, _)
/-- and those of the three results. -/
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

/-- The row of the modulation that is number `k` for a row of the stream: the context's in the first 256 places of a sample, the sample's in the others. -/
def side (k : Fin 6) (r : Fin 9216) : Fin 48 := if r.val % 2304 < 256 then ⟨24 + k, by omega⟩ else ⟨r.val / 2304 * 6 + k, by omega⟩

/-- A modulated row of the stream. -/
def row (r : Fin 9216) : Fin 2048 → EReal :=
  Cert.modulated (fun k => rows (m ((c : Thread nD τ).loc main_arg1)) (m ((c : Thread nD τ).loc main_arg0)) (ix2 r k))
    (fun k => m ((c : Thread nD τ).loc main_arg2) (ix1 k)) (fun k => m ((c : Thread nD τ).loc main_arg3) (ix3 (side 1 r) 0 k))
    (fun k => m ((c : Thread nD τ).loc main_arg3) (ix3 (side 0 r) 0 k))

/-- Its projection on a column of the padded weights. -/
def proj (r : Fin 9216) (e : Fin 2944) : EReal := ∑ d : Fin 2048, row m c r d * padded (m ((c : Thread nD τ).loc main_arg4)) (ix2 d e)

/-- What the blocks hold, read at one element: the rows', -/
theorem blk0_at (t : Fin cfg0.N) (y : Fin 256) (d : Fin 2048) (r : Fin 9216) (hr : r.val = t.val * 256 + y.val) :
    iblk m c 0 t (ix2 y d) = rows (m ((c : Thread nD τ).loc main_arg1)) (m ((c : Thread nD τ).loc main_arg0)) (ix2 r d) := by
  blk_simp [iblk]
  refine (congrFun (V_rows m c) _).trans (congrArg (rows _ _) (funext fun a => Fin.ext ?_))
  match a with
  | ⟨0, _⟩ => blk_simp [index_0]; show t.val * 256 + y.val = r.val; omega
  | ⟨1, _⟩ => blk_simp [index_0]

/-- the norm's, -/
theorem blk1_at (t : Fin cfg0.N) (d : Fin 2048) : iblk m c 1 t (ix2 0 d) = m ((c : Thread nD τ).loc main_arg2) (ix1 d) := by
  blk_simp [iblk]
  refine (congrFun (V_norm m c) _).trans ?_
  have e : ((win0_1.blk t).view.emb (ix2 (0 : Fin 1) d : S1x2048.Idx) : S1x2048.Idx) = ix2 0 d := funext fun a => Fin.ext (by
    match a with
    | ⟨0, _⟩ => blk_simp [index_1]
    | ⟨1, _⟩ => blk_simp [index_1])
  refine (congrArg _ e).trans ?_
  generalize m ((c : Thread nD τ).loc main_arg2) = s
  revert s
  intro (s : FVec Ideal S2048 .f32)
  show shapeCast S1x2048 s shapeCasts_S2048_S1x2048 _ = s _
  pointwise []

/-- the shift's, -/
theorem blk2_at (t : Fin cfg0.N) (d : Fin 2048) (y : Fin 256) (r : Fin 9216) (hr : r.val = t.val * 256 + y.val) :
    iblk m c 2 t (ix3 0 0 d) = m ((c : Thread nD τ).loc main_arg3) (ix3 (side 0 r) 0 d) := by
  blk_simp [iblk]
  refine (congrFun (V_main_arg3 m c) _).trans (congrArg (m ((c : Thread nD τ).loc main_arg3)) (funext fun a => Fin.ext ?_))
  match a with
  | ⟨0, _⟩ =>
    blk_simp [index_2]
    show (if t.val % 9 = 0 then 24 else t.val / 9 * 6) + 0 = (side 0 r).val
    unfold side
    by_cases h : r.val % 2304 < 256
    · rw [if_pos h, if_pos (by omega)]; rfl
    · rw [if_neg h, if_neg (by omega)]; show _ = r.val / 2304 * 6 + 0; omega
  | ⟨1, _⟩ => blk_simp [index_2]
  | ⟨2, _⟩ => blk_simp [index_2]

/-- the scale's, -/
theorem blk3_at (t : Fin cfg0.N) (d : Fin 2048) (y : Fin 256) (r : Fin 9216) (hr : r.val = t.val * 256 + y.val) :
    iblk m c 3 t (ix3 0 0 d) = m ((c : Thread nD τ).loc main_arg3) (ix3 (side 1 r) 0 d) := by
  blk_simp [iblk]
  refine (congrFun (V_main_arg3 m c) _).trans (congrArg (m ((c : Thread nD τ).loc main_arg3)) (funext fun a => Fin.ext ?_))
  match a with
  | ⟨0, _⟩ =>
    blk_simp [index_3]
    show (if t.val % 9 = 0 then 25 else t.val / 9 * 6 + 1) + 0 = (side 1 r).val
    unfold side
    by_cases h : r.val % 2304 < 256
    · rw [if_pos h, if_pos (by omega)]; rfl
    · rw [if_neg h, if_neg (by omega)]; show _ = r.val / 2304 * 6 + 1; omega
  | ⟨1, _⟩ => blk_simp [index_3]
  | ⟨2, _⟩ => blk_simp [index_3]

/-- and the weights'. -/
theorem blk4_at (t : Fin cfg0.N) (d : Fin 2048) (e : Fin 2944) : iblk m c 4 t (ix2 d e) = padded (m ((c : Thread nD τ).loc main_arg4)) (ix2 d e) := by
  blk_simp [iblk]
  refine (congrFun (V_weights m c) _).trans (congrArg (padded _) (funext fun a => Fin.ext ?_))
  match a with
  | ⟨0, _⟩ => blk_simp [index_4]
  | ⟨1, _⟩ => blk_simp [index_4]

/-- A tile's projection is that of its rows. -/
theorem tile_eq (t : Fin cfg0.N) (y : Fin 256) (e : Fin 2944) (r : Fin 9216) (hr : r.val = t.val * 256 + y.val) :
    k0_pay1 (F := Ideal) (iblk m c 0 t) (iblk m c 1 t) (iblk m c 3 t) (iblk m c 2 t) (iblk m c 4 t) (ix2 y e) = proj m c r e := by
  refine (tile_at _ _ _ _ _ y e).trans (Finset.sum_congr rfl fun d _ => congrArg₂ (· * ·) ?_ (blk4_at m c t d e))
  exact congr (congr (congr (congr (congrArg Cert.modulated (funext fun k => blk0_at m c t y k r hr)) (funext fun k => blk1_at m c t k))
    (funext fun k => blk3_at m c t k y r hr)) (funext fun k => blk2_at m c t k y r hr)) rfl

/-- The three results. -/
def end5 : FVec Ideal S9216x896 .f32 := fun i => proj m c (i 0) ⟨(i 1).val, Nat.lt_trans (i 1).isLt (by decide)⟩
def end6 : FVec Ideal S9216x1024 .f32 := fun i => proj m c (i 0) ⟨896 + (i 1).val, Nat.lt_trans (Nat.add_lt_add_left (i 1).isLt 896) (by decide)⟩
def end7 : FVec Ideal S9216x1024 .f32 := fun i => proj m c (i 0) ⟨1920 + (i 1).val, Nat.lt_of_lt_of_le (Nat.add_lt_add_left (i 1).isLt 1920) (by decide)⟩

/-- Result 0 after the run. -/
theorem arr_eq5 : (dats m 0 c).arrAt 5 cfg0.N = end5 m c := by
  refine (dats m 0 c).arrAt_eq_of_covers 5 _ (by decide +kernel) fun t _ y => ?_
  blk_simp
  rw [after0_5]
  frame_out
  have hy : y = ix2 (y 0) (y 1) := by funext a; match a with | ⟨0, _⟩ => rfl | ⟨1, _⟩ => rfl
  refine (congrArg _ hy).trans ((store5_at _ _ _ _ _ (y 0) (y 1)).trans ((tile_eq m c t (y 0) _ ((win0_5.blk t).view.emb y 0) ?_).trans ?_))
  · blk_simp [index_5]
  · unfold end5
    refine congrArg (proj m c _) (Fin.ext ?_)
    blk_simp [index_5]

/-- Result 1 after the run. -/
theorem arr_eq6 : (dats m 0 c).arrAt 6 cfg0.N = end6 m c := by
  refine (dats m 0 c).arrAt_eq_of_covers 6 _ (by decide +kernel) fun t _ y => ?_
  blk_simp
  rw [after0_6]
  frame_out
  have hy : y = ix2 (y 0) (y 1) := by funext a; match a with | ⟨0, _⟩ => rfl | ⟨1, _⟩ => rfl
  refine (congrArg _ hy).trans ((store6_at _ _ _ _ _ (y 0) (y 1)).trans ((tile_eq m c t (y 0) _ ((win0_6.blk t).view.emb y 0) ?_).trans ?_))
  · blk_simp [index_6]
  · unfold end6
    refine congrArg (proj m c _) (Fin.ext ?_)
    blk_simp [index_6]

/-- Result 2 after the run. -/
theorem arr_eq7 : (dats m 0 c).arrAt 7 cfg0.N = end7 m c := by
  refine (dats m 0 c).arrAt_eq_of_covers 7 _ (by decide +kernel) fun t _ y => ?_
  blk_simp
  rw [after0_7]
  frame_out
  have hy : y = ix2 (y 0) (y 1) := by funext a; match a with | ⟨0, _⟩ => rfl | ⟨1, _⟩ => rfl
  refine (congrArg _ hy).trans ((store7_at _ _ _ _ _ (y 0) (y 1)).trans ((tile_eq m c t (y 0) _ ((win0_7.blk t).view.emb y 0) ?_).trans ?_))
  · blk_simp [index_7]
  · unfold end7
    refine congrArg (proj m c _) (Fin.ext ?_)
    blk_simp [index_7]

section
variable (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
include h0 h1 h2 h3 h4

/-- The reference's projection of a row is that row's, on a column of the weights as given. -/
theorem whole_at (r : Fin 9216) (e : Fin 2880) :
    Cert.Reference3Ideal.In.whole m' c (ix2 r e) = ∑ d : Fin 2048, row m c r d * (show EReal from m ((c : Thread nD τ).loc main_arg4) (ix2 d e)) := by
  unfold Cert.Reference3Ideal.In.whole
  rw [h0, h1, h2, h3, h4]
  refine (Cert.Reference3Ideal.In.projected_at _ _ r e).trans (Finset.sum_congr rfl fun d _ => congrArg₂ (· * ·) ?_ rfl)
  refine (Cert.Reference3Ideal.In.stream_at _ _ _ _ _ _ d).trans ?_
  unfold row
  refine congr (congr (congr (congr (congrArg Cert.modulated (funext fun k => (rows_at _ _ r k).symm)) rfl) (funext fun k => ?_)) (funext fun k => ?_)) rfl
  · refine (Cert.Reference3Ideal.In.scale_at _ _ _ k).trans ?_
    unfold side
    by_cases h : r.val % 2304 < 256
    · rw [if_pos h, if_pos h]; rfl
    · rw [if_neg h, if_neg h]; rfl
  · refine (Cert.Reference3Ideal.In.shift_at _ _ _ k).trans ?_
    unfold side
    by_cases h : r.val % 2304 < 256
    · rw [if_pos h, if_pos h]; rfl
    · rw [if_neg h, if_neg h]; rfl

/-- The first result is the reference's: past the 832nd column both are zero. -/
theorem result5 : Cert.Reference3Ideal.In.latents (Cert.Reference3Ideal.In.whole m' c) = end5 m c := by
  funext i
  have hi : i = ix2 (i 0) (i 1) := by funext a; match a with | ⟨0, _⟩ => rfl | ⟨1, _⟩ => rfl
  have hl : (i 1).val < 896 := (i 1).isLt
  refine (congrArg _ hi).trans ((Cert.Reference3Ideal.In.latents_at _ (i 0) (i 1)).trans ?_)
  unfold end5 proj
  by_cases h : (i 1).val < 832
  · rw [dif_pos h]
    refine (whole_at m c m' h0 h1 h2 h3 h4 (i 0) _).trans (Finset.sum_congr rfl fun d _ => congrArg₂ (· * ·) rfl ?_)
    exact ((padded_at _ d _).trans (dif_pos h)).symm
  · rw [dif_neg h]
    refine (Finset.sum_eq_zero fun d _ => ?_).symm
    rw [padded_at, dif_neg h, dif_pos hl, mul_zero]

/-- So is the second, -/
theorem result6 : Cert.Reference3Ideal.In.recur (Cert.Reference3Ideal.In.whole m' c) = end6 m c := by
  funext i
  have hi : i = ix2 (i 0) (i 1) := by funext a; match a with | ⟨0, _⟩ => rfl | ⟨1, _⟩ => rfl
  refine (congrArg _ hi).trans ((Cert.Reference3Ideal.In.recur_at _ (i 0) (i 1)).trans ?_)
  unfold end6 proj
  refine (whole_at m c m' h0 h1 h2 h3 h4 (i 0) _).trans (Finset.sum_congr rfl fun d _ => congrArg₂ (· * ·) rfl ?_)
  refine Eq.trans ?_ ((padded_at _ d _).trans ((dif_neg (by show ¬ 896 + (i 1).val < 832; omega)).trans (dif_neg (by show ¬ 896 + (i 1).val < 896; omega)))).symm
  exact congrArg (fun k => m ((c : Thread nD τ).loc main_arg4) (ix2 d k)) (Fin.ext (show 832 + (i 1).val = 896 + (i 1).val - 64 by omega))

/-- and the third. -/
theorem result7 : Cert.Reference3Ideal.In.gating (Cert.Reference3Ideal.In.whole m' c) = end7 m c := by
  funext i
  have hi : i = ix2 (i 0) (i 1) := by funext a; match a with | ⟨0, _⟩ => rfl | ⟨1, _⟩ => rfl
  refine (congrArg _ hi).trans ((Cert.Reference3Ideal.In.gating_at _ (i 0) (i 1)).trans ?_)
  unfold end7 proj
  refine (whole_at m c m' h0 h1 h2 h3 h4 (i 0) _).trans (Finset.sum_congr rfl fun d _ => congrArg₂ (· * ·) rfl ?_)
  refine Eq.trans ?_ ((padded_at _ d _).trans ((dif_neg (by show ¬ 1920 + (i 1).val < 832; omega)).trans (dif_neg (by show ¬ 1920 + (i 1).val < 896; omega)))).symm
  exact congrArg (fun k => m ((c : Thread nD τ).loc main_arg4) (ix2 d k)) (Fin.ext (show 1856 + (i 1).val = 1920 + (i 1).val - 64 by omega))

end

end Cert.Kernel3Ideal.In

end
-- ==== Proof.In1Reference.lean ====
/- The reference of the second layer's input projection, read at one element. -/
module

public import proofs.«01_k».proof.Proof.Gen.Reference4Ideal.Run
public import proofs.«01_k».proof.Proof.InReference

@[expose] public section

set_option maxRecDepth 16384

noncomputable section

open Idealize.ShloMosaic Idealize.ShloMosaic.TcCoe Idealize.SL.Sem

/-- One element of a head turned by the angles of its place: in every 64 lanes the first 32 are paired with the last 32. -/
def Cert.turn (z : Fin 128 → EReal) (co si : Fin 2 → Fin 32 → EReal) (e : Fin 128) : EReal :=
  if e.val % 64 < 32 then z e * co ⟨e / 64, by omega⟩ ⟨e % 32, by omega⟩ - z ⟨(e + 32) % 128, by omega⟩ * si ⟨e / 64, by omega⟩ ⟨e % 32, by omega⟩
  else z e * co ⟨e / 64, by omega⟩ ⟨e % 32, by omega⟩ + z ⟨(e + 96) % 128, by omega⟩ * si ⟨e / 64, by omega⟩ ⟨e % 32, by omega⟩

namespace Cert.Reference4Ideal.In

open Cert.Reference4Ideal Cert.Reference4Ideal.Gen Cert.Reference4Ideal.Value

/-- The line of the picture's grid that a latent is on, -/
def line : IVec S2048 32 :=
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

/-- the width of the grid as the remainder takes it, -/
def width : IVec S_ 32 := select (cmpi .eq (constantI S_ 32 64#32) (constantI S_ 32 0#32)) (constantI S_ 32 1#32) (constantI S_ 32 64#32)

/-- the remainder itself -/
def rest : IVec S2048 32 := Host.remsi (iotaInDim S2048 32 0) (broadcastInDim S2048 ![] bcast_S_S2048 width)

/-- and so the latent's place on its line. -/
def place : IVec S2048 32 :=
  select (andi (cmpi .ne (cmpi .slt rest (broadcastInDim S2048 ![] bcast_S_S2048 (constantI S_ 32 0#32))) (broadcastInDim S2048 ![] bcast_S_S2048 (cmpi .slt width (constantI S_ 32 0#32))))
      (cmpi .ne rest (broadcastInDim S2048 ![] bcast_S_S2048 (constantI S_ 32 0#32))))
    (addi rest (broadcastInDim S2048 ![] bcast_S_S2048 width)) rest

/-- The angles of a latent: its line and its place times 32 frequencies. -/
def angles : FVec Ideal S2048x2x32 .f32 :=
  mulf (broadcastInDim S2048x2x32 ![0, 1, 2] bcast_S2048x2x1_S2048x2x32_0_1_2 (broadcastInDim S2048x2x1 ![0, 1] bcast_S2048x2_S2048x2x1_0_1
      (sitofp .f32 (concatenate S2048x2 1 [⟨S2048x1, broadcastInDim S2048x1 ![0] bcast_S2048_S2048x1_0 line⟩, ⟨S2048x1, broadcastInDim S2048x1 ![0] bcast_S2048_S2048x1_0 place⟩] concatenates_S2048x1_S2048x1_S2048x2_d1))))
    (broadcastInDim S2048x2x32 ![0, 1, 2] bcast_S1x1x32_S2048x2x32_0_1_2 (broadcastInDim S1x1x32 ![2] bcast_S32_S1x1x32_2
      (Host.powf (broadcastInDim S32 ![] bcast_S_S32 (constant S_ .f32 0x461C4000#32)) (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0))))) (broadcastInDim S32 ![] bcast_S_S32 (constant S_ .f32 0x42800000#32))))))

/-- The projection, sample by sample. -/
def projected (h : FVec Ideal S4x2304x2048 .f32) (w : FVec Ideal S2048x4608 .f32) : FVec Ideal S4x2304x4608 .f32 :=
  Host.dotGeneral dot_S4x2304x2048_S2048x4608_S4x2304x4608_2_0_01_1_n_n none h w

/-- The projection of the arguments that a memory holds. -/
def whole (m : (ℓ : Loc nD τ sig) → Buf (Elt Ideal) ℓ) (c : Dev nD) : FVec Ideal S4x2304x4608 .f32 :=
  projected (Cert.Reference3Ideal.In.stream (shapeCast S4x2304x2048 (m ((c.tc : Thread nD τ).loc main_arg0)) shapeCasts_S9216x2048_S4x2304x2048) (m ((c.tc : Thread nD τ).loc main_arg1))
    (Cert.Reference3Ideal.In.scale (m ((c.tc : Thread nD τ).loc main_arg2))) (Cert.Reference3Ideal.In.shift (m ((c.tc : Thread nD τ).loc main_arg2)))) (m ((c.tc : Thread nD τ).loc main_arg3))

/-- Their cosines and sines, over samples and heads. -/
def cosines (a : FVec Ideal S2048x2x32 .f32) : FVec Ideal S1x2048x1x2x32 .f32 := broadcastInDim S1x2048x1x2x32 ![1, 3, 4] bcast_S2048x2x32_S1x2048x1x2x32_1_3_4 (Host.cos a)
def sines (a : FVec Ideal S2048x2x32 .f32) : FVec Ideal S1x2048x1x2x32 .f32 := broadcastInDim S1x2048x1x2x32 ![1, 3, 4] bcast_S2048x2x32_S1x2048x1x2x32_1_3_4 (Host.sin a)

/-- The latents' heads (8 of them), each in two halves of two quarters, and the first quarter of each half; -/
def quarters8 (z : FVec Ideal S4x2304x8x128 .f32) : FVec Ideal S4x2048x8x2x2x32 .f32 :=
  shapeCast S4x2048x8x2x2x32 (extractStridedSlice S4x2048x8x128 ![0, 256, 0, 0] z slices_S4x2304x8x128_S4x2048x8x128_0_256_0_0) shapeCasts_S4x2048x8x128_S4x2048x8x2x2x32
def first8 (z : FVec Ideal S4x2304x8x128 .f32) : FVec Ideal S4x2048x8x2x32 .f32 :=
  shapeCast S4x2048x8x2x32 (extractStridedSlice S4x2048x8x2x1x32 ![0, 0, 0, 0, 0, 0] (quarters8 z) slices_S4x2048x8x2x2x32_S4x2048x8x2x1x32_0_0_0_0_0_0) shapeCasts_S4x2048x8x2x1x32_S4x2048x8x2x32
/-- and the second. -/
def second8 (z : FVec Ideal S4x2304x8x128 .f32) : FVec Ideal S4x2048x8x2x32 .f32 :=
  shapeCast S4x2048x8x2x32 (extractStridedSlice S4x2048x8x2x1x32 ![0, 0, 0, 0, 1, 0] (quarters8 z) slices_S4x2048x8x2x2x32_S4x2048x8x2x1x32_0_0_0_0_1_0) shapeCasts_S4x2048x8x2x1x32_S4x2048x8x2x32

/-- The latents' heads (2 of them), each in two halves of two quarters, and the first quarter of each half; -/
def quarters2 (z : FVec Ideal S4x2304x2x128 .f32) : FVec Ideal S4x2048x2x2x2x32 .f32 :=
  shapeCast S4x2048x2x2x2x32 (extractStridedSlice S4x2048x2x128 ![0, 256, 0, 0] z slices_S4x2304x2x128_S4x2048x2x128_0_256_0_0) shapeCasts_S4x2048x2x128_S4x2048x2x2x2x32
def first2 (z : FVec Ideal S4x2304x2x128 .f32) : FVec Ideal S4x2048x2x2x32 .f32 :=
  shapeCast S4x2048x2x2x32 (extractStridedSlice S4x2048x2x2x1x32 ![0, 0, 0, 0, 0, 0] (quarters2 z) slices_S4x2048x2x2x2x32_S4x2048x2x2x1x32_0_0_0_0_0_0) shapeCasts_S4x2048x2x2x1x32_S4x2048x2x2x32
/-- and the second. -/
def second2 (z : FVec Ideal S4x2304x2x128 .f32) : FVec Ideal S4x2048x2x2x32 .f32 :=
  shapeCast S4x2048x2x2x32 (extractStridedSlice S4x2048x2x2x1x32 ![0, 0, 0, 0, 1, 0] (quarters2 z) slices_S4x2048x2x2x2x32_S4x2048x2x2x1x32_0_0_0_0_1_0) shapeCasts_S4x2048x2x2x1x32_S4x2048x2x2x32

/-- The latents' queries turned by the angles `a`, the context's as they are. -/
def turned8 (a : FVec Ideal S2048x2x32 .f32) (z : FVec Ideal S4x2304x8x128 .f32) : FVec Ideal S4x2304x8x128 .f32 :=
  concatenate S4x2304x8x128 1 [⟨S4x256x8x128, extractStridedSlice S4x256x8x128 ![0, 0, 0, 0] z slices_S4x2304x8x128_S4x256x8x128_0_0_0_0⟩,
    ⟨S4x2048x8x128, shapeCast S4x2048x8x128 (concatenate S4x2048x8x2x2x32 4
      [⟨S4x2048x8x2x1x32, broadcastInDim S4x2048x8x2x1x32 ![0, 1, 2, 3, 5] bcast_S4x2048x8x2x32_S4x2048x8x2x1x32_0_1_2_3_5 (subf
          (mulf (first8 z) (broadcastInDim S4x2048x8x2x32 ![0, 1, 2, 3, 4] bcast_S1x2048x1x2x32_S4x2048x8x2x32_0_1_2_3_4 (cosines a)))
          (mulf (second8 z) (broadcastInDim S4x2048x8x2x32 ![0, 1, 2, 3, 4] bcast_S1x2048x1x2x32_S4x2048x8x2x32_0_1_2_3_4 (sines a))))⟩,
       ⟨S4x2048x8x2x1x32, broadcastInDim S4x2048x8x2x1x32 ![0, 1, 2, 3, 5] bcast_S4x2048x8x2x32_S4x2048x8x2x1x32_0_1_2_3_5 (addf
          (mulf (second8 z) (broadcastInDim S4x2048x8x2x32 ![0, 1, 2, 3, 4] bcast_S1x2048x1x2x32_S4x2048x8x2x32_0_1_2_3_4 (cosines a)))
          (mulf (first8 z) (broadcastInDim S4x2048x8x2x32 ![0, 1, 2, 3, 4] bcast_S1x2048x1x2x32_S4x2048x8x2x32_0_1_2_3_4 (sines a))))⟩]
      concatenates_S4x2048x8x2x1x32_S4x2048x8x2x1x32_S4x2048x8x2x2x32_d4) shapeCasts_S4x2048x8x2x2x32_S4x2048x8x128⟩] concatenates_S4x256x8x128_S4x2048x8x128_S4x2304x8x128_d1

/-- The latents' keys turned by the angles `a`, the context's as they are. -/
def turned2 (a : FVec Ideal S2048x2x32 .f32) (z : FVec Ideal S4x2304x2x128 .f32) : FVec Ideal S4x2304x2x128 .f32 :=
  concatenate S4x2304x2x128 1 [⟨S4x256x2x128, extractStridedSlice S4x256x2x128 ![0, 0, 0, 0] z slices_S4x2304x2x128_S4x256x2x128_0_0_0_0⟩,
    ⟨S4x2048x2x128, shapeCast S4x2048x2x128 (concatenate S4x2048x2x2x2x32 4
      [⟨S4x2048x2x2x1x32, broadcastInDim S4x2048x2x2x1x32 ![0, 1, 2, 3, 5] bcast_S4x2048x2x2x32_S4x2048x2x2x1x32_0_1_2_3_5 (subf
          (mulf (first2 z) (broadcastInDim S4x2048x2x2x32 ![0, 1, 2, 3, 4] bcast_S1x2048x1x2x32_S4x2048x2x2x32_0_1_2_3_4 (cosines a)))
          (mulf (second2 z) (broadcastInDim S4x2048x2x2x32 ![0, 1, 2, 3, 4] bcast_S1x2048x1x2x32_S4x2048x2x2x32_0_1_2_3_4 (sines a))))⟩,
       ⟨S4x2048x2x2x1x32, broadcastInDim S4x2048x2x2x1x32 ![0, 1, 2, 3, 5] bcast_S4x2048x2x2x32_S4x2048x2x2x1x32_0_1_2_3_5 (addf
          (mulf (second2 z) (broadcastInDim S4x2048x2x2x32 ![0, 1, 2, 3, 4] bcast_S1x2048x1x2x32_S4x2048x2x2x32_0_1_2_3_4 (cosines a)))
          (mulf (first2 z) (broadcastInDim S4x2048x2x2x32 ![0, 1, 2, 3, 4] bcast_S1x2048x1x2x32_S4x2048x2x2x32_0_1_2_3_4 (sines a))))⟩]
      concatenates_S4x2048x2x2x1x32_S4x2048x2x2x1x32_S4x2048x2x2x2x32_d4) shapeCasts_S4x2048x2x2x2x32_S4x2048x2x128⟩] concatenates_S4x256x2x128_S4x2048x2x128_S4x2304x2x128_d1

/-- The windowed attention's queries before they are turned, in heads, -/
def heads8 (y : FVec Ideal S4x2304x4608 .f32) : FVec Ideal S4x2304x8x128 .f32 :=
  shapeCast S4x2304x8x128 (mulf (extractStridedSlice S4x2304x1024 ![0, 0, 0] y slices_S4x2304x4608_S4x2304x1024_0_0_0) (broadcastInDim S4x2304x1024 ![] bcast_S_S4x2304x1024 (constant S_ .f32 0x3E0293EE#32))) shapeCasts_S4x2304x1024_S4x2304x8x128
/-- and its keys. -/
def heads2 (y : FVec Ideal S4x2304x4608 .f32) : FVec Ideal S4x2304x2x128 .f32 :=
  shapeCast S4x2304x2x128 (extractStridedSlice S4x2304x256 ![0, 0, 1024] y slices_S4x2304x4608_S4x2304x256_0_0_1024) shapeCasts_S4x2304x256_S4x2304x2x128

/-- The six results: the windowed attention's queries, keys and values, then those of the neighbourhood attention. -/
def out0 (y : FVec Ideal S4x2304x4608 .f32) : FVec Ideal S9216x1024 .bf16 := truncf .bf16 (shapeCast S9216x1024 (turned8 angles (heads8 y)) shapeCasts_S4x2304x8x128_S9216x1024) bitsLt_bf16_f32
def out1 (y : FVec Ideal S4x2304x4608 .f32) : FVec Ideal S9216x256 .bf16 := truncf .bf16 (shapeCast S9216x256 (turned2 angles (heads2 y)) shapeCasts_S4x2304x2x128_S9216x256) bitsLt_bf16_f32
def out2 (y : FVec Ideal S4x2304x4608 .f32) : FVec Ideal S9216x256 .bf16 :=
  truncf .bf16 (shapeCast S9216x256 (extractStridedSlice S4x2304x256 ![0, 0, 1280] y slices_S4x2304x4608_S4x2304x256_0_0_1280) shapeCasts_S4x2304x256_S9216x256) bitsLt_bf16_f32
def out3 (y : FVec Ideal S4x2304x4608 .f32) : FVec Ideal S9216x1024 .bf16 :=
  truncf .bf16 (shapeCast S9216x1024 (mulf (extractStridedSlice S4x2304x1024 ![0, 0, 1536] y slices_S4x2304x4608_S4x2304x1024_0_0_1536) (broadcastInDim S4x2304x1024 ![] bcast_S_S4x2304x1024 (constant S_ .f32 0x3E0293EE#32))) shapeCasts_S4x2304x1024_S9216x1024) bitsLt_bf16_f32
def out4 (y : FVec Ideal S4x2304x4608 .f32) : FVec Ideal S9216x1024 .bf16 :=
  truncf .bf16 (shapeCast S9216x1024 (extractStridedSlice S4x2304x1024 ![0, 0, 2560] y slices_S4x2304x4608_S4x2304x1024_0_0_2560) shapeCasts_S4x2304x1024_S9216x1024) bitsLt_bf16_f32
def out5 (y : FVec Ideal S4x2304x4608 .f32) : FVec Ideal S9216x1024 .bf16 :=
  truncf .bf16 (shapeCast S9216x1024 (extractStridedSlice S4x2304x1024 ![0, 0, 3584] y slices_S4x2304x4608_S4x2304x1024_0_0_3584) shapeCasts_S4x2304x1024_S9216x1024) bitsLt_bf16_f32

/-- The reference runs to its end with these six results, and leaves its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v147) = out0 (whole m c) ∧ r.2.mem ((c.tc : Thread nD τ).loc main_v149) = out1 (whole m c)
        ∧ r.2.mem ((c.tc : Thread nD τ).loc main_v151) = out2 (whole m c) ∧ r.2.mem ((c.tc : Thread nD τ).loc main_v153) = out3 (whole m c)
        ∧ r.2.mem ((c.tc : Thread nD τ).loc main_v155) = out4 (whole m c) ∧ r.2.mem ((c.tc : Thread nD τ).loc main_v157) = out5 (whole m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨⟨(h c).1.trans rfl, (h c).2.1.trans rfl, (h c).2.2.1.trans rfl, (h c).2.2.2.1.trans rfl, (h c).2.2.2.2.1.trans rfl, (h c).2.2.2.2.2.1.trans rfl⟩, (h c).2.2.2.2.2.2⟩) (Value.run m ρ)

/-- The projection at one element. -/
theorem projected_at (h : FVec Ideal S4x2304x2048 .f32) (w : FVec Ideal S2048x4608 .f32) (s : Fin 4) (p : Fin 2304) (e : Fin 4608) :
    projected h w (ix3 s p e) = ∑ d : Fin 2048, h (ix3 s p d) * w (ix2 d e) := by
  pointwise [projected]

/-- The quarters at one element. -/
theorem first8_at (z : FVec Ideal S4x2304x8x128 .f32) (s : Fin 4) (t : Fin 2048) (h : Fin 8) (a : Fin 2) (k : Fin 32) :
    first8 z (ix5 s t h a k) = z (ix4 s ⟨256 + t, by omega⟩ h ⟨a * 64 + k, by omega⟩) := by
  pointwise [first8, quarters8]
theorem second8_at (z : FVec Ideal S4x2304x8x128 .f32) (s : Fin 4) (t : Fin 2048) (h : Fin 8) (a : Fin 2) (k : Fin 32) :
    second8 z (ix5 s t h a k) = z (ix4 s ⟨256 + t, by omega⟩ h ⟨a * 64 + 32 + k, by omega⟩) := by
  pointwise [second8, quarters8]

/-- A turned head from its two quarters: `u` in the first, `v` in the second. -/
theorem turn_of (z : Fin 128 → EReal) (co si : Fin 2 → Fin 32 → EReal) (e : Fin 128) (u v : EReal)
    (hu : u = z ⟨e / 64 * 64 + e % 32, by omega⟩) (hv : v = z ⟨e / 64 * 64 + 32 + e % 32, by omega⟩) :
    (if _ : e.val / 32 % 2 < 1 then u * co ⟨e / 64, by omega⟩ ⟨e % 32, by omega⟩ - v * si ⟨e / 64, by omega⟩ ⟨e % 32, by omega⟩
      else v * co ⟨e / 64, by omega⟩ ⟨e % 32, by omega⟩ + u * si ⟨e / 64, by omega⟩ ⟨e % 32, by omega⟩) = Cert.turn z co si e := by
  subst hu hv
  have hel := e.isLt
  unfold Cert.turn
  split
  · rename_i he
    have he : e.val % 64 < 32 := by omega
    have e1 : (⟨e.val / 64 * 64 + e.val % 32, by omega⟩ : Fin 128) = e := Fin.ext (by show e.val / 64 * 64 + e.val % 32 = e.val; omega)
    have e2 : (⟨e.val / 64 * 64 + 32 + e.val % 32, by omega⟩ : Fin 128) = ⟨(e.val + 32) % 128, by omega⟩ := Fin.ext (by show e.val / 64 * 64 + 32 + e.val % 32 = (e.val + 32) % 128; omega)
    rw [if_pos he, e1, e2]
  · rename_i he
    have he : ¬ e.val % 64 < 32 := by omega
    have e1 : (⟨e.val / 64 * 64 + 32 + e.val % 32, by omega⟩ : Fin 128) = e := Fin.ext (by show e.val / 64 * 64 + 32 + e.val % 32 = e.val; omega)
    have e2 : (⟨e.val / 64 * 64 + e.val % 32, by omega⟩ : Fin 128) = ⟨(e.val + 96) % 128, by omega⟩ := Fin.ext (by show e.val / 64 * 64 + e.val % 32 = (e.val + 96) % 128; omega)
    rw [if_neg he, e1, e2]

/-- A turned head at one element. -/
theorem turned8_at (a : FVec Ideal S2048x2x32 .f32) (z : FVec Ideal S4x2304x8x128 .f32) (s : Fin 4) (p : Fin 2304) (h : Fin 8) (e : Fin 128) :
    turned8 a z (ix4 s p h e) = if hp : p.val < 256 then z (ix4 s p h e)
      else Cert.turn (fun k => z (ix4 s p h k)) (fun b k => Host.cos a (ix3 ⟨p - 256, by omega⟩ b k)) (fun b k => Host.sin a (ix3 ⟨p - 256, by omega⟩ b k)) e := by
  unfold turned8 cosines sines
  generalize Host.cos a = co
  generalize Host.sin a = si
  revert co si
  intro (co : FVec Ideal S2048x2x32 .f32) (si : FVec Ideal S2048x2x32 .f32)
  pointwise [first8, second8, quarters8]
  have hpl := p.isLt
  have hel := e.isLt
  by_cases hp : p.val < 256
  · rw [dif_pos hp, dif_pos hp]
  · refine (dif_neg hp).trans (Eq.trans ?_ (dif_neg hp).symm)
    have e0 : (⟨256 + (p.val - 256), by omega⟩ : Fin 2304) = p := Fin.ext (by show 256 + (p.val - 256) = p.val; omega)
    exact turn_of (fun k => z (ix4 s p h k)) (fun b k => co (ix3 ⟨p.val - 256, by omega⟩ b k)) (fun b k => si (ix3 ⟨p.val - 256, by omega⟩ b k)) e _ _
      (congrArg (fun q => z (ix4 s q h _)) e0) (congrArg (fun q => z (ix4 s q h _)) e0)

/-- The quarters at one element. -/
theorem first2_at (z : FVec Ideal S4x2304x2x128 .f32) (s : Fin 4) (t : Fin 2048) (h : Fin 2) (a : Fin 2) (k : Fin 32) :
    first2 z (ix5 s t h a k) = z (ix4 s ⟨256 + t, by omega⟩ h ⟨a * 64 + k, by omega⟩) := by
  pointwise [first2, quarters2]
theorem second2_at (z : FVec Ideal S4x2304x2x128 .f32) (s : Fin 4) (t : Fin 2048) (h : Fin 2) (a : Fin 2) (k : Fin 32) :
    second2 z (ix5 s t h a k) = z (ix4 s ⟨256 + t, by omega⟩ h ⟨a * 64 + 32 + k, by omega⟩) := by
  pointwise [second2, quarters2]

/-- A turned head at one element. -/
theorem turned2_at (a : FVec Ideal S2048x2x32 .f32) (z : FVec Ideal S4x2304x2x128 .f32) (s : Fin 4) (p : Fin 2304) (h : Fin 2) (e : Fin 128) :
    turned2 a z (ix4 s p h e) = if hp : p.val < 256 then z (ix4 s p h e)
      else Cert.turn (fun k => z (ix4 s p h k)) (fun b k => Host.cos a (ix3 ⟨p - 256, by omega⟩ b k)) (fun b k => Host.sin a (ix3 ⟨p - 256, by omega⟩ b k)) e := by
  unfold turned2 cosines sines
  generalize Host.cos a = co
  generalize Host.sin a = si
  revert co si
  intro (co : FVec Ideal S2048x2x32 .f32) (si : FVec Ideal S2048x2x32 .f32)
  pointwise [first2, second2, quarters2]
  have hpl := p.isLt
  have hel := e.isLt
  by_cases hp : p.val < 256
  · rw [dif_pos hp, dif_pos hp]
  · refine (dif_neg hp).trans (Eq.trans ?_ (dif_neg hp).symm)
    have e0 : (⟨256 + (p.val - 256), by omega⟩ : Fin 2304) = p := Fin.ext (by show 256 + (p.val - 256) = p.val; omega)
    exact turn_of (fun k => z (ix4 s p h k)) (fun b k => co (ix3 ⟨p.val - 256, by omega⟩ b k)) (fun b k => si (ix3 ⟨p.val - 256, by omega⟩ b k)) e _ _
      (congrArg (fun q => z (ix4 s q h _)) e0) (congrArg (fun q => z (ix4 s q h _)) e0)

/-- The heads at one element. -/
theorem heads8_at (y : FVec Ideal S4x2304x4608 .f32) (s : Fin 4) (p : Fin 2304) (h : Fin 8) (e : Fin 128) :
    heads8 y (ix4 s p h e) = y (ix3 s p ⟨h * 128 + e, by omega⟩) * Ideal.ofBits .f32 0x3E0293EE#32 := by
  pointwise [heads8]
theorem heads2_at (y : FVec Ideal S4x2304x4608 .f32) (s : Fin 4) (p : Fin 2304) (h : Fin 2) (e : Fin 128) :
    heads2 y (ix4 s p h e) = y (ix3 s p ⟨1024 + (h * 128 + e), by omega⟩) := by
  pointwise [heads2]

/-- The results at one element. -/
theorem out0_at (y : FVec Ideal S4x2304x4608 .f32) (r : Fin 9216) (e : Fin 1024) :
    out0 y (ix2 r e) = turned8 angles (heads8 y) (ix4 ⟨r / 2304, by omega⟩ ⟨r % 2304, by omega⟩ ⟨e / 128, by omega⟩ ⟨e % 128, by omega⟩) := by
  unfold out0
  generalize turned8 angles (heads8 y) = z
  pointwise []
theorem out1_at (y : FVec Ideal S4x2304x4608 .f32) (r : Fin 9216) (e : Fin 256) :
    out1 y (ix2 r e) = turned2 angles (heads2 y) (ix4 ⟨r / 2304, by omega⟩ ⟨r % 2304, by omega⟩ ⟨e / 128, by omega⟩ ⟨e % 128, by omega⟩) := by
  unfold out1
  generalize turned2 angles (heads2 y) = z
  pointwise []
theorem out2_at (y : FVec Ideal S4x2304x4608 .f32) (r : Fin 9216) (e : Fin 256) :
    out2 y (ix2 r e) = y (ix3 ⟨r / 2304, by omega⟩ ⟨r % 2304, by omega⟩ ⟨1280 + e, by omega⟩) := by
  pointwise [out2]
theorem out3_at (y : FVec Ideal S4x2304x4608 .f32) (r : Fin 9216) (e : Fin 1024) :
    out3 y (ix2 r e) = y (ix3 ⟨r / 2304, by omega⟩ ⟨r % 2304, by omega⟩ ⟨1536 + e, by omega⟩) * Ideal.ofBits .f32 0x3E0293EE#32 := by
  pointwise [out3]
theorem out4_at (y : FVec Ideal S4x2304x4608 .f32) (r : Fin 9216) (e : Fin 1024) :
    out4 y (ix2 r e) = y (ix3 ⟨r / 2304, by omega⟩ ⟨r % 2304, by omega⟩ ⟨2560 + e, by omega⟩) := by
  pointwise [out4]
theorem out5_at (y : FVec Ideal S4x2304x4608 .f32) (r : Fin 9216) (e : Fin 1024) :
    out5 y (ix2 r e) = y (ix3 ⟨r / 2304, by omega⟩ ⟨r % 2304, by omega⟩ ⟨3584 + e, by omega⟩) := by
  pointwise [out5]

end Cert.Reference4Ideal.In
end
-- ==== Proof.In1Tables.lean ====
/- What a tile of the second layer's input projection computes, and the two tables that the host makes for it. -/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.In1Reference
public import Idealize.ShloMosaic.Lib.Pipeline.ValueKit
public import Idealize.ShloMosaic.Lib.Pipeline.Covers

@[expose] public section

set_option maxRecDepth 16384
set_option Elab.async false

noncomputable section

namespace Cert.Kernel4Ideal.In

open Cert.Kernel4Ideal Cert.Kernel4Ideal.Gen
open Idealize.ShloMosaic Idealize.ShloMosaic.TcCoe Idealize.SL.Sem

/-- A tile's projection at one element: the modulated row against a column of the weights. -/
theorem tile_at (x : Vec Ideal S256x2048 .f32) (g : Vec Ideal S1x2048 .f32) (sc sh : Vec Ideal S1x1x2048 .f32) (w : Vec Ideal S2048x4608 .bf16) (r : Fin 256) (e : Fin 4608) :
    k0_pay5 (F := Ideal) x g sc sh w (ix2 r e)
      = ∑ d : Fin 2048, Cert.modulated (fun k => x (ix2 r k)) (fun k => g (ix2 0 k)) (fun k => sc (ix3 0 0 k)) (fun k => sh (ix3 0 0 k)) d * w (ix2 d e) := by
  unfold Cert.modulated Cert.scaled
  pointwise [k0_pay5]

/-- Where a lane is in the first half of its 64. -/
def mask : IVec S256x128 1 :=
  cmpi .slt (select
      (andi (xori (cmpi .slt (remsi (iota .tc S256x128 32 [1] iota_S256x128_d1_w32) (broadcast S256x128 (Scalar.select (Scalar.cmpi .eq 64#32 0#32) 1#32 64#32))) (broadcast S256x128 0#32))
          (broadcastTo S256x128 (broadcast S256x128 (Scalar.cmpi .slt (Scalar.select (Scalar.cmpi .eq 64#32 0#32) 1#32 64#32) 0#32)) broadcasts_S256x128_S256x128))
        (cmpi .ne (remsi (iota .tc S256x128 32 [1] iota_S256x128_d1_w32) (broadcast S256x128 (Scalar.select (Scalar.cmpi .eq 64#32 0#32) 1#32 64#32))) (broadcast S256x128 0#32)))
      (addi (remsi (iota .tc S256x128 32 [1] iota_S256x128_d1_w32) (broadcast S256x128 (Scalar.select (Scalar.cmpi .eq 64#32 0#32) 1#32 64#32))) (broadcast S256x128 (Scalar.select (Scalar.cmpi .eq 64#32 0#32) 1#32 64#32)))
      (remsi (iota .tc S256x128 32 [1] iota_S256x128_d1_w32) (broadcast S256x128 (Scalar.select (Scalar.cmpi .eq 64#32 0#32) 1#32 64#32))))
    (broadcast S256x128 32#32)

/-- The mask at one element. -/
theorem mask_at (r : Fin 256) (e : Fin 128) : mask (ix2 r e) = if e.val % 64 < 32 then 1#1 else 0#1 := by
  pointwise [mask]
  revert e
  decide +kernel

/-- A head turned by the tables of cosines and sines, as the tile turns it. -/
def head (z co si : FVec Ideal S256x128 .f32) : FVec Ideal S256x128 .bf16 :=
  truncf .bf16 (addf (mulf z co) (mulf (select mask (dynamicRotate 1 96#32 none z rotates_S256x128_d1) (dynamicRotate 1 32#32 none z rotates_S256x128_d1)) si)) bitsLt_bf16_f32

/-- A head at one element: the lane itself and the one that lies 32 lanes off, by the two tables. -/
theorem head_at (z co si : FVec Ideal S256x128 .f32) (r : Fin 256) (e : Fin 128) :
    head z co si (ix2 r e) = z (ix2 r e) * co (ix2 r e)
      + (if e.val % 64 < 32 then z (ix2 r ⟨(e + 32) % 128, by omega⟩) else z (ix2 r ⟨(e + 96) % 128, by omega⟩)) * si (ix2 r e) := by
  have hm := mask_at r e
  unfold head
  generalize mask = k at hm ⊢
  pointwise []
  rw [hm]
  have e1 : (⟨(e.val + 128 - 96) % 128, by omega⟩ : Fin 128) = ⟨(e.val + 32) % 128, by omega⟩ := Fin.ext (by show (e.val + 128 - 96) % 128 = (e.val + 32) % 128; omega)
  have e2 : (⟨(e.val + 128 - 32) % 128, by omega⟩ : Fin 128) = ⟨(e.val + 96) % 128, by omega⟩ := Fin.ext (by show (e.val + 128 - 32) % 128 = (e.val + 96) % 128; omega)
  rw [e1, e2]
  by_cases he : e.val % 64 < 32
  · rw [if_pos he, if_pos he]; rfl
  · rw [if_neg he, if_neg he]; rfl

/-- The columns of one head of the queries, times the scale; -/
def queries (o : Nat) (h : S256x4608.Slices ![0, o] S256x128) (y : FVec Ideal S256x4608 .f32) : FVec Ideal S256x128 .f32 :=
  mulf (extractStridedSlice S256x128 ![0, o] y h) (broadcast S256x128 (Scalar.ofBits .f32 0x3E0293EE#32))
/-- and of one head of the keys. -/
def keys (o : Nat) (h : S256x4608.Slices ![0, o] S256x128) (y : FVec Ideal S256x4608 .f32) : FVec Ideal S256x128 .f32 :=
  extractStridedSlice S256x128 ![0, o] y h

/-- A column of a head of queries is a column of the projection, scaled; -/
theorem queries_at (o : Nat) (h : S256x4608.Slices ![0, o] S256x128) (y : FVec Ideal S256x4608 .f32) (r : Fin 256) (e : Fin 128) (k : Fin 4608) (hk : k.val = o + e.val) :
    queries o h y (ix2 r e) = y (ix2 r k) * Ideal.ofBits .f32 0x3E0293EE#32 := by
  have he : (⟨o + e.val, by omega⟩ : Fin 4608) = k := Fin.ext hk.symm
  unfold queries
  pointwise []
  rw [he]
/-- of a head of keys, as it is. -/
theorem keys_at (o : Nat) (h : S256x4608.Slices ![0, o] S256x128) (y : FVec Ideal S256x4608 .f32) (r : Fin 256) (e : Fin 128) (k : Fin 4608) (hk : k.val = o + e.val) :
    keys o h y (ix2 r e) = y (ix2 r k) := by
  have he : (⟨o + e.val, by omega⟩ : Fin 4608) = k := Fin.ext hk.symm
  unfold keys
  pointwise []
  rw [he]

/-- The columns stored as they are. -/
theorem store9_at (y : FVec Ideal S256x4608 .f32) (r : Fin 256) (e : Fin 256) :
    k0_pay1 (F := Ideal) (k0_pay46 y) (ix2 r e) = y (ix2 r ⟨1280 + e, by omega⟩) := by
  pointwise [k0_pay1, k0_pay46]
/-- The third stretch of columns, scaled, -/
theorem store10_at (y : FVec Ideal S256x4608 .f32) (r : Fin 256) (e : Fin 1024) :
    k0_pay2 (F := Ideal) y (ix2 r e) = y (ix2 r ⟨1536 + e, by omega⟩) * Ideal.ofBits .f32 0x3E0293EE#32 := by
  pointwise [k0_pay2]
/-- the fourth -/
theorem store11_at (y : FVec Ideal S256x4608 .f32) (r : Fin 256) (e : Fin 1024) :
    k0_pay3 (F := Ideal) y (ix2 r e) = y (ix2 r ⟨2560 + e, by omega⟩) := by
  pointwise [k0_pay3]
/-- and the last. -/
theorem store12_at (y : FVec Ideal S256x4608 .f32) (r : Fin 256) (e : Fin 1024) :
    k0_pay4 (F := Ideal) y (ix2 r e) = y (ix2 r ⟨3584 + e, by omega⟩) := by
  pointwise [k0_pay4]

/-- One half's 32 entries of every latent; -/
def half0 (co : FVec Ideal S2048x2x32 .f32) : FVec Ideal S2048x32 .f32 :=
  shapeCast S2048x32 (extractStridedSlice S2048x1x32 ![0, 0, 0] co slices_S2048x2x32_S2048x1x32_0_0_0) shapeCasts_S2048x1x32_S2048x32
/-- the other's. -/
def half1 (co : FVec Ideal S2048x2x32 .f32) : FVec Ideal S2048x32 .f32 :=
  shapeCast S2048x32 (extractStridedSlice S2048x1x32 ![0, 1, 0] co slices_S2048x2x32_S2048x1x32_0_1_0) shapeCasts_S2048x1x32_S2048x32
/-- Four of these next to one another. -/
def joined (p q r s : FVec Ideal S2048x32 .f32) : FVec Ideal S2048x128 .f32 :=
  concatenate S2048x128 1 [⟨S2048x32, p⟩, ⟨S2048x32, q⟩, ⟨S2048x32, r⟩, ⟨S2048x32, s⟩] concatenates_S2048x32_S2048x32_S2048x32_S2048x32_S2048x128_d1
/-- The four quarters of a head's cosines; -/
def quarters (co : FVec Ideal S2048x2x32 .f32) : FVec Ideal S2048x128 .f32 := joined (half0 co) (half0 co) (half1 co) (half1 co)
/-- of its sines, negative in the first quarter of each half. -/
def signed (si : FVec Ideal S2048x2x32 .f32) : FVec Ideal S2048x128 .f32 := joined (Host.negf (F := Ideal) (half0 si)) (half0 si) (Host.negf (F := Ideal) (half1 si)) (half1 si)

/-- A table after 256 rows of ones; -/
def afterOnes (t : FVec Ideal S2048x128 .f32) : FVec Ideal S2304x128 .f32 :=
  concatenate S2304x128 0 [⟨S256x128, pad S256x128 ![0, 0] ![0, 0] ![0, 0] (broadcastInDim S256x128 ![] bcast_S_S256x128 (constant (F := Ideal) S_ .f32 0x3F800000#32)) (sitofp .f32 (constantI S_ 32 0#32)) pads_S256x128_S256x128_000_000 h_S_⟩,
    ⟨S2048x128, pad S2048x128 ![0, 0] ![0, 0] ![0, 0] t (sitofp .f32 (constantI S_ 32 0#32)) pads_S2048x128_S2048x128_000_000 h_S_⟩] concatenates_S256x128_S2048x128_S2304x128_d0
/-- after 256 rows of zeros. -/
def afterZeros (t : FVec Ideal S2048x128 .f32) : FVec Ideal S2304x128 .f32 :=
  concatenate S2304x128 0 [⟨S256x128, broadcastInDim S256x128 ![] bcast_S_S256x128 (constant (F := Ideal) S_ .f32 0x00000000#32)⟩,
    ⟨S2048x128, pad S2048x128 ![0, 0] ![0, 0] ![0, 0] t (sitofp .f32 (constantI S_ 32 0#32)) pads_S2048x128_S2048x128_000_000 h_S_⟩] concatenates_S256x128_S2048x128_S2304x128_d0

/-- The table of cosines: ones for the context, and the angles' cosines for the latents; -/
def cosines (a : FVec Ideal S2048x2x32 .f32) : FVec Ideal S2304x128 .f32 := afterOnes (quarters (Host.cos a))
/-- that of sines: zeros for the context, and the angles' signed sines for the latents. -/
def sines (a : FVec Ideal S2048x2x32 .f32) : FVec Ideal S2304x128 .f32 := afterZeros (signed (Host.sin a))

/-- An array at an index whose last two coordinates are known by their values. -/
theorem at_of (co : FVec Ideal S2048x2x32 .f32) (q : Fin 2048) (a a' : Fin 2) (k k' : Fin 32) (ha : a.val = a'.val) (hk : k.val = k'.val) :
    co (ix3 q a k) = co (ix3 q a' k') := by
  rw [Fin.ext ha, Fin.ext hk]

/-- The table of cosines at one element. -/
theorem cosines_at (a : FVec Ideal S2048x2x32 .f32) (p : Fin 2304) (e : Fin 128) :
    cosines a (ix2 p e) = if hp : p.val < 256 then 1 else Host.cos a (ix3 ⟨p - 256, by omega⟩ ⟨e / 64, by omega⟩ ⟨e % 32, by omega⟩) := by
  unfold cosines
  generalize Host.cos a = co
  revert co
  intro (co : FVec Ideal S2048x2x32 .f32)
  pointwise [afterOnes, quarters, joined, half0, half1]
  have hpl := p.isLt
  have hel := e.isLt
  by_cases hp : p.val < 256
  · refine (dif_pos hp).trans ((dif_pos hp).trans ?_)
    rw [dif_pos hp]
  · refine (dif_neg hp).trans ((dif_pos (show p.val - 256 < 2048 by omega)).trans (Eq.trans ?_ (dif_neg hp).symm))
    by_cases h1 : e.val < 32
    · exact (dif_pos h1).trans (at_of co _ _ _ _ _ (by show 0 = e.val / 64; omega) (by show e.val = e.val % 32; omega))
    · refine (dif_neg h1).trans ?_
      by_cases h2 : e.val - 32 < 32
      · exact (dif_pos h2).trans (at_of co _ _ _ _ _ (by show 0 = e.val / 64; omega) (by show e.val - 32 = e.val % 32; omega))
      · refine (dif_neg h2).trans ?_
        by_cases h3 : e.val - 32 - 32 < 32
        · exact (dif_pos h3).trans (at_of co _ _ _ _ _ (by show 1 = e.val / 64; omega) (by show e.val - 32 - 32 = e.val % 32; omega))
        · exact (dif_neg h3).trans (at_of co _ _ _ _ _ (by show 1 = e.val / 64; omega) (by show e.val - 32 - 32 - 32 = e.val % 32; omega))

/-- The table of sines at one element. -/
theorem sines_at (a : FVec Ideal S2048x2x32 .f32) (p : Fin 2304) (e : Fin 128) :
    sines a (ix2 p e) = if hp : p.val < 256 then 0
      else if e.val % 64 < 32 then -(Host.sin a (ix3 ⟨p - 256, by omega⟩ ⟨e / 64, by omega⟩ ⟨e % 32, by omega⟩))
      else Host.sin a (ix3 ⟨p - 256, by omega⟩ ⟨e / 64, by omega⟩ ⟨e % 32, by omega⟩) := by
  unfold sines
  generalize Host.sin a = si
  revert si
  intro (si : FVec Ideal S2048x2x32 .f32)
  pointwise [afterZeros, signed, joined, half0, half1]
  have hpl := p.isLt
  have hel := e.isLt
  by_cases hp : p.val < 256
  · refine (dif_pos hp).trans ?_
    rw [dif_pos hp]
  · refine (dif_neg hp).trans ((dif_pos (show p.val - 256 < 2048 by omega)).trans (Eq.trans ?_ (dif_neg hp).symm))
    by_cases h1 : e.val < 32
    · refine (dif_pos h1).trans (Eq.trans ?_ (if_pos (show e.val % 64 < 32 by omega)).symm)
      exact congrArg (fun v : EReal => -v) (at_of si _ _ _ _ _ (by show 0 = e.val / 64; omega) (by show e.val = e.val % 32; omega))
    · refine (dif_neg h1).trans ?_
      by_cases h2 : e.val - 32 < 32
      · refine (dif_pos h2).trans (Eq.trans ?_ (if_neg (show ¬ e.val % 64 < 32 by omega)).symm)
        exact at_of si _ _ _ _ _ (by show 0 = e.val / 64; omega) (by show e.val - 32 = e.val % 32; omega)
      · refine (dif_neg h2).trans ?_
        by_cases h3 : e.val - 32 - 32 < 32
        · refine (dif_pos h3).trans (Eq.trans ?_ (if_pos (show e.val % 64 < 32 by omega)).symm)
          exact congrArg (fun v : EReal => -v) (at_of si _ _ _ _ _ (by show 1 = e.val / 64; omega) (by show e.val - 32 - 32 = e.val % 32; omega))
        · refine (dif_neg h3).trans (Eq.trans ?_ (if_neg (show ¬ e.val % 64 < 32 by omega)).symm)
          exact at_of si _ _ _ _ _ (by show 1 = e.val / 64; omega) (by show e.val - 32 - 32 - 32 = e.val % 32; omega)

/-- A turned row of the stream's place `p`: the context's as it is, a latent's turned by its angles. -/
def turned (p : Fin 2304) (z : Fin 128 → EReal) (e : Fin 128) : EReal :=
  if hp : p.val < 256 then z e
  else Cert.turn z (fun b k => Host.cos Cert.Reference4Ideal.In.angles (ix3 ⟨p - 256, by omega⟩ b k)) (fun b k => Host.sin Cert.Reference4Ideal.In.angles (ix3 ⟨p - 256, by omega⟩ b k)) e

/-- What the tables do to a row is its turning. -/
theorem turned_of (p : Fin 2304) (z : Fin 128 → EReal) (e : Fin 128) (co si : EReal)
    (hc : co = cosines Cert.Reference4Ideal.In.angles (ix2 p e)) (hs : si = sines Cert.Reference4Ideal.In.angles (ix2 p e)) :
    z e * co + (if e.val % 64 < 32 then z ⟨(e + 32) % 128, by omega⟩ else z ⟨(e + 96) % 128, by omega⟩) * si = turned p z e := by
  subst hc hs
  rw [cosines_at, sines_at]
  unfold turned Cert.turn
  generalize Host.cos Cert.Reference4Ideal.In.angles = co
  generalize Host.sin Cert.Reference4Ideal.In.angles = si
  revert co si
  intro (co : FVec Ideal S2048x2x32 .f32) (si : FVec Ideal S2048x2x32 .f32)
  by_cases hp : p.val < 256
  · rw [dif_pos hp, dif_pos hp, dif_pos hp, mul_one, mul_zero, add_zero]
  · refine Eq.trans ?_ (dif_neg hp).symm
    rw [dif_neg hp, dif_neg hp]
    by_cases he : e.val % 64 < 32
    · rw [if_pos he, if_pos he, if_pos he, mul_neg, ← sub_eq_add_neg]
    · rw [if_neg he, if_neg he, if_neg he]

variable (m : (ℓ : Loc nD τ sig) → Buf (Elt Ideal) ℓ) (c : Dev nD)

/-- What the call finds in the arrays that the host prepared: the norm's scale as a row, -/
theorem V_norm : V m c main_v51 = shapeCast S1x2048 (m ((c : Thread nD τ).loc main_arg1)) shapeCasts_S2048_S1x2048 := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v51) = _
  simp only [List.flatten_cons, List.flatten_nil, List.append_nil, List.cons_append, List.nil_append]
  after_results_simp
  rfl
/-- the weights, -/
theorem V_weights : V m c main_v52 = (truncf .bf16 (m ((c : Thread nD τ).loc main_arg3) : FVec Ideal S2048x4608 .f32) bitsLt_bf16_f32 : FVec Ideal S2048x4608 .bf16) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v52) = _
  simp only [List.flatten_cons, List.flatten_nil, List.append_nil, List.cons_append, List.nil_append]
  after_results_simp
/-- The angles from the lines and places of the latents. -/
def anglesOf (l p : IVec S2048 32) : FVec Ideal S2048x2x32 .f32 :=
  mulf (broadcastInDim S2048x2x32 ![0, 1, 2] bcast_S2048x2x1_S2048x2x32_0_1_2 (broadcastInDim S2048x2x1 ![0, 1] bcast_S2048x2_S2048x2x1_0_1
      (sitofp .f32 (concatenate S2048x2 1 [⟨S2048x1, broadcastInDim S2048x1 ![0] bcast_S2048_S2048x1_0 l⟩, ⟨S2048x1, broadcastInDim S2048x1 ![0] bcast_S2048_S2048x1_0 p⟩] concatenates_S2048x1_S2048x1_S2048x2_d1))))
    (broadcastInDim S2048x2x32 ![0, 1, 2] bcast_S1x1x32_S2048x2x32_0_1_2 (broadcastInDim S1x1x32 ![2] bcast_S32_S1x1x32_2
      (Host.powf (broadcastInDim S32 ![] bcast_S_S32 (constant S_ .f32 0x461C4000#32)) (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0))))) (broadcastInDim S32 ![] bcast_S_S32 (constant S_ .f32 0x42800000#32))))))

variable (W : Valuation τ sig (Elt Ideal))

/-- The host's lines up to the latents' places: the lines they leave, -/
theorem host_line : StableHlo.after (hostOps0 ++ hostOps0_1 ++ hostOps0_2 ++ hostOps0_3) W (Proc.devRef .tc main_v1) = Cert.Reference4Ideal.In.line := by
  simp only [List.cons_append, List.nil_append]
  after_results_simp
  rfl
/-- and the places. -/
theorem host_place : StableHlo.after (hostOps0 ++ hostOps0_1 ++ hostOps0_2 ++ hostOps0_3) W (Proc.devRef .tc main_v2) = Cert.Reference4Ideal.In.place := by
  simp only [List.cons_append, List.nil_append]
  after_results_simp
  rfl
/-- The next operations make the angles, -/
theorem host_angles : StableHlo.after (List.take 23 hostOps0_4) W (Proc.devRef .tc main_v21) = anglesOf (W (Proc.devRef .tc main_v1)) (W (Proc.devRef .tc main_v2)) := by
  simp only [List.take_succ_cons, List.take_zero]
  after_results_simp
  after_results_loop
  rfl
/-- The next take each half's cosines twice -/
theorem host_v25 : StableHlo.after (List.take 10 (List.drop 23 hostOps0_4)) W (Proc.devRef .tc main_v25) = half0 (Host.cos (W (Proc.devRef .tc main_v21))) := by
  simp only [List.take_succ_cons, List.take_zero, List.drop_succ_cons, List.drop_zero]
  after_results_simp
  rfl
/-- The first half's, again, -/
theorem host_v27 : StableHlo.after (List.take 10 (List.drop 23 hostOps0_4)) W (Proc.devRef .tc main_v27) = half0 (Host.cos (W (Proc.devRef .tc main_v21))) := by
  simp only [List.take_succ_cons, List.take_zero, List.drop_succ_cons, List.drop_zero]
  after_results_simp
  rfl
/-- the second half's, -/
theorem host_v29 : StableHlo.after (List.take 10 (List.drop 23 hostOps0_4)) W (Proc.devRef .tc main_v29) = half1 (Host.cos (W (Proc.devRef .tc main_v21))) := by
  simp only [List.take_succ_cons, List.take_zero, List.drop_succ_cons, List.drop_zero]
  after_results_simp
  rfl
/-- and again, -/
theorem host_v31 : StableHlo.after (List.take 10 (List.drop 23 hostOps0_4)) W (Proc.devRef .tc main_v31) = half1 (Host.cos (W (Proc.devRef .tc main_v21))) := by
  simp only [List.take_succ_cons, List.take_zero, List.drop_succ_cons, List.drop_zero]
  after_results_simp
  rfl
/-- and the sines. -/
theorem host_v23 : StableHlo.after (List.take 10 (List.drop 23 hostOps0_4)) W (Proc.devRef .tc main_v23) = (Host.sin (W (Proc.devRef .tc main_v21) : FVec Ideal S2048x2x32 .f32) : FVec Ideal S2048x2x32 .f32) := by
  simp only [List.take_succ_cons, List.take_zero, List.drop_succ_cons, List.drop_zero]
  after_results_simp
/-- The cosines are put together; -/
theorem host_v32 : StableHlo.after (List.take 1 (List.drop 33 hostOps0_4)) W (Proc.devRef .tc main_v32) = joined (W (Proc.devRef .tc main_v25)) (W (Proc.devRef .tc main_v27)) (W (Proc.devRef .tc main_v29)) (W (Proc.devRef .tc main_v31)) := by
  simp only [List.take_succ_cons, List.take_zero, List.drop_succ_cons, List.drop_zero, StableHlo.after_cons, StableHlo.after_nil]
  exact StableHlo.nary4_result ..
/-- the sines are kept; -/
theorem host_v23' : StableHlo.after (List.take 1 (List.drop 33 hostOps0_4)) W (Proc.devRef .tc main_v23) = W (Proc.devRef .tc main_v23) := by
  simp only [List.take_succ_cons, List.take_zero, List.drop_succ_cons, List.drop_zero]
  after_results_simp
/-- each half's sines are taken twice, once negative, -/
theorem host_v35 : StableHlo.after (List.take 10 (List.drop 34 hostOps0_4)) W (Proc.devRef .tc main_v35) = Host.negf (F := Ideal) (half0 (W (Proc.devRef .tc main_v23))) := by
  simp only [List.take_succ_cons, List.take_zero, List.drop_succ_cons, List.drop_zero]
  after_results_simp
  rfl
/-- The first half's, as they are, -/
theorem host_v37 : StableHlo.after (List.take 10 (List.drop 34 hostOps0_4)) W (Proc.devRef .tc main_v37) = half0 (W (Proc.devRef .tc main_v23)) := by
  simp only [List.take_succ_cons, List.take_zero, List.drop_succ_cons, List.drop_zero]
  after_results_simp
  rfl
/-- the second half's, negative, -/
theorem host_v40 : StableHlo.after (List.take 10 (List.drop 34 hostOps0_4)) W (Proc.devRef .tc main_v40) = Host.negf (F := Ideal) (half1 (W (Proc.devRef .tc main_v23))) := by
  simp only [List.take_succ_cons, List.take_zero, List.drop_succ_cons, List.drop_zero]
  after_results_simp
  rfl
/-- and as they are; -/
theorem host_v42 : StableHlo.after (List.take 10 (List.drop 34 hostOps0_4)) W (Proc.devRef .tc main_v42) = half1 (W (Proc.devRef .tc main_v23)) := by
  simp only [List.take_succ_cons, List.take_zero, List.drop_succ_cons, List.drop_zero]
  after_results_simp
  rfl
/-- the cosines are kept, -/
theorem host_v32' : StableHlo.after (List.take 10 (List.drop 34 hostOps0_4)) W (Proc.devRef .tc main_v32) = W (Proc.devRef .tc main_v32) := by
  simp only [List.take_succ_cons, List.take_zero, List.drop_succ_cons, List.drop_zero]
  after_results_simp
/-- and put together. -/
theorem host_v43 : StableHlo.after (List.take 1 (List.drop 44 hostOps0_4)) W (Proc.devRef .tc main_v43) = joined (W (Proc.devRef .tc main_v35)) (W (Proc.devRef .tc main_v37)) (W (Proc.devRef .tc main_v40)) (W (Proc.devRef .tc main_v42)) := by
  simp only [List.take_succ_cons, List.take_zero, List.drop_succ_cons, List.drop_zero, StableHlo.after_cons, StableHlo.after_nil]
  exact StableHlo.nary4_result ..
/-- The cosines are kept again. -/
theorem host_v32'' : StableHlo.after (List.take 1 (List.drop 44 hostOps0_4)) W (Proc.devRef .tc main_v32) = W (Proc.devRef .tc main_v32) := by
  simp only [List.take_succ_cons, List.take_zero, List.drop_succ_cons, List.drop_zero]
  after_results_simp
/-- The rest puts the context's ones before the cosines -/
theorem host_ones : StableHlo.after (List.drop 45 hostOps0_4 ++ hostOps0_5 ++ hostOps0_6 ++ hostOps0_7 ++ hostOps0_8 ++ hostOps0_9 ++ hostOps0_10) W (Proc.devRef .tc main_v48) = afterOnes (W (Proc.devRef .tc main_v32)) := by
  simp only [List.drop_succ_cons, List.drop_zero, List.cons_append, List.nil_append]
  after_results_simp
  after_results_loop
  rfl
/-- and its zeros before the sines. -/
theorem host_zeros : StableHlo.after (List.drop 45 hostOps0_4 ++ hostOps0_5 ++ hostOps0_6 ++ hostOps0_7 ++ hostOps0_8 ++ hostOps0_9 ++ hostOps0_10) W (Proc.devRef .tc main_v50) = afterZeros (W (Proc.devRef .tc main_v43)) := by
  simp only [List.drop_succ_cons, List.drop_zero, List.cons_append, List.nil_append]
  after_results_simp
  after_results_loop
  rfl

/-- All the host's operations before the call, in stretches. -/
theorem host_stretches : (List.flatten [hostOps0, hostOps0_1, hostOps0_2, hostOps0_3, hostOps0_4, hostOps0_5, hostOps0_6, hostOps0_7, hostOps0_8, hostOps0_9, hostOps0_10] : List (HloOp τ sig (Elt Ideal)))
    = (hostOps0 ++ hostOps0_1 ++ hostOps0_2 ++ hostOps0_3) ++ (List.take 23 hostOps0_4 ++ (List.take 10 (List.drop 23 hostOps0_4) ++ (List.take 1 (List.drop 33 hostOps0_4) ++ (List.take 10 (List.drop 34 hostOps0_4) ++ (List.take 1 (List.drop 44 hostOps0_4) ++ (List.drop 45 hostOps0_4 ++ hostOps0_5 ++ hostOps0_6 ++ hostOps0_7 ++ hostOps0_8 ++ hostOps0_9 ++ hostOps0_10)))))) := rfl

/-- the table of cosines, -/
theorem V_cosines : V m c main_v48 = cosines Cert.Reference4Ideal.In.angles := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v48) = _
  rw [host_stretches, StableHlo.after_append, StableHlo.after_append (List.take 23 hostOps0_4), StableHlo.after_append (List.take 10 (List.drop 23 hostOps0_4)), StableHlo.after_append (List.take 1 (List.drop 33 hostOps0_4)), StableHlo.after_append (List.take 10 (List.drop 34 hostOps0_4)), StableHlo.after_append (List.take 1 (List.drop 44 hostOps0_4))]
  rw [host_ones, host_v32'', host_v32', host_v32, host_v25, host_v27, host_v29, host_v31, host_angles, host_line, host_place]
  rfl
/-- and that of sines. -/
theorem V_sines : V m c main_v50 = sines Cert.Reference4Ideal.In.angles := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v50) = _
  rw [host_stretches, StableHlo.after_append, StableHlo.after_append (List.take 23 hostOps0_4), StableHlo.after_append (List.take 10 (List.drop 23 hostOps0_4)), StableHlo.after_append (List.take 1 (List.drop 33 hostOps0_4)), StableHlo.after_append (List.take 10 (List.drop 34 hostOps0_4)), StableHlo.after_append (List.take 1 (List.drop 44 hostOps0_4))]
  rw [host_zeros, host_v43, host_v35, host_v37, host_v40, host_v42, host_v23', host_v23, host_angles, host_line, host_place]
  rfl

end Cert.Kernel4Ideal.In

end
-- ==== Proof.In1Value.lean ====
/- The second layer's input projection's results, read at one element, and that they are the reference's. -/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.In1Tables
public import Idealize.ShloMosaic.Lib.Pipeline.ValueKit
public import Idealize.ShloMosaic.Lib.Pipeline.Covers

@[expose] public section

set_option maxRecDepth 16384
set_option Elab.async false

noncomputable section

namespace Cert.Kernel4Ideal.In

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- What the tile reads of its blocks: the whole blocks. -/
theorem tile_blocks (x0 : Vec Ideal S256x2048 .f32) (x1 : Vec Ideal S1x2048 .f32) (x2 x3 : Vec Ideal S1x1x2048 .f32) (x4 : Vec Ideal S2048x4608 .bf16) (x5 x6 : Vec Ideal S256x128 .f32) :
    k0_pay47 (F := Ideal) x0 x1 x2 x3 x4 x5 x6 = k0_pay5 (F := Ideal) x0 x1 x3 x2 x4 := by
  show k0_pay5 (F := Ideal) (View.ld x0 r0_0) (View.ld x1 r0_1) (View.ld x3 r0_2) (View.ld x2 r0_2) (View.ld x4 r0_3) = _
  rw [View.ld_unit_lit _ x0 (by decide), View.ld_unit_lit _ x1 (by decide), View.ld_unit_lit _ x2 (by decide), View.ld_unit_lit _ x3 (by decide), View.ld_unit_lit _ x4 (by decide)]
/-- The cosines the tile takes are its block of the table; -/
theorem tile_cosines (x0 : Vec Ideal S256x2048 .f32) (x1 : Vec Ideal S1x2048 .f32) (x2 x3 : Vec Ideal S1x1x2048 .f32) (x4 : Vec Ideal S2048x4608 .bf16) (x5 x6 : Vec Ideal S256x128 .f32) (r : Fin 256) (e : Fin 128) :
    k0_pay48 (F := Ideal) x0 x1 x2 x3 x4 x5 x6 (ix2 r e) = x5 (ix2 r e) := by
  show k0_pay6 (F := Ideal) (View.ld x5 r0_4) (ix2 r e) = _
  rw [View.ld_unit_lit _ x5 (by decide)]
  pointwise [k0_pay6]
/-- so are the sines. -/
theorem tile_sines (x0 : Vec Ideal S256x2048 .f32) (x1 : Vec Ideal S1x2048 .f32) (x2 x3 : Vec Ideal S1x1x2048 .f32) (x4 : Vec Ideal S2048x4608 .bf16) (x5 x6 : Vec Ideal S256x128 .f32) (r : Fin 256) (e : Fin 128) :
    k0_pay49 (F := Ideal) x0 x1 x2 x3 x4 x5 x6 (ix2 r e) = x6 (ix2 r e) := by
  show k0_pay7 (F := Ideal) (View.ld x6 r0_4) (ix2 r e) = _
  rw [View.ld_unit_lit _ x6 (by decide)]
  pointwise [k0_pay7]

/-- The places of the blocks: the rows', -/
theorem index_0 : ∀ t : Fin cfg0.N, win0_0.index t = ![t.val, 0] := (by decide +kernel : ∀ t : Fin grid0.N, _)
/-- the norm's, -/
theorem index_1 : ∀ t : Fin cfg0.N, win0_1.index t = ![0, 0] := (by decide +kernel : ∀ t : Fin grid0.N, _)
/-- the shift's, -/
theorem index_2 : ∀ t : Fin cfg0.N, win0_2.index t = ![if t.val % 9 = 0 then 24 else t.val / 9 * 6, 0, 0] := (by decide +kernel : ∀ t : Fin grid0.N, _)
/-- the scale's, -/
theorem index_3 : ∀ t : Fin cfg0.N, win0_3.index t = ![if t.val % 9 = 0 then 25 else t.val / 9 * 6 + 1, 0, 0] := (by decide +kernel : ∀ t : Fin grid0.N, _)
/-- the weights', -/
theorem index_4 : ∀ t : Fin cfg0.N, win0_4.index t = ![0, 0] := (by decide +kernel : ∀ t : Fin grid0.N, _)
/-- the tables', -/
theorem index_5 : ∀ t : Fin cfg0.N, win0_5.index t = ![t.val % 9, 0] := (by decide +kernel : ∀ t : Fin grid0.N, _)
/-- the sines' too, -/
theorem index_6 : ∀ t : Fin cfg0.N, win0_6.index t = ![t.val % 9, 0] := (by decide +kernel : ∀ t : Fin grid0.N, _)
/-- and those of the six results: the first's, -/
theorem index_7 : ∀ t : Fin cfg0.N, win0_7.index t = ![t.val, 0] := (by decide +kernel : ∀ t : Fin grid0.N, _)
/-- the second's, -/
theorem index_8 : ∀ t : Fin cfg0.N, win0_8.index t = ![t.val, 0] := (by decide +kernel : ∀ t : Fin grid0.N, _)
/-- the third's, -/
theorem index_9 : ∀ t : Fin cfg0.N, win0_9.index t = ![t.val, 0] := (by decide +kernel : ∀ t : Fin grid0.N, _)
/-- the fourth's, -/
theorem index_10 : ∀ t : Fin cfg0.N, win0_10.index t = ![t.val, 0] := (by decide +kernel : ∀ t : Fin grid0.N, _)
/-- the fifth's, -/
theorem index_11 : ∀ t : Fin cfg0.N, win0_11.index t = ![t.val, 0] := (by decide +kernel : ∀ t : Fin grid0.N, _)
/-- the sixth's. -/
theorem index_12 : ∀ t : Fin cfg0.N, win0_12.index t = ![t.val, 0] := (by decide +kernel : ∀ t : Fin grid0.N, _)

/-- The row of the modulation that is number `k` for a row of the stream: the context's in the first 256 places of a sample, the sample's in the others. -/
def side (k : Fin 6) (r : Fin 9216) : Fin 48 := if r.val % 2304 < 256 then ⟨24 + k, by omega⟩ else ⟨r.val / 2304 * 6 + k, by omega⟩

/-- A modulated row of the stream. -/
def row (r : Fin 9216) : Fin 2048 → EReal :=
  Cert.modulated (fun k => m ((c : Thread nD τ).loc main_arg0) (ix2 r k))
    (fun k => m ((c : Thread nD τ).loc main_arg1) (ix1 k)) (fun k => m ((c : Thread nD τ).loc main_arg2) (ix3 (side 1 r) 0 k))
    (fun k => m ((c : Thread nD τ).loc main_arg2) (ix3 (side 0 r) 0 k))

/-- Its projection on a column of the weights. -/
def proj (r : Fin 9216) (e : Fin 4608) : EReal := ∑ d : Fin 2048, row m c r d * (show EReal from m ((c : Thread nD τ).loc main_arg3) (ix2 d e))

/-- What the blocks hold, read at one element: the rows', -/
theorem blk0_at (t : Fin cfg0.N) (y : Fin 256) (d : Fin 2048) (r : Fin 9216) (hr : r.val = t.val * 256 + y.val) :
    iblk m c 0 t (ix2 y d) = m ((c : Thread nD τ).loc main_arg0) (ix2 r d) := by
  blk_simp [iblk]
  refine (congrFun (V_main_arg0 m c) _).trans (congrArg (m ((c : Thread nD τ).loc main_arg0)) (funext fun a => Fin.ext ?_))
  match a with
  | ⟨0, _⟩ => blk_simp [index_0]; show t.val * 256 + y.val = r.val; omega
  | ⟨1, _⟩ => blk_simp [index_0]

/-- the norm's, -/
theorem blk1_at (t : Fin cfg0.N) (d : Fin 2048) : iblk m c 1 t (ix2 0 d) = m ((c : Thread nD τ).loc main_arg1) (ix1 d) := by
  blk_simp [iblk]
  refine (congrFun (V_norm m c) _).trans ?_
  have e : ((win0_1.blk t).view.emb (ix2 (0 : Fin 1) d : S1x2048.Idx) : S1x2048.Idx) = ix2 0 d := funext fun a => Fin.ext (by
    match a with
    | ⟨0, _⟩ => blk_simp [index_1]
    | ⟨1, _⟩ => blk_simp [index_1])
  refine (congrArg _ e).trans ?_
  generalize m ((c : Thread nD τ).loc main_arg1) = s
  revert s
  intro (s : FVec Ideal S2048 .f32)
  show shapeCast S1x2048 s shapeCasts_S2048_S1x2048 _ = s _
  pointwise []

/-- the shift's, -/
theorem blk2_at (t : Fin cfg0.N) (d : Fin 2048) (y : Fin 256) (r : Fin 9216) (hr : r.val = t.val * 256 + y.val) :
    iblk m c 2 t (ix3 0 0 d) = m ((c : Thread nD τ).loc main_arg2) (ix3 (side 0 r) 0 d) := by
  blk_simp [iblk]
  refine (congrFun (V_main_arg2 m c) _).trans (congrArg (m ((c : Thread nD τ).loc main_arg2)) (funext fun a => Fin.ext ?_))
  match a with
  | ⟨0, _⟩ =>
    blk_simp [index_2]
    show (if t.val % 9 = 0 then 24 else t.val / 9 * 6) + 0 = (side 0 r).val
    unfold side
    by_cases h : r.val % 2304 < 256
    · rw [if_pos h, if_pos (by omega)]; rfl
    · rw [if_neg h, if_neg (by omega)]; show _ = r.val / 2304 * 6 + 0; omega
  | ⟨1, _⟩ => blk_simp [index_2]
  | ⟨2, _⟩ => blk_simp [index_2]

/-- the scale's, -/
theorem blk3_at (t : Fin cfg0.N) (d : Fin 2048) (y : Fin 256) (r : Fin 9216) (hr : r.val = t.val * 256 + y.val) :
    iblk m c 3 t (ix3 0 0 d) = m ((c : Thread nD τ).loc main_arg2) (ix3 (side 1 r) 0 d) := by
  blk_simp [iblk]
  refine (congrFun (V_main_arg2 m c) _).trans (congrArg (m ((c : Thread nD τ).loc main_arg2)) (funext fun a => Fin.ext ?_))
  match a with
  | ⟨0, _⟩ =>
    blk_simp [index_3]
    show (if t.val % 9 = 0 then 25 else t.val / 9 * 6 + 1) + 0 = (side 1 r).val
    unfold side
    by_cases h : r.val % 2304 < 256
    · rw [if_pos h, if_pos (by omega)]; rfl
    · rw [if_neg h, if_neg (by omega)]; show _ = r.val / 2304 * 6 + 1; omega
  | ⟨1, _⟩ => blk_simp [index_3]
  | ⟨2, _⟩ => blk_simp [index_3]

/-- the weights', -/
theorem blk4_at (t : Fin cfg0.N) (d : Fin 2048) (e : Fin 4608) : iblk m c 4 t (ix2 d e) = (show EReal from m ((c : Thread nD τ).loc main_arg3) (ix2 d e)) := by
  blk_simp [iblk]
  refine (congrFun (V_weights m c) _).trans ?_
  refine congrArg (fun i => (m ((c : Thread nD τ).loc main_arg3) : FVec Ideal S2048x4608 .f32) i) (funext fun a => Fin.ext ?_)
  match a with
  | ⟨0, _⟩ => blk_simp [index_4]
  | ⟨1, _⟩ => blk_simp [index_4]

/-- and the tables'. -/
theorem blk5_at (t : Fin cfg0.N) (y : Fin 256) (e : Fin 128) (r : Fin 9216) (hr : r.val = t.val * 256 + y.val) :
    iblk m c 5 t (ix2 y e) = cosines Cert.Reference4Ideal.In.angles (ix2 ⟨r % 2304, by omega⟩ e) := by
  blk_simp [iblk]
  refine (congrFun (V_cosines m c) _).trans (congrArg (cosines _) (funext fun a => Fin.ext ?_))
  match a with
  | ⟨0, _⟩ => blk_simp [index_5]; show t.val % 9 * 256 + y.val = r.val % 2304; omega
  | ⟨1, _⟩ => blk_simp [index_5]
/-- The sines' block. -/
theorem blk6_at (t : Fin cfg0.N) (y : Fin 256) (e : Fin 128) (r : Fin 9216) (hr : r.val = t.val * 256 + y.val) :
    iblk m c 6 t (ix2 y e) = sines Cert.Reference4Ideal.In.angles (ix2 ⟨r % 2304, by omega⟩ e) := by
  blk_simp [iblk]
  refine (congrFun (V_sines m c) _).trans (congrArg (sines _) (funext fun a => Fin.ext ?_))
  match a with
  | ⟨0, _⟩ => blk_simp [index_6]; show t.val % 9 * 256 + y.val = r.val % 2304; omega
  | ⟨1, _⟩ => blk_simp [index_6]

/-- A tile's projection is that of its rows. -/
theorem tile_eq (t : Fin cfg0.N) (y : Fin 256) (e : Fin 4608) (r : Fin 9216) (hr : r.val = t.val * 256 + y.val) :
    k0_pay47 (F := Ideal) (iblk m c 0 t) (iblk m c 1 t) (iblk m c 2 t) (iblk m c 3 t) (iblk m c 4 t) (iblk m c 5 t) (iblk m c 6 t) (ix2 y e) = proj m c r e := by
  rw [tile_blocks]
  refine (tile_at _ _ _ _ _ y e).trans (Finset.sum_congr rfl fun d _ => congrArg₂ (· * ·) ?_ (blk4_at m c t d e))
  exact congr (congr (congr (congr (congrArg Cert.modulated (funext fun k => blk0_at m c t y k r hr)) (funext fun k => blk1_at m c t k))
    (funext fun k => blk3_at m c t k y r hr)) (funext fun k => blk2_at m c t k y r hr)) rfl

/-- A column of the turned queries, -/
def query (r : Fin 9216) (e : Fin 1024) : EReal :=
  turned ⟨r % 2304, by omega⟩ (fun k => proj m c r ⟨e / 128 * 128 + k, by omega⟩ * Ideal.ofBits .f32 0x3E0293EE#32) ⟨e % 128, by omega⟩
/-- and of the turned keys. -/
def key (r : Fin 9216) (e : Fin 256) : EReal :=
  turned ⟨r % 2304, by omega⟩ (fun k => proj m c r ⟨1024 + e / 128 * 128 + k, by omega⟩) ⟨e % 128, by omega⟩

/-- The six results: the turned queries, -/
def end7 : FVec Ideal S9216x1024 .bf16 := fun i => query m c (i 0) (i 1)
/-- the turned keys, -/
def end8 : FVec Ideal S9216x256 .bf16 := fun i => key m c (i 0) (i 1)
/-- the values of the first attention, -/
def end9 : FVec Ideal S9216x256 .bf16 := fun i => proj m c (i 0) ⟨1280 + (i 1).val, Nat.lt_of_lt_of_le (Nat.add_lt_add_left (i 1).isLt 1280) (by decide)⟩
/-- the second attention's scaled queries, -/
def end10 : FVec Ideal S9216x1024 .bf16 := fun i => proj m c (i 0) ⟨1536 + (i 1).val, Nat.lt_of_lt_of_le (Nat.add_lt_add_left (i 1).isLt 1536) (by decide)⟩ * Ideal.ofBits .f32 0x3E0293EE#32
/-- its keys -/
def end11 : FVec Ideal S9216x1024 .bf16 := fun i => proj m c (i 0) ⟨2560 + (i 1).val, Nat.lt_of_lt_of_le (Nat.add_lt_add_left (i 1).isLt 2560) (by decide)⟩
/-- and its values. -/
def end12 : FVec Ideal S9216x1024 .bf16 := fun i => proj m c (i 0) ⟨3584 + (i 1).val, Nat.lt_of_lt_of_le (Nat.add_lt_add_left (i 1).isLt 3584) (by decide)⟩

/-- A head of the tile's queries, turned, is that of its rows. -/
theorem query_eq (t : Fin cfg0.N) (o : Nat) (ho : o % 128 = 0) (hs : S256x4608.Slices ![0, o] S256x128) (y : Fin 256) (k : Fin 128) (r : Fin 9216) (e : Fin 1024)
    (hr : r.val = t.val * 256 + y.val) (he : e.val = o + k.val) :
    head (queries o hs (k0_pay47 (F := Ideal) (iblk m c 0 t) (iblk m c 1 t) (iblk m c 2 t) (iblk m c 3 t) (iblk m c 4 t) (iblk m c 5 t) (iblk m c 6 t)))
      (k0_pay48 (F := Ideal) (iblk m c 0 t) (iblk m c 1 t) (iblk m c 2 t) (iblk m c 3 t) (iblk m c 4 t) (iblk m c 5 t) (iblk m c 6 t))
      (k0_pay49 (F := Ideal) (iblk m c 0 t) (iblk m c 1 t) (iblk m c 2 t) (iblk m c 3 t) (iblk m c 4 t) (iblk m c 5 t) (iblk m c 6 t)) (ix2 y k) = query m c r e := by
  have hz : ∀ a : Fin 128, queries o hs (k0_pay47 (F := Ideal) (iblk m c 0 t) (iblk m c 1 t) (iblk m c 2 t) (iblk m c 3 t) (iblk m c 4 t) (iblk m c 5 t) (iblk m c 6 t)) (ix2 y a)
      = (fun a : Fin 128 => proj m c r ⟨e / 128 * 128 + a, by omega⟩ * Ideal.ofBits .f32 0x3E0293EE#32) a := fun a =>
    (queries_at o hs _ y a ⟨e / 128 * 128 + a, by omega⟩ (by show e.val / 128 * 128 + a.val = o + a.val; omega)).trans (congrArg (· * _) (tile_eq m c t y _ r hr))
  refine (head_at _ _ _ y k).trans ?_
  rw [hz, hz, hz, tile_cosines, tile_sines]
  refine (turned_of ⟨r % 2304, by omega⟩ (fun a : Fin 128 => proj m c r ⟨e / 128 * 128 + a, by omega⟩ * Ideal.ofBits .f32 0x3E0293EE#32) k _ _ (blk5_at m c t y k r hr) (blk6_at m c t y k r hr)).trans ?_
  unfold query
  exact congrArg _ (Fin.ext (by show k.val = e.val % 128; omega))

/-- So is a head of its keys. -/
theorem key_eq (t : Fin cfg0.N) (o : Nat) (ho : o % 128 = 0) (hs : S256x4608.Slices ![0, 1024 + o] S256x128) (y : Fin 256) (k : Fin 128) (r : Fin 9216) (e : Fin 256)
    (hr : r.val = t.val * 256 + y.val) (he : e.val = o + k.val) :
    head (keys (1024 + o) hs (k0_pay47 (F := Ideal) (iblk m c 0 t) (iblk m c 1 t) (iblk m c 2 t) (iblk m c 3 t) (iblk m c 4 t) (iblk m c 5 t) (iblk m c 6 t)))
      (k0_pay48 (F := Ideal) (iblk m c 0 t) (iblk m c 1 t) (iblk m c 2 t) (iblk m c 3 t) (iblk m c 4 t) (iblk m c 5 t) (iblk m c 6 t))
      (k0_pay49 (F := Ideal) (iblk m c 0 t) (iblk m c 1 t) (iblk m c 2 t) (iblk m c 3 t) (iblk m c 4 t) (iblk m c 5 t) (iblk m c 6 t)) (ix2 y k) = key m c r e := by
  have hz : ∀ a : Fin 128, keys (1024 + o) hs (k0_pay47 (F := Ideal) (iblk m c 0 t) (iblk m c 1 t) (iblk m c 2 t) (iblk m c 3 t) (iblk m c 4 t) (iblk m c 5 t) (iblk m c 6 t)) (ix2 y a)
      = (fun a : Fin 128 => proj m c r ⟨1024 + e / 128 * 128 + a, by omega⟩) a := fun a =>
    (keys_at (1024 + o) hs _ y a ⟨1024 + e / 128 * 128 + a, by omega⟩ (by show 1024 + e.val / 128 * 128 + a.val = 1024 + o + a.val; omega)).trans (tile_eq m c t y _ r hr)
  refine (head_at _ _ _ y k).trans ?_
  rw [hz, hz, hz, tile_cosines, tile_sines]
  refine (turned_of ⟨r % 2304, by omega⟩ (fun a : Fin 128 => proj m c r ⟨1024 + e / 128 * 128 + a, by omega⟩) k _ _ (blk5_at m c t y k r hr) (blk6_at m c t y k r hr)).trans ?_
  unfold key
  exact congrArg _ (Fin.ext (by show k.val = e.val % 128; omega))

/-- A piece of the first result's block: a head of the queries. -/
theorem query_piece (t : Fin cfg0.N) (o : Nat) (ho : o % 128 = 0) (hs : S256x4608.Slices ![0, o] S256x128) (x : S256x128.Idx) (y : S256x1024.Idx)
    (h0 : (y 0).val = (x 0).val) (h1 : (y 1).val = o + (x 1).val) :
    head (queries o hs (k0_pay47 (F := Ideal) (iblk m c 0 t) (iblk m c 1 t) (iblk m c 2 t) (iblk m c 3 t) (iblk m c 4 t) (iblk m c 5 t) (iblk m c 6 t)))
      (k0_pay48 (F := Ideal) (iblk m c 0 t) (iblk m c 1 t) (iblk m c 2 t) (iblk m c 3 t) (iblk m c 4 t) (iblk m c 5 t) (iblk m c 6 t))
      (k0_pay49 (F := Ideal) (iblk m c 0 t) (iblk m c 1 t) (iblk m c 2 t) (iblk m c 3 t) (iblk m c 4 t) (iblk m c 5 t) (iblk m c 6 t)) x
      = end7 m c ((win0_7.blk t).view.emb y) := by
  have hx : x = ix2 (x 0) (x 1) := by funext a; match a with | ⟨0, _⟩ => rfl | ⟨1, _⟩ => rfl
  refine (congrArg _ hx).trans (query_eq m c t o ho hs (x 0) (x 1) ((win0_7.blk t).view.emb y 0) ((win0_7.blk t).view.emb y 1) ?_ ?_)
  · refine Eq.trans ?_ (congrArg (t.val * 256 + ·) h0)
    blk_simp [index_7]
  · refine Eq.trans ?_ h1
    blk_simp [index_7]

/-- A piece of the second's: a head of the keys. -/
theorem key_piece (t : Fin cfg0.N) (o : Nat) (ho : o % 128 = 0) (hs : S256x4608.Slices ![0, 1024 + o] S256x128) (x : S256x128.Idx) (y : S256x256.Idx)
    (h0 : (y 0).val = (x 0).val) (h1 : (y 1).val = o + (x 1).val) :
    head (keys (1024 + o) hs (k0_pay47 (F := Ideal) (iblk m c 0 t) (iblk m c 1 t) (iblk m c 2 t) (iblk m c 3 t) (iblk m c 4 t) (iblk m c 5 t) (iblk m c 6 t)))
      (k0_pay48 (F := Ideal) (iblk m c 0 t) (iblk m c 1 t) (iblk m c 2 t) (iblk m c 3 t) (iblk m c 4 t) (iblk m c 5 t) (iblk m c 6 t))
      (k0_pay49 (F := Ideal) (iblk m c 0 t) (iblk m c 1 t) (iblk m c 2 t) (iblk m c 3 t) (iblk m c 4 t) (iblk m c 5 t) (iblk m c 6 t)) x
      = end8 m c ((win0_8.blk t).view.emb y) := by
  have hx : x = ix2 (x 0) (x 1) := by funext a; match a with | ⟨0, _⟩ => rfl | ⟨1, _⟩ => rfl
  refine (congrArg _ hx).trans (key_eq m c t o ho hs (x 0) (x 1) ((win0_8.blk t).view.emb y 0) ((win0_8.blk t).view.emb y 1) ?_ ?_)
  · refine Eq.trans ?_ (congrArg (t.val * 256 + ·) h0)
    blk_simp [index_8]
  · refine Eq.trans ?_ h1
    blk_simp [index_8]

/-- The first result after the run, -/
theorem arr_eq7 : (dats m 0 c).arrAt 7 cfg0.N = end7 m c := by
  refine (dats m 0 c).arrAt_eq_of_covers 7 _ (by decide +kernel) fun t _ y => ?_
  blk_simp
  rw [after0_7]
  canon_tiles x h
  · exact query_piece m c t 896 (by decide) slices_S256x4608_o0_896_S256x128 x y h0 h1
  · exact query_piece m c t 768 (by decide) slices_S256x4608_o0_768_S256x128 x y h0 h1
  · exact query_piece m c t 640 (by decide) slices_S256x4608_o0_640_S256x128 x y h0 h1
  · exact query_piece m c t 512 (by decide) slices_S256x4608_o0_512_S256x128 x y h0 h1
  · exact query_piece m c t 384 (by decide) slices_S256x4608_o0_384_S256x128 x y h0 h1
  · exact query_piece m c t 256 (by decide) slices_S256x4608_o0_256_S256x128 x y h0 h1
  · exact query_piece m c t 128 (by decide) slices_S256x4608_o0_128_S256x128 x y h0 h1
  · exact query_piece m c t 0 (by decide) slices_S256x4608_o0_0_S256x128 x y h0 (h1.trans (Nat.zero_add _).symm)

/-- the second, -/
theorem arr_eq8 : (dats m 0 c).arrAt 8 cfg0.N = end8 m c := by
  refine (dats m 0 c).arrAt_eq_of_covers 8 _ (by decide +kernel) fun t _ y => ?_
  blk_simp
  rw [after0_8]
  canon_tiles x h
  · exact key_piece m c t 128 (by decide) slices_S256x4608_o0_1152_S256x128 x y h0 h1
  · exact key_piece m c t 0 (by decide) slices_S256x4608_o0_1024_S256x128 x y h0 (h1.trans (Nat.zero_add _).symm)

/-- the third, -/
theorem arr_eq9 : (dats m 0 c).arrAt 9 cfg0.N = end9 m c := by
  refine (dats m 0 c).arrAt_eq_of_covers 9 _ (by decide +kernel) fun t _ y => ?_
  blk_simp
  rw [after0_9]
  frame_out
  have hy : y = ix2 (y 0) (y 1) := by funext a; match a with | ⟨0, _⟩ => rfl | ⟨1, _⟩ => rfl
  refine (congrArg _ hy).trans ((store9_at _ (y 0) (y 1)).trans ((tile_eq m c t (y 0) _ ((win0_9.blk t).view.emb y 0) ?_).trans ?_))
  · blk_simp [index_9]
  · unfold end9
    refine congrArg (proj m c _) (Fin.ext ?_)
    blk_simp [index_9]

/-- the fourth, -/
theorem arr_eq10 : (dats m 0 c).arrAt 10 cfg0.N = end10 m c := by
  refine (dats m 0 c).arrAt_eq_of_covers 10 _ (by decide +kernel) fun t _ y => ?_
  blk_simp
  rw [after0_10]
  frame_out
  have hy : y = ix2 (y 0) (y 1) := by funext a; match a with | ⟨0, _⟩ => rfl | ⟨1, _⟩ => rfl
  refine (congrArg _ hy).trans ((store10_at _ (y 0) (y 1)).trans (congrArg (· * Ideal.ofBits .f32 0x3E0293EE#32) ((tile_eq m c t (y 0) _ ((win0_10.blk t).view.emb y 0) ?_).trans ?_)))
  · blk_simp [index_10]
  · refine congrArg (proj m c _) (Fin.ext ?_)
    blk_simp [index_10]

/-- the fifth -/
theorem arr_eq11 : (dats m 0 c).arrAt 11 cfg0.N = end11 m c := by
  refine (dats m 0 c).arrAt_eq_of_covers 11 _ (by decide +kernel) fun t _ y => ?_
  blk_simp
  rw [after0_11]
  frame_out
  have hy : y = ix2 (y 0) (y 1) := by funext a; match a with | ⟨0, _⟩ => rfl | ⟨1, _⟩ => rfl
  refine (congrArg _ hy).trans ((store11_at _ (y 0) (y 1)).trans ((tile_eq m c t (y 0) _ ((win0_11.blk t).view.emb y 0) ?_).trans ?_))
  · blk_simp [index_11]
  · unfold end11
    refine congrArg (proj m c _) (Fin.ext ?_)
    blk_simp [index_11]

/-- and the sixth. -/
theorem arr_eq12 : (dats m 0 c).arrAt 12 cfg0.N = end12 m c := by
  refine (dats m 0 c).arrAt_eq_of_covers 12 _ (by decide +kernel) fun t _ y => ?_
  blk_simp
  rw [after0_12]
  frame_out
  have hy : y = ix2 (y 0) (y 1) := by funext a; match a with | ⟨0, _⟩ => rfl | ⟨1, _⟩ => rfl
  refine (congrArg _ hy).trans ((store12_at _ (y 0) (y 1)).trans ((tile_eq m c t (y 0) _ ((win0_12.blk t).view.emb y 0) ?_).trans ?_))
  · blk_simp [index_12]
  · unfold end12
    refine congrArg (proj m c _) (Fin.ext ?_)
    blk_simp [index_12]

section
variable (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = m ((c.tc : Thread nD τ).loc main_arg0))
    (h1 : m' ((c.tc : Thread Cert.Reference4Ideal.nD Cert.Reference4Ideal.τ).loc Cert.Reference4Ideal.main_arg1) = m ((c.tc : Thread nD τ).loc main_arg1))
    (h2 : m' ((c.tc : Thread Cert.Reference4Ideal.nD Cert.Reference4Ideal.τ).loc Cert.Reference4Ideal.main_arg2) = m ((c.tc : Thread nD τ).loc main_arg2))
    (h3 : m' ((c.tc : Thread Cert.Reference4Ideal.nD Cert.Reference4Ideal.τ).loc Cert.Reference4Ideal.main_arg3) = m ((c.tc : Thread nD τ).loc main_arg3))
include h0 h1 h2 h3

/-- The reference's projection of a row is that row's. -/
theorem whole_at (r : Fin 9216) (e : Fin 4608) :
    Cert.Reference4Ideal.In.whole m' c (ix3 ⟨r / 2304, by omega⟩ ⟨r % 2304, by omega⟩ e) = proj m c r e := by
  unfold Cert.Reference4Ideal.In.whole
  rw [h0, h1, h2, h3]
  refine (Cert.Reference4Ideal.In.projected_at _ _ _ _ e).trans (Finset.sum_congr rfl fun d _ => congrArg₂ (· * ·) ?_ rfl)
  refine (Cert.Reference3Ideal.In.stream_at _ _ _ _ _ _ d).trans ?_
  unfold row
  refine congr (congr (congr (congr (congrArg Cert.modulated (funext fun k => ?_)) rfl) (funext fun k => ?_)) (funext fun k => ?_)) rfl
  · generalize m ((c : Thread nD τ).loc main_arg0) = s
    revert s
    intro (s : FVec Ideal S9216x2048 .f32)
    show shapeCast Cert.Reference4Ideal.S4x2304x2048 s _ (ix3 _ _ k) = s _
    pointwise []
  · refine (Cert.Reference3Ideal.In.scale_at _ _ _ k).trans ?_
    unfold side
    by_cases h : r.val % 2304 < 256
    · rw [if_pos h, if_pos h]; rfl
    · rw [if_neg h, if_neg h]; rfl
  · refine (Cert.Reference3Ideal.In.shift_at _ _ _ k).trans ?_
    unfold side
    by_cases h : r.val % 2304 < 256
    · rw [if_pos h, if_pos h]; rfl
    · rw [if_neg h, if_neg h]; rfl

/-- The first result is the reference's, -/
theorem result7 : Cert.Reference4Ideal.In.out0 (Cert.Reference4Ideal.In.whole m' c) = end7 m c := by
  funext i
  have hi : i = ix2 (i 0) (i 1) := by funext a; match a with | ⟨0, _⟩ => rfl | ⟨1, _⟩ => rfl
  refine (congrArg _ hi).trans ((Cert.Reference4Ideal.In.out0_at _ (i 0) (i 1)).trans ((Cert.Reference4Ideal.In.turned8_at _ _ _ _ _ _).trans ?_))
  unfold end7 query
  refine congrArg (fun z => turned _ z _) (funext fun k => ?_)
  exact (Cert.Reference4Ideal.In.heads8_at _ _ _ _ k).trans (congrArg (· * _) (whole_at m c m' h0 h1 h2 h3 (i 0) _))

/-- the second, -/
theorem result8 : Cert.Reference4Ideal.In.out1 (Cert.Reference4Ideal.In.whole m' c) = end8 m c := by
  funext i
  have hi : i = ix2 (i 0) (i 1) := by funext a; match a with | ⟨0, _⟩ => rfl | ⟨1, _⟩ => rfl
  refine (congrArg _ hi).trans ((Cert.Reference4Ideal.In.out1_at _ (i 0) (i 1)).trans ((Cert.Reference4Ideal.In.turned2_at _ _ _ _ _ _).trans ?_))
  unfold end8 key
  refine congrArg (fun z => turned _ z _) (funext fun k => ?_)
  refine (Cert.Reference4Ideal.In.heads2_at _ _ _ _ k).trans ((whole_at m c m' h0 h1 h2 h3 (i 0) _).trans ?_)
  exact congrArg (proj m c _) (Fin.ext (Nat.add_assoc _ _ _).symm)

/-- the third, -/
theorem result9 : Cert.Reference4Ideal.In.out2 (Cert.Reference4Ideal.In.whole m' c) = end9 m c := by
  funext i
  have hi : i = ix2 (i 0) (i 1) := by funext a; match a with | ⟨0, _⟩ => rfl | ⟨1, _⟩ => rfl
  exact (congrArg _ hi).trans ((Cert.Reference4Ideal.In.out2_at _ (i 0) (i 1)).trans (whole_at m c m' h0 h1 h2 h3 (i 0) _))

/-- the fourth, -/
theorem result10 : Cert.Reference4Ideal.In.out3 (Cert.Reference4Ideal.In.whole m' c) = end10 m c := by
  funext i
  have hi : i = ix2 (i 0) (i 1) := by funext a; match a with | ⟨0, _⟩ => rfl | ⟨1, _⟩ => rfl
  exact (congrArg _ hi).trans ((Cert.Reference4Ideal.In.out3_at _ (i 0) (i 1)).trans (congrArg (· * _) (whole_at m c m' h0 h1 h2 h3 (i 0) _)))

/-- the fifth -/
theorem result11 : Cert.Reference4Ideal.In.out4 (Cert.Reference4Ideal.In.whole m' c) = end11 m c := by
  funext i
  have hi : i = ix2 (i 0) (i 1) := by funext a; match a with | ⟨0, _⟩ => rfl | ⟨1, _⟩ => rfl
  exact (congrArg _ hi).trans ((Cert.Reference4Ideal.In.out4_at _ (i 0) (i 1)).trans (whole_at m c m' h0 h1 h2 h3 (i 0) _))

/-- and the sixth. -/
theorem result12 : Cert.Reference4Ideal.In.out5 (Cert.Reference4Ideal.In.whole m' c) = end12 m c := by
  funext i
  have hi : i = ix2 (i 0) (i 1) := by funext a; match a with | ⟨0, _⟩ => rfl | ⟨1, _⟩ => rfl
  exact (congrArg _ hi).trans ((Cert.Reference4Ideal.In.out5_at _ (i 0) (i 1)).trans (whole_at m c m' h0 h1 h2 h3 (i 0) _))

end

end Cert.Kernel4Ideal.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_routed
public import proofs.«01_k».proof.Proof.Gen.Pre_placed
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.ExpertsValue
public import proofs.«01_k».proof.Proof.CombineValue
public import proofs.«01_k».proof.Proof.InValue
public import proofs.«01_k».proof.Proof.In1Value
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_routed.Gen.facts
attribute [local instance] Cert.Kernel2.Gen.facts Cert.Kernel2Ideal.Gen.facts Cert.Reference2Ideal.Gen.facts Cert.Pre_placed.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts

/-- The experts' kernel terminates without a fault on a routing plan in range, and leaves its arguments and every counter as they were. -/
theorem frame_kernel : Cert.quiescent_Kernel := fun m g hp =>
  (θ_run _ _ _).mono (fun r h => ⟨fun c => (h.1 c).2, h.2⟩) (Cert.Kernel.Rows.run_result m (Cert.Kernel.Rows.routed_of_pre m hp) g)

/-- So does its text read over the extended reals. -/
theorem frame_ideal : Cert.quiescent_KernelIdeal := fun m g hp =>
  (θ_run _ _ _).mono (fun r h => ⟨fun c => (h.1 c).2, h.2⟩) (Cert.Kernel.Rows.run_ideal m (Cert.Kernel.Rows.routed_of_pre (F := Ideal) m hp) g)

/-- Its reference terminates, and leaves its arguments and every counter as they were. -/
theorem frame_reference : Cert.quiescent_ReferenceIdeal := by
  intro m g _
  exact (θ_run _ _ _).mono (fun r h => ⟨fun c => (h c).2, sem_eq_zero_of_no_sems (by decide) r.2⟩) (Cert.ReferenceIdeal.Value.run m g)

/-- Over the extended reals the kernel's result is the reference's, on every routing plan in range. -/
theorem algebraic : Cert.algebraic_KernelIdeal_ReferenceIdeal := by
  intro m g m' g' hp hagree
  have hr : Cert.Kernel.Rows.Routed (F := Ideal) m := Cert.Kernel.Rows.routed_of_pre (F := Ideal) m hp
  refine ⟨fun c => (Cert.Kernel.Rows.dats m hr 0 c).arrAt 3 (Cert.Kernel.Rows.cfgA m hr).N, (θ_run _ _ _).mono (fun r h => h.1) (Cert.Kernel.Rows.run_ideal m hr g), ?_⟩
  refine (θ_run _ _ _).mono (fun r h c => ?_) (Cert.ReferenceIdeal.Value.run m' g')
  obtain ⟨h0, h1, h2, h3, h4, h5, h6⟩ := hagree c
  exact ⟨(h c).1.trans (Cert.Kernel.Rows.result_eq m hr c m' h0 h1 h2 h3 h4 h5 h6), (h c).2⟩

/-- The combining kernel terminates without a fault on places in range, and leaves its arguments and every counter as they were. -/
theorem frame_kernel2 : Cert.quiescent_Kernel2 := fun m g hp =>
  (θ_run _ _ _).mono (fun r h => ⟨fun c => (h.1 c).2, h.2⟩) (Cert.Kernel2.Rows.run_result m (Cert.Kernel2.Rows.placed_of_pre m hp) g)

/-- So does its text read over the extended reals. -/
theorem frame_ideal2 : Cert.quiescent_Kernel2Ideal := fun m g hp =>
  (θ_run _ _ _).mono (fun r h => ⟨fun c => (h.1 c).2, h.2⟩) (Cert.Kernel2.Rows.run_ideal m (Cert.Kernel2.Rows.placed_of_pre (F := Ideal) m hp) g)

/-- Its reference terminates, and leaves its arguments and every counter as they were. -/
theorem frame_reference2 : Cert.quiescent_Reference2Ideal := by
  intro m g _
  exact (θ_run _ _ _).mono (fun r h => ⟨fun c => (h c).2, sem_eq_zero_of_no_sems (by decide) r.2⟩) (Cert.Reference2Ideal.Value.run m g)

/-- Over the extended reals the combining kernel's result is its reference's, on all places in range. -/
theorem algebraic2 : Cert.algebraic_Kernel2Ideal_Reference2Ideal := by
  intro m g m' g' hp hagree
  have hr : Cert.Kernel2.Rows.Placed (F := Ideal) m := Cert.Kernel2.Rows.placed_of_pre (F := Ideal) m hp
  refine ⟨fun c => (Cert.Kernel2.Rows.dats m hr 0 c).arrAt 4 (Cert.Kernel2.Rows.cfgA m).N, (θ_run _ _ _).mono (fun r h => h.1) (Cert.Kernel2.Rows.run_ideal m hr g), ?_⟩
  refine (θ_run _ _ _).mono (fun r h c => ?_) (Cert.Reference2Ideal.Value.run m' g')
  obtain ⟨h0, h1, h2, h3, h4, h5⟩ := hagree c
  exact ⟨(h c).1.trans (Cert.Kernel2.Rows.result_eq m hr c m' h0 h1 h2 h3 h4 h5), (h c).2⟩

/-- The first layer's input projection terminates without a fault, and leaves its arguments and every counter as they were. -/
theorem frame_kernel3 : Cert.quiescent_Kernel3 := fun m g _ => Cert.Kernel3.Gen.frame m g

/-- So does its text read over the extended reals. -/
theorem frame_ideal3 : Cert.quiescent_Kernel3Ideal := fun m g _ => Cert.Kernel3Ideal.Gen.frame m g

/-- Its reference terminates, and leaves its arguments and every counter as they were. -/
theorem frame_reference3 : Cert.quiescent_Reference3Ideal := by
  intro m g _
  exact (θ_run _ _ _).mono (fun r h => ⟨fun c => (h c).2, sem_eq_zero_of_no_sems (by decide) r.2⟩) (Cert.Reference3Ideal.In.run m g)

/-- Over the extended reals the first layer's input projection's three results are its reference's. -/
theorem algebraic3 : Cert.algebraic_Kernel3Ideal_Reference3Ideal := by
  intro m g m' g' hp hagree
  refine ⟨fun c => Cert.Kernel3Ideal.In.end5 m c, fun c => Cert.Kernel3Ideal.In.end6 m c, fun c => Cert.Kernel3Ideal.In.end7 m c, ?_, ?_⟩
  · refine (θ_run _ _ _).mono (fun r h c => ?_) (θ_run_and (Cert.Kernel3Ideal.Gen.run_main m g) (Cert.Kernel3Ideal.Gen.frame m g))
    exact ⟨((h.1 c).1 5).trans (Cert.Kernel3Ideal.In.arr_eq5 m c), ((h.1 c).1 6).trans (Cert.Kernel3Ideal.In.arr_eq6 m c),
      ((h.1 c).1 7).trans (Cert.Kernel3Ideal.In.arr_eq7 m c), h.2.1 c⟩
  · refine (θ_run _ _ _).mono (fun r h c => ?_) (Cert.Reference3Ideal.In.run m' g')
    obtain ⟨h0, h1, h2, h3, h4⟩ := hagree c
    exact ⟨(h c).1.1.trans (Cert.Kernel3Ideal.In.result5 m c m' h0 h1 h2 h3 h4), (h c).1.2.1.trans (Cert.Kernel3Ideal.In.result6 m c m' h0 h1 h2 h3 h4),
      (h c).1.2.2.trans (Cert.Kernel3Ideal.In.result7 m c m' h0 h1 h2 h3 h4), (h c).2⟩

/-- The second layer's input projection terminates without a fault, and leaves its arguments and every counter as they were. -/
theorem frame_kernel4 : Cert.quiescent_Kernel4 := fun m g _ => Cert.Kernel4.Gen.frame m g

/-- So does its text read over the extended reals. -/
theorem frame_ideal4 : Cert.quiescent_Kernel4Ideal := fun m g _ => Cert.Kernel4Ideal.Gen.frame m g

/-- Its reference terminates, and leaves its arguments and every counter as they were. -/
theorem frame_reference4 : Cert.quiescent_Reference4Ideal := by
  intro m g _
  exact (θ_run _ _ _).mono (fun r h => ⟨fun c => (h c).2, sem_eq_zero_of_no_sems (by decide) r.2⟩) (Cert.Reference4Ideal.In.run m g)

set_option maxHeartbeats 4000000 in
/-- Over the extended reals the second layer's input projection's six results are its reference's. -/
theorem algebraic4 : Cert.algebraic_Kernel4Ideal_Reference4Ideal := by
  intro m g m' g' hp hagree
  refine ⟨fun c => Cert.Kernel4Ideal.In.end7 m c, fun c => Cert.Kernel4Ideal.In.end8 m c, fun c => Cert.Kernel4Ideal.In.end9 m c,
    fun c => Cert.Kernel4Ideal.In.end10 m c, fun c => Cert.Kernel4Ideal.In.end11 m c, fun c => Cert.Kernel4Ideal.In.end12 m c, ?_, ?_⟩
  · refine (θ_run _ _ _).mono (fun r h c => ?_) (θ_run_and (Cert.Kernel4Ideal.Gen.run_main m g) (Cert.Kernel4Ideal.Gen.frame m g))
    exact ⟨((h.1 c).1 7).trans (Cert.Kernel4Ideal.In.arr_eq7 m c), ((h.1 c).1 8).trans (Cert.Kernel4Ideal.In.arr_eq8 m c),
      ((h.1 c).1 9).trans (Cert.Kernel4Ideal.In.arr_eq9 m c), ((h.1 c).1 10).trans (Cert.Kernel4Ideal.In.arr_eq10 m c),
      ((h.1 c).1 11).trans (Cert.Kernel4Ideal.In.arr_eq11 m c), ((h.1 c).1 12).trans (Cert.Kernel4Ideal.In.arr_eq12 m c), h.2.1 c⟩
  · refine (θ_run _ _ _).mono (fun r h c => ?_) (Cert.Reference4Ideal.In.run m' g')
    obtain ⟨h0, h1, h2, h3⟩ := hagree c
    obtain ⟨⟨r0, r1, r2, r3, r4, r5⟩, ra⟩ := h c
    exact ⟨r0.trans (Cert.Kernel4Ideal.In.result7 m c m' h0 h1 h2 h3), r1.trans (Cert.Kernel4Ideal.In.result8 m c m' h0 h1 h2 h3),
      r2.trans (Cert.Kernel4Ideal.In.result9 m c m' h0 h1 h2 h3), r3.trans (Cert.Kernel4Ideal.In.result10 m c m' h0 h1 h2 h3),
      r4.trans (Cert.Kernel4Ideal.In.result11 m c m' h0 h1 h2 h3), r5.trans (Cert.Kernel4Ideal.In.result12 m c m' h0 h1 h2 h3), ra⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_routed.Gen.facts, Cert.Pre_placed.Gen.facts,
  frame_kernel, frame_ideal, frame_reference, fun m g _ => frame_reference m g trivial,
  frame_kernel2, frame_ideal2, frame_reference2, fun m g _ => frame_reference2 m g trivial,
  frame_kernel3, frame_ideal3, frame_reference3,
  frame_kernel4, frame_ideal4, frame_reference4,
  trivial, algebraic, trivial, algebraic2, trivial, algebraic3, trivial, algebraic4⟩

end Cert.Proof

end
